-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v585) = v0 c
          ∧ r.2.mem ((c.tc : Thread Cert.ReferenceIdeal.nD Cert.ReferenceIdeal.τ).loc Cert.ReferenceIdeal.main_v642) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_proper_boxes : Cert.Pre_proper_boxes.Facts),
    quiescent_Kernel (hKernel := hKernel)
    ∧ quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ preserves_Kernel_KernelIdeal
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S131072x6 : Shape := ⟨2, ![131072, 6]⟩
abbrev S131072x1 : Shape := ⟨2, ![131072, 1]⟩
abbrev S131072 : Shape := ⟨1, ![131072]⟩
abbrev S_ : Shape := ⟨0, ![]⟩
abbrev S131072x4 : Shape := ⟨2, ![131072, 4]⟩
abbrev S131072x4x1 : Shape := ⟨3, ![131072, 4, 1]⟩
abbrev S131072x1x4 : Shape := ⟨3, ![131072, 1, 4]⟩
abbrev S131072x4x4 : Shape := ⟨3, ![131072, 4, 4]⟩

class Facts : Prop where
  slices_S131072x6_S131072x1_0_0 : S131072x6.Slices ![0, 0] S131072x1
  shapeCasts_S131072x1_S131072 : S131072x1.ShapeCasts S131072
  slices_S131072x6_S131072x1_0_1 : S131072x6.Slices ![0, 1] S131072x1
  slices_S131072x6_S131072x1_0_2 : S131072x6.Slices ![0, 2] S131072x1
  slices_S131072x6_S131072x1_0_3 : S131072x6.Slices ![0, 3] S131072x1
  slices_S131072x6_S131072x1_0_4 : S131072x6.Slices ![0, 4] S131072x1
  slices_S131072x6_S131072x1_0_5 : S131072x6.Slices ![0, 5] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x1_S131072x4_d1 : Shape.Concatenates [S131072x1, S131072x1, S131072x1, S131072x1] S131072x4 1
  bcast_S131072x4_S131072x4x1_0_1 : S131072x4.BroadcastsInDim S131072x4x1 (![0, 1] : Fin 2 → Fin S131072x4x1.rank)
  bcast_S131072x4_S131072x1x4_0_2 : S131072x4.BroadcastsInDim S131072x1x4 (![0, 2] : Fin 2 → Fin S131072x1x4.rank)
  bcast_S131072x4x1_S131072x4x4_0_1_2 : S131072x4x1.BroadcastsInDim S131072x4x4 (![0, 1, 2] : Fin 3 → Fin S131072x4x4.rank)
  bcast_S131072x1x4_S131072x4x4_0_1_2 : S131072x1x4.BroadcastsInDim S131072x4x4 (![0, 1, 2] : Fin 3 → Fin S131072x4x4.rank)
  bcast_S_S131072x4x4 : S_.BroadcastsInDim S131072x4x4 (![] : Fin 0 → Fin S131072x4x4.rank)
  reducesTo_S131072x4x4_S131072_d1_2 : S131072x4x4.ReducesTo [1, 2] S131072
  h_S_ : 0 < S_.numel
  bcast_S_S131072x6 : S_.BroadcastsInDim S131072x6 (![] : Fin 0 → Fin S131072x6.rank)
  reducesTo_S131072x6_S131072_d1 : S131072x6.ReducesTo [1] S131072

variable [Facts]

def fn_part9 {F : FTy → Type} [FloatOps F] (main_v140 : IVec S131072 1) (main_v170 : IVec S131072 1) (main_v195 : IVec S131072 1) (main_v196 : FVec F S131072x6 .f32) (main_v197 : FVec F S131072x6 .f32) : IVec S131072 1 :=
  let main_v198 : IVec S131072x6 1 := cmpf .olt main_v196 main_v197
  let main_c_16 : IVec S_ 1 := constantI S_ 1 1#1
  let main_v199 : IVec S131072 1 := (fun x v => Host.reduce IntOp.andi x v reducesTo_S131072x6_S131072_d1 h_S_) main_v198 main_c_16
  let main_v200 : IVec S131072 1 := andi main_v195 main_v199
  let main_v201 : IVec S131072 1 := andi main_v170 main_v200
  let main_v202 : IVec S131072 1 := andi main_v201 main_v140
  main_v202

def fn_part8 {F : FTy → Type} [FloatOps F] (main_arg1 : FVec F S131072x6 .f32) (main_v140 : IVec S131072 1) (main_v170 : IVec S131072 1) (main_v172 : FVec F S131072 .f32) (main_v174 : FVec F S131072 .f32) (main_v176 : FVec F S131072 .f32) (main_v178 : FVec F S131072 .f32) : IVec S131072 1 :=
  let main_v179 : FVec F S131072 .f32 := mulf main_v172 main_v174
  let main_cst_11 : FVec F S_ .f32 := constant S_ .f32 0x358637BD#32
  let main_v180 : FVec F S131072 .f32 := broadcastInDim S131072 ![] bcast_S_S131072 main_cst_11
  let main_v181 : IVec S131072 1 := cmpf .ogt main_v179 main_v180
  let main_v182 : FVec F S131072 .f32 := mulf main_v172 main_v172
  let main_cst_12 : FVec F S_ .f32 := constant S_ .f32 0x2B8CBCCC#32
  let main_v183 : FVec F S131072 .f32 := broadcastInDim S131072 ![] bcast_S_S131072 main_cst_12
  let main_v184 : IVec S131072 1 := cmpf .ogt main_v182 main_v183
  let main_v185 : IVec S131072 1 := andi main_v181 main_v184
  let main_v186 : FVec F S131072 .f32 := mulf main_v174 main_v174
  let main_cst_13 : FVec F S_ .f32 := constant S_ .f32 0x2B8CBCCC#32
  let main_v187 : FVec F S131072 .f32 := broadcastInDim S131072 ![] bcast_S_S131072 main_cst_13
  let main_v188 : IVec S131072 1 := cmpf .ogt main_v186 main_v187
  let main_v189 : IVec S131072 1 := andi main_v185 main_v188
  let main_v190 : FVec F S131072 .f32 := mulf main_v176 main_v176
  let main_v191 : FVec F S131072 .f32 := mulf main_v178 main_v178
  let main_v192 : FVec F S131072 .f32 := addf main_v190 main_v191
  let main_cst_14 : FVec F S_ .f32 := constant S_ .f32 0x00000000#32
  let main_v193 : FVec F S131072 .f32 := broadcastInDim S131072 ![] bcast_S_S131072 main_cst_14
  let main_v194 : IVec S131072 1 := cmpf .ogt main_v192 main_v193
  let main_v195 : IVec S131072 1 := andi main_v189 main_v194
  let main_v196 : FVec F S131072x6 .f32 := Host.absf main_arg1
  let main_cst_15 : FVec F S_ .f32 := constant S_ .f32 0x7F800000#32
  let main_v197 : FVec F S131072x6 .f32 := broadcastInDim S131072x6 ![] bcast_S_S131072x6 main_cst_15
  fn_part9 (F := F) main_v140 main_v170 main_v195 main_v196 main_v197

def fn_part7 {F : FTy → Type} [FloatOps F] (main_arg0 : FVec F S131072x6 .f32) (main_arg1 : FVec F S131072x6 .f32) (main_v140 : IVec S131072 1) (main_v146 : FVec F S131072 .f32) (main_v148 : FVec F S131072 .f32) (main_v155 : IVec S131072 1) (main_v156 : FVec F S131072 .f32) (main_v157 : FVec F S131072 .f32) : IVec S131072 1 :=
  let main_v158 : IVec S131072 1 := cmpf .ogt main_v156 main_v157
  let main_v159 : IVec S131072 1 := andi main_v155 main_v158
  let main_v160 : FVec F S131072 .f32 := mulf main_v146 main_v146
  let main_v161 : FVec F S131072 .f32 := mulf main_v148 main_v148
  let main_v162 : FVec F S131072 .f32 := addf main_v160 main_v161
  let main_cst_8 : FVec F S_ .f32 := constant S_ .f32 0x00000000#32
  let main_v163 : FVec F S131072 .f32 := broadcastInDim S131072 ![] bcast_S_S131072 main_cst_8
  let main_v164 : IVec S131072 1 := cmpf .ogt main_v162 main_v163
  let main_v165 : IVec S131072 1 := andi main_v159 main_v164
  let main_v166 : FVec F S131072x6 .f32 := Host.absf main_arg0
  let main_cst_9 : FVec F S_ .f32 := constant S_ .f32 0x7F800000#32
  let main_v167 : FVec F S131072x6 .f32 := broadcastInDim S131072x6 ![] bcast_S_S131072x6 main_cst_9
  let main_v168 : IVec S131072x6 1 := cmpf .olt main_v166 main_v167
  let main_c_10 : IVec S_ 1 := constantI S_ 1 1#1
  let main_v169 : IVec S131072 1 := (fun x v => Host.reduce IntOp.andi x v reducesTo_S131072x6_S131072_d1 h_S_) main_v168 main_c_10
  let main_v170 : IVec S131072 1 := andi main_v165 main_v169
  let main_v171 : FVec F S131072x1 .f32 := (extractStridedSlice S131072x1 ![0, 2] · slices_S131072x6_S131072x1_0_2) main_arg1
  let main_v172 : FVec F S131072 .f32 := shapeCast S131072 main_v171 shapeCasts_S131072x1_S131072
  let main_v173 : FVec F S131072x1 .f32 := (extractStridedSlice S131072x1 ![0, 3] · slices_S131072x6_S131072x1_0_3) main_arg1
  let main_v174 : FVec F S131072 .f32 := shapeCast S131072 main_v173 shapeCasts_S131072x1_S131072
  let main_v175 : FVec F S131072x1 .f32 := (extractStridedSlice S131072x1 ![0, 4] · slices_S131072x6_S131072x1_0_4) main_arg1
  let main_v176 : FVec F S131072 .f32 := shapeCast S131072 main_v175 shapeCasts_S131072x1_S131072
  let main_v177 : FVec F S131072x1 .f32 := (extractStridedSlice S131072x1 ![0, 5] · slices_S131072x6_S131072x1_0_5) main_arg1
  let main_v178 : FVec F S131072 .f32 := shapeCast S131072 main_v177 shapeCasts_S131072x1_S131072
  fn_part8 (F := F) main_arg1 main_v140 main_v170 main_v172 main_v174 main_v176 main_v178

def fn_part6 {F : FTy → Type} [FloatOps F] (main_arg0 : FVec F S131072x6 .f32) (main_arg1 : FVec F S131072x6 .f32) (main_v134 : FVec F S131072x4x4 .f32) (main_v136 : IVec S131072x4x4 1) (main_v137 : FVec F S131072x4x4 .f32) : IVec S131072 1 :=
  let main_v138 : IVec S131072x4x4 1 := cmpf .oeq main_v134 main_v137
  let main_v139 : IVec S131072x4x4 1 := ori main_v136 main_v138
  let main_c : IVec S_ 1 := constantI S_ 1 1#1
  let main_v140 : IVec S131072 1 := (fun x v => Host.reduce IntOp.andi x v reducesTo_S131072x4x4_S131072_d1_2 h_S_) main_v139 main_c
  let main_v141 : FVec F S131072x1 .f32 := (extractStridedSlice S131072x1 ![0, 2] · slices_S131072x6_S131072x1_0_2) main_arg0
  let main_v142 : FVec F S131072 .f32 := shapeCast S131072 main_v141 shapeCasts_S131072x1_S131072
  let main_v143 : FVec F S131072x1 .f32 := (extractStridedSlice S131072x1 ![0, 3] · slices_S131072x6_S131072x1_0_3) main_arg0
  let main_v144 : FVec F S131072 .f32 := shapeCast S131072 main_v143 shapeCasts_S131072x1_S131072
  let main_v145 : FVec F S131072x1 .f32 := (extractStridedSlice S131072x1 ![0, 4] · slices_S131072x6_S131072x1_0_4) main_arg0
  let main_v146 : FVec F S131072 .f32 := shapeCast S131072 main_v145 shapeCasts_S131072x1_S131072
  let main_v147 : FVec F S131072x1 .f32 := (extractStridedSlice S131072x1 ![0, 5] · slices_S131072x6_S131072x1_0_5) main_arg0
  let main_v148 : FVec F S131072 .f32 := shapeCast S131072 main_v147 shapeCasts_S131072x1_S131072
  let main_v149 : FVec F S131072 .f32 := mulf main_v142 main_v144
  let main_cst_5 : FVec F S_ .f32 := constant S_ .f32 0x358637BD#32
  let main_v150 : FVec F S131072 .f32 := broadcastInDim S131072 ![] bcast_S_S131072 main_cst_5
  let main_v151 : IVec S131072 1 := cmpf .ogt main_v149 main_v150
  let main_v152 : FVec F S131072 .f32 := mulf main_v142 main_v142
  let main_cst_6 : FVec F S_ .f32 := constant S_ .f32 0x2B8CBCCC#32
  let main_v153 : FVec F S131072 .f32 := broadcastInDim S131072 ![] bcast_S_S131072 main_cst_6
  let main_v154 : IVec S131072 1 := cmpf .ogt main_v152 main_v153
  let main_v155 : IVec S131072 1 := andi main_v151 main_v154
  let main_v156 : FVec F S131072 .f32 := mulf main_v144 main_v144
  let main_cst_7 : FVec F S_ .f32 := constant S_ .f32 0x2B8CBCCC#32
  let main_v157 : FVec F S131072 .f32 := broadcastInDim S131072 ![] bcast_S_S131072 main_cst_7
  fn_part7 (F := F) main_arg0 main_arg1 main_v140 main_v146 main_v148 main_v155 main_v156 main_v157

def fn_part5 {F : FTy → Type} [FloatOps F] (main_arg0 : FVec F S131072x6 .f32) (main_arg1 : FVec F S131072x6 .f32) (main_v39 : FVec F S131072x4 .f32) (main_v60 : FVec F S131072x4 .f32) (main_v100 : FVec F S131072x4 .f32) (main_v104 : FVec F S131072 .f32) (main_v108 : FVec F S131072 .f32) (main_v112 : FVec F S131072 .f32) (main_v114 : FVec F S131072 .f32) (main_v115 : FVec F S131072 .f32) : IVec S131072 1 :=
  let main_v116 : FVec F S131072 .f32 := addf main_v114 main_v115
  let main_v117 : FVec F S131072x1 .f32 := broadcastInDim S131072x1 ![0] bcast_S131072_S131072x1_0 main_v104
  let main_v118 : FVec F S131072x1 .f32 := broadcastInDim S131072x1 ![0] bcast_S131072_S131072x1_0 main_v108
  let main_v119 : FVec F S131072x1 .f32 := broadcastInDim S131072x1 ![0] bcast_S131072_S131072x1_0 main_v112
  let main_v120 : FVec F S131072x1 .f32 := broadcastInDim S131072x1 ![0] bcast_S131072_S131072x1_0 main_v116
  let main_v121 : FVec F S131072x4 .f32 := concatenate S131072x4 1 [⟨S131072x1, main_v117⟩, ⟨S131072x1, main_v118⟩, ⟨S131072x1, main_v119⟩, ⟨S131072x1, main_v120⟩] concatenates_S131072x1_S131072x1_S131072x1_S131072x1_S131072x4_d1
  let main_v122 : FVec F S131072x4x1 .f32 := broadcastInDim S131072x4x1 ![0, 1] bcast_S131072x4_S131072x4x1_0_1 main_v39
  let main_v123 : FVec F S131072x1x4 .f32 := broadcastInDim S131072x1x4 ![0, 2] bcast_S131072x4_S131072x1x4_0_2 main_v100
  let main_v124 : FVec F S131072x4x4 .f32 := broadcastInDim S131072x4x4 ![0, 1, 2] bcast_S131072x4x1_S131072x4x4_0_1_2 main_v122
  let main_v125 : FVec F S131072x4x4 .f32 := broadcastInDim S131072x4x4 ![0, 1, 2] bcast_S131072x1x4_S131072x4x4_0_1_2 main_v123
  let main_v126 : FVec F S131072x4x4 .f32 := subf main_v124 main_v125
  let main_v127 : FVec F S131072x4x1 .f32 := broadcastInDim S131072x4x1 ![0, 1] bcast_S131072x4_S131072x4x1_0_1 main_v60
  let main_v128 : FVec F S131072x1x4 .f32 := broadcastInDim S131072x1x4 ![0, 2] bcast_S131072x4_S131072x1x4_0_2 main_v121
  let main_v129 : FVec F S131072x4x4 .f32 := broadcastInDim S131072x4x4 ![0, 1, 2] bcast_S131072x4x1_S131072x4x4_0_1_2 main_v127
  let main_v130 : FVec F S131072x4x4 .f32 := broadcastInDim S131072x4x4 ![0, 1, 2] bcast_S131072x1x4_S131072x4x4_0_1_2 main_v128
  let main_v131 : FVec F S131072x4x4 .f32 := subf main_v129 main_v130
  let main_v132 : FVec F S131072x4x4 .f32 := mulf main_v126 main_v126
  let main_v133 : FVec F S131072x4x4 .f32 := mulf main_v131 main_v131
  let main_v134 : FVec F S131072x4x4 .f32 := addf main_v132 main_v133
  let main_cst_3 : FVec F S_ .f32 := constant S_ .f32 0x2B8CBCCC#32
  let main_v135 : FVec F S131072x4x4 .f32 := broadcastInDim S131072x4x4 ![] bcast_S_S131072x4x4 main_cst_3
  let main_v136 : IVec S131072x4x4 1 := cmpf .ogt main_v134 main_v135
  let main_cst_4 : FVec F S_ .f32 := constant S_ .f32 0x00000000#32
  let main_v137 : FVec F S131072x4x4 .f32 := broadcastInDim S131072x4x4 ![] bcast_S_S131072x4x4 main_cst_4
  fn_part6 (F := F) main_arg0 main_arg1 main_v134 main_v136 main_v137

def fn_part4 {F : FTy → Type} [FloatOps F] (main_arg0 : FVec F S131072x6 .f32) (main_arg1 : FVec F S131072x6 .f32) (main_v39 : FVec F S131072x4 .f32) (main_v60 : FVec F S131072x4 .f32) (main_v62 : FVec F S131072 .f32) (main_v64 : FVec F S131072 .f32) (main_v74 : FVec F S131072 .f32) (main_v75 : FVec F S131072 .f32) (main_v77 : FVec F S131072 .f32) (main_v79 : FVec F S131072 .f32) (main_v83 : FVec F S131072 .f32) (main_v87 : FVec F S131072 .f32) (main_v91 : FVec F S131072 .f32) : IVec S131072 1 :=
  let main_v92 : FVec F S131072 .f32 := mulf main_v77 main_v74
  let main_v93 : FVec F S131072 .f32 := addf main_v62 main_v92
  let main_v94 : FVec F S131072 .f32 := mulf main_v79 main_v75
  let main_v95 : FVec F S131072 .f32 := subf main_v93 main_v94
  let main_v96 : FVec F S131072x1 .f32 := broadcastInDim S131072x1 ![0] bcast_S131072_S131072x1_0 main_v83
  let main_v97 : FVec F S131072x1 .f32 := broadcastInDim S131072x1 ![0] bcast_S131072_S131072x1_0 main_v87
  let main_v98 : FVec F S131072x1 .f32 := broadcastInDim S131072x1 ![0] bcast_S131072_S131072x1_0 main_v91
  let main_v99 : FVec F S131072x1 .f32 := broadcastInDim S131072x1 ![0] bcast_S131072_S131072x1_0 main_v95
  let main_v100 : FVec F S131072x4 .f32 := concatenate S131072x4 1 [⟨S131072x1, main_v96⟩, ⟨S131072x1, main_v97⟩, ⟨S131072x1, main_v98⟩, ⟨S131072x1, main_v99⟩] concatenates_S131072x1_S131072x1_S131072x1_S131072x1_S131072x4_d1
  let main_v101 : FVec F S131072 .f32 := mulf main_v77 main_v75
  let main_v102 : FVec F S131072 .f32 := subf main_v64 main_v101
  let main_v103 : FVec F S131072 .f32 := mulf main_v79 main_v74
  let main_v104 : FVec F S131072 .f32 := addf main_v102 main_v103
  let main_v105 : FVec F S131072 .f32 := mulf main_v77 main_v75
  let main_v106 : FVec F S131072 .f32 := subf main_v64 main_v105
  let main_v107 : FVec F S131072 .f32 := mulf main_v79 main_v74
  let main_v108 : FVec F S131072 .f32 := subf main_v106 main_v107
  let main_v109 : FVec F S131072 .f32 := mulf main_v77 main_v75
  let main_v110 : FVec F S131072 .f32 := addf main_v64 main_v109
  let main_v111 : FVec F S131072 .f32 := mulf main_v79 main_v74
  let main_v112 : FVec F S131072 .f32 := subf main_v110 main_v111
  let main_v113 : FVec F S131072 .f32 := mulf main_v77 main_v75
  let main_v114 : FVec F S131072 .f32 := addf main_v64 main_v113
  let main_v115 : FVec F S131072 .f32 := mulf main_v79 main_v74
  fn_part5 (F := F) main_arg0 main_arg1 main_v39 main_v60 main_v100 main_v104 main_v108 main_v112 main_v114 main_v115

def fn_part3 {F : FTy → Type} [FloatOps F] (main_arg0 : FVec F S131072x6 .f32) (main_arg1 : FVec F S131072x6 .f32) (main_v39 : FVec F S131072x4 .f32) (main_v60 : FVec F S131072x4 .f32) (main_v62 : FVec F S131072 .f32) (main_v64 : FVec F S131072 .f32) (main_v66 : FVec F S131072 .f32) (main_v68 : FVec F S131072 .f32) (main_v69 : FVec F S131072x1 .f32) : IVec S131072 1 :=
  let main_v70 : FVec F S131072 .f32 := shapeCast S131072 main_v69 shapeCasts_S131072x1_S131072
  let main_v71 : FVec F S131072x1 .f32 := (extractStridedSlice S131072x1 ![0, 5] · slices_S131072x6_S131072x1_0_5) main_arg1
  let main_v72 : FVec F S131072 .f32 := shapeCast S131072 main_v71 shapeCasts_S131072x1_S131072
  let main_v73 : FVec F S131072 .f32 := Host.atan2 main_v70 main_v72
  let main_v74 : FVec F S131072 .f32 := Host.cos main_v73
  let main_v75 : FVec F S131072 .f32 := Host.sin main_v73
  let main_cst_1 : FVec F S_ .f32 := constant S_ .f32 0x3F000000#32
  let main_v76 : FVec F S131072 .f32 := broadcastInDim S131072 ![] bcast_S_S131072 main_cst_1
  let main_v77 : FVec F S131072 .f32 := mulf main_v66 main_v76
  let main_cst_2 : FVec F S_ .f32 := constant S_ .f32 0x3F000000#32
  let main_v78 : FVec F S131072 .f32 := broadcastInDim S131072 ![] bcast_S_S131072 main_cst_2
  let main_v79 : FVec F S131072 .f32 := mulf main_v68 main_v78
  let main_v80 : FVec F S131072 .f32 := mulf main_v77 main_v74
  let main_v81 : FVec F S131072 .f32 := subf main_v62 main_v80
  let main_v82 : FVec F S131072 .f32 := mulf main_v79 main_v75
  let main_v83 : FVec F S131072 .f32 := subf main_v81 main_v82
  let main_v84 : FVec F S131072 .f32 := mulf main_v77 main_v74
  let main_v85 : FVec F S131072 .f32 := subf main_v62 main_v84
  let main_v86 : FVec F S131072 .f32 := mulf main_v79 main_v75
  let main_v87 : FVec F S131072 .f32 := addf main_v85 main_v86
  let main_v88 : FVec F S131072 .f32 := mulf main_v77 main_v74
  let main_v89 : FVec F S131072 .f32 := addf main_v62 main_v88
  let main_v90 : FVec F S131072 .f32 := mulf main_v79 main_v75
  let main_v91 : FVec F S131072 .f32 := addf main_v89 main_v90
  fn_part4 (F := F) main_arg0 main_arg1 main_v39 main_v60 main_v62 main_v64 main_v74 main_v75 main_v77 main_v79 main_v83 main_v87 main_v91

def fn_part2 {F : FTy → Type} [FloatOps F] (main_arg0 : FVec F S131072x6 .f32) (main_arg1 : FVec F S131072x6 .f32) (main_v3 : FVec F S131072 .f32) (main_v13 : FVec F S131072 .f32) (main_v14 : FVec F S131072 .f32) (main_v16 : FVec F S131072 .f32) (main_v18 : FVec F S131072 .f32) (main_v39 : FVec F S131072x4 .f32) (main_v43 : FVec F S131072 .f32) (main_v45 : FVec F S131072 .f32) : IVec S131072 1 :=
  let main_v46 : FVec F S131072 .f32 := mulf main_v18 main_v13
  let main_v47 : FVec F S131072 .f32 := subf main_v45 main_v46
  let main_v48 : FVec F S131072 .f32 := mulf main_v16 main_v14
  let main_v49 : FVec F S131072 .f32 := addf main_v3 main_v48
  let main_v50 : FVec F S131072 .f32 := mulf main_v18 main_v13
  let main_v51 : FVec F S131072 .f32 := subf main_v49 main_v50
  let main_v52 : FVec F S131072 .f32 := mulf main_v16 main_v14
  let main_v53 : FVec F S131072 .f32 := addf main_v3 main_v52
  let main_v54 : FVec F S131072 .f32 := mulf main_v18 main_v13
  let main_v55 : FVec F S131072 .f32 := addf main_v53 main_v54
  let main_v56 : FVec F S131072x1 .f32 := broadcastInDim S131072x1 ![0] bcast_S131072_S131072x1_0 main_v43
  let main_v57 : FVec F S131072x1 .f32 := broadcastInDim S131072x1 ![0] bcast_S131072_S131072x1_0 main_v47
  let main_v58 : FVec F S131072x1 .f32 := broadcastInDim S131072x1 ![0] bcast_S131072_S131072x1_0 main_v51
  let main_v59 : FVec F S131072x1 .f32 := broadcastInDim S131072x1 ![0] bcast_S131072_S131072x1_0 main_v55
  let main_v60 : FVec F S131072x4 .f32 := concatenate S131072x4 1 [⟨S131072x1, main_v56⟩, ⟨S131072x1, main_v57⟩, ⟨S131072x1, main_v58⟩, ⟨S131072x1, main_v59⟩] concatenates_S131072x1_S131072x1_S131072x1_S131072x1_S131072x4_d1
  let main_v61 : FVec F S131072x1 .f32 := (extractStridedSlice S131072x1 ![0, 0] · slices_S131072x6_S131072x1_0_0) main_arg1
  let main_v62 : FVec F S131072 .f32 := shapeCast S131072 main_v61 shapeCasts_S131072x1_S131072
  let main_v63 : FVec F S131072x1 .f32 := (extractStridedSlice S131072x1 ![0, 1] · slices_S131072x6_S131072x1_0_1) main_arg1
  let main_v64 : FVec F S131072 .f32 := shapeCast S131072 main_v63 shapeCasts_S131072x1_S131072
  let main_v65 : FVec F S131072x1 .f32 := (extractStridedSlice S131072x1 ![0, 2] · slices_S131072x6_S131072x1_0_2) main_arg1
  let main_v66 : FVec F S131072 .f32 := shapeCast S131072 main_v65 shapeCasts_S131072x1_S131072
  let main_v67 : FVec F S131072x1 .f32 := (extractStridedSlice S131072x1 ![0, 3] · slices_S131072x6_S131072x1_0_3) main_arg1
  let main_v68 : FVec F S131072 .f32 := shapeCast S131072 main_v67 shapeCasts_S131072x1_S131072
  let main_v69 : FVec F S131072x1 .f32 := (extractStridedSlice S131072x1 ![0, 4] · slices_S131072x6_S131072x1_0_4) main_arg1
  fn_part3 (F := F) main_arg0 main_arg1 main_v39 main_v60 main_v62 main_v64 main_v66 main_v68 main_v69

def fn_part1 {F : FTy → Type} [FloatOps F] (main_arg0 : FVec F S131072x6 .f32) (main_arg1 : FVec F S131072x6 .f32) (main_v1 : FVec F S131072 .f32) (main_v3 : FVec F S131072 .f32) (main_v13 : FVec F S131072 .f32) (main_v14 : FVec F S131072 .f32) (main_v16 : FVec F S131072 .f32) (main_v18 : FVec F S131072 .f32) (main_v20 : FVec F S131072 .f32) (main_v21 : FVec F S131072 .f32) : IVec S131072 1 :=
  let main_v22 : FVec F S131072 .f32 := subf main_v20 main_v21
  let main_v23 : FVec F S131072 .f32 := mulf main_v16 main_v13
  let main_v24 : FVec F S131072 .f32 := subf main_v1 main_v23
  let main_v25 : FVec F S131072 .f32 := mulf main_v18 main_v14
  let main_v26 : FVec F S131072 .f32 := addf main_v24 main_v25
  let main_v27 : FVec F S131072 .f32 := mulf main_v16 main_v13
  let main_v28 : FVec F S131072 .f32 := addf main_v1 main_v27
  let main_v29 : FVec F S131072 .f32 := mulf main_v18 main_v14
  let main_v30 : FVec F S131072 .f32 := addf main_v28 main_v29
  let main_v31 : FVec F S131072 .f32 := mulf main_v16 main_v13
  let main_v32 : FVec F S131072 .f32 := addf main_v1 main_v31
  let main_v33 : FVec F S131072 .f32 := mulf main_v18 main_v14
  let main_v34 : FVec F S131072 .f32 := subf main_v32 main_v33
  let main_v35 : FVec F S131072x1 .f32 := broadcastInDim S131072x1 ![0] bcast_S131072_S131072x1_0 main_v22
  let main_v36 : FVec F S131072x1 .f32 := broadcastInDim S131072x1 ![0] bcast_S131072_S131072x1_0 main_v26
  let main_v37 : FVec F S131072x1 .f32 := broadcastInDim S131072x1 ![0] bcast_S131072_S131072x1_0 main_v30
  let main_v38 : FVec F S131072x1 .f32 := broadcastInDim S131072x1 ![0] bcast_S131072_S131072x1_0 main_v34
  let main_v39 : FVec F S131072x4 .f32 := concatenate S131072x4 1 [⟨S131072x1, main_v35⟩, ⟨S131072x1, main_v36⟩, ⟨S131072x1, main_v37⟩, ⟨S131072x1, main_v38⟩] concatenates_S131072x1_S131072x1_S131072x1_S131072x1_S131072x4_d1
  let main_v40 : FVec F S131072 .f32 := mulf main_v16 main_v14
  let main_v41 : FVec F S131072 .f32 := subf main_v3 main_v40
  let main_v42 : FVec F S131072 .f32 := mulf main_v18 main_v13
  let main_v43 : FVec F S131072 .f32 := addf main_v41 main_v42
  let main_v44 : FVec F S131072 .f32 := mulf main_v16 main_v14
  let main_v45 : FVec F S131072 .f32 := subf main_v3 main_v44
  fn_part2 (F := F) main_arg0 main_arg1 main_v3 main_v13 main_v14 main_v16 main_v18 main_v39 main_v43 main_v45

def fn {F : FTy → Type} [FloatOps F] (main_arg0 : FVec F S131072x6 .f32) (main_arg1 : FVec F S131072x6 .f32) : IVec S131072 1 :=
  let main_v0 : FVec F S131072x1 .f32 := (extractStridedSlice S131072x1 ![0, 0] · slices_S131072x6_S131072x1_0_0) main_arg0
  let main_v1 : FVec F S131072 .f32 := shapeCast S131072 main_v0 shapeCasts_S131072x1_S131072
  let main_v2 : FVec F S131072x1 .f32 := (extractStridedSlice S131072x1 ![0, 1] · slices_S131072x6_S131072x1_0_1) main_arg0
  let main_v3 : FVec F S131072 .f32 := shapeCast S131072 main_v2 shapeCasts_S131072x1_S131072
  let main_v4 : FVec F S131072x1 .f32 := (extractStridedSlice S131072x1 ![0, 2] · slices_S131072x6_S131072x1_0_2) main_arg0
  let main_v5 : FVec F S131072 .f32 := shapeCast S131072 main_v4 shapeCasts_S131072x1_S131072
  let main_v6 : FVec F S131072x1 .f32 := (extractStridedSlice S131072x1 ![0, 3] · slices_S131072x6_S131072x1_0_3) main_arg0
  let main_v7 : FVec F S131072 .f32 := shapeCast S131072 main_v6 shapeCasts_S131072x1_S131072
  let main_v8 : FVec F S131072x1 .f32 := (extractStridedSlice S131072x1 ![0, 4] · slices_S131072x6_S131072x1_0_4) main_arg0
  let main_v9 : FVec F S131072 .f32 := shapeCast S131072 main_v8 shapeCasts_S131072x1_S131072
  let main_v10 : FVec F S131072x1 .f32 := (extractStridedSlice S131072x1 ![0, 5] · slices_S131072x6_S131072x1_0_5) main_arg0
  let main_v11 : FVec F S131072 .f32 := shapeCast S131072 main_v10 shapeCasts_S131072x1_S131072
  let main_v12 : FVec F S131072 .f32 := Host.atan2 main_v9 main_v11
  let main_v13 : FVec F S131072 .f32 := Host.cos main_v12
  let main_v14 : FVec F S131072 .f32 := Host.sin main_v12
  let main_cst : FVec F S_ .f32 := constant S_ .f32 0x3F000000#32
  let main_v15 : FVec F S131072 .f32 := broadcastInDim S131072 ![] bcast_S_S131072 main_cst
  let main_v16 : FVec F S131072 .f32 := mulf main_v5 main_v15
  let main_cst_0 : FVec F S_ .f32 := constant S_ .f32 0x3F000000#32
  let main_v17 : FVec F S131072 .f32 := broadcastInDim S131072 ![] bcast_S_S131072 main_cst_0
  let main_v18 : FVec F S131072 .f32 := mulf main_v7 main_v17
  let main_v19 : FVec F S131072 .f32 := mulf main_v16 main_v13
  let main_v20 : FVec F S131072 .f32 := subf main_v1 main_v19
  let main_v21 : FVec F S131072 .f32 := mulf main_v18 main_v14
  fn_part1 (F := F) main_arg0 main_arg1 main_v1 main_v3 main_v13 main_v14 main_v16 main_v18 main_v20 main_v21
-- ==== Kernel.lean ====
abbrev S131072x6 : Shape := ⟨2, ![131072, 6]⟩
abbrev S6x131072 : Shape := ⟨2, ![6, 131072]⟩
abbrev S6x1024x128 : Shape := ⟨3, ![6, 1024, 128]⟩
abbrev S1024x128 : Shape := ⟨2, ![1024, 128]⟩
abbrev S1x1 : Shape := ⟨2, ![1, 1]⟩
abbrev S6x32x128 : Shape := ⟨3, ![6, 32, 128]⟩
abbrev S32x128 : Shape := ⟨2, ![32, 128]⟩
abbrev S1x128 : Shape := ⟨2, ![1, 128]⟩
abbrev S1x32x128 : Shape := ⟨3, ![1, 32, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S131072 : Shape := ⟨1, ![131072]⟩

abbrev nBuf : Space → Nat
  | .hbm => 10
  | .vmem => 8
  | .smem => 0
  | _ => 0

abbrev bufTy : (tb : Table) → Fin (tcTables nBuf tb) → BufTy
  | .hbm, ⟨0, _⟩ => ⟨S131072x6, .f32⟩
  | .hbm, ⟨1, _⟩ => ⟨S131072x6, .f32⟩
  | .hbm, ⟨2, _⟩ => ⟨S6x131072, .f32⟩
  | .hbm, ⟨3, _⟩ => ⟨S6x1024x128, .f32⟩
  | .hbm, ⟨4, _⟩ => ⟨S6x131072, .f32⟩
  | .hbm, ⟨5, _⟩ => ⟨S6x1024x128, .f32⟩
  | .hbm, ⟨6, _⟩ => ⟨S1024x128, .f32⟩
  | .hbm, ⟨7, _⟩ => ⟨S1x1, .f32⟩
  | .hbm, ⟨8, _⟩ => ⟨S131072, .f32⟩
  | .hbm, ⟨9, _⟩ => ⟨S1, .f32⟩
  | .local _ .vmem, ⟨0, _⟩ => ⟨S6x32x128, .f32⟩
  | .local _ .vmem, ⟨1, _⟩ => ⟨S6x32x128, .f32⟩
  | .local _ .vmem, ⟨2, _⟩ => ⟨S6x32x128, .f32⟩
  | .local _ .vmem, ⟨3, _⟩ => ⟨S6x32x128, .f32⟩
  | .local _ .vmem, ⟨4, _⟩ => ⟨S32x128, .f32⟩
  | .local _ .vmem, ⟨5, _⟩ => ⟨S32x128, .f32⟩
  | .local _ .vmem, ⟨6, _⟩ => ⟨S1x1, .f32⟩
  | .local _ .vmem, ⟨7, _⟩ => ⟨S1x128, .f32⟩
  | _, _ => ⟨S131072x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v2843 : BitVec 1 := Scalar.cmpi .eq arg0 c31_i32
  let v2844 : BitVec 32 := Scalar.extui v2843
  let c0_i32_611 : BitVec 32 := 0#32
  let v2845 : BitVec 1 := Scalar.cmpi .ne v2844 c0_i32_611
  v2845

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S131072x6 : Shape := ⟨2, ![131072, 6]⟩
abbrev S131072x1 : Shape := ⟨2, ![131072, 1]⟩
abbrev S131072 : Shape := ⟨1, ![131072]⟩
abbrev S_ : Shape := ⟨0, ![]⟩
abbrev S131072x4 : Shape := ⟨2, ![131072, 4]⟩
abbrev S131072x8 : Shape := ⟨2, ![131072, 8]⟩
abbrev S131072x7 : Shape := ⟨2, ![131072, 7]⟩
abbrev S131072x8x1 : Shape := ⟨3, ![131072, 8, 1]⟩
abbrev S131072x8x2 : Shape := ⟨3, ![131072, 8, 2]⟩
abbrev S131072x16 : Shape := ⟨2, ![131072, 16]⟩
abbrev S131072x1x8 : Shape := ⟨3, ![131072, 1, 8]⟩
abbrev S131072x8x8 : Shape := ⟨3, ![131072, 8, 8]⟩
abbrev S131072x8x8x1 : Shape := ⟨4, ![131072, 8, 8, 1]⟩
abbrev S131072x8x1x8 : Shape := ⟨4, ![131072, 8, 1, 8]⟩
abbrev S131072x8x8x8 : Shape := ⟨4, ![131072, 8, 8, 8]⟩
abbrev S1 : Shape := ⟨1, ![1]⟩

abbrev nBuf : Space → Nat
  | .hbm => 772
  | .vmem => 0
  | .smem => 0
  | _ => 0

abbrev hbmTy0_0 (i : Nat) : BufTy := match i % 128 with
  | 0 => ⟨S131072x6, .f32⟩
  | 1 => ⟨S131072x6, .f32⟩
  | 2 => ⟨S131072x1, .f32⟩
  | 3 => ⟨S131072, .f32⟩
  | 4 => ⟨S131072x1, .f32⟩
  | 5 => ⟨S131072, .f32⟩
  | 6 => ⟨S131072x1, .f32⟩
  | 7 => ⟨S131072, .f32⟩
  | 8 => ⟨S131072x1, .f32⟩
  | 9 => ⟨S131072, .f32⟩
  | 10 => ⟨S131072x1, .f32⟩
  | 11 => ⟨S131072, .f32⟩
  | 12 => ⟨S131072x1, .f32⟩
  | 13 => ⟨S131072, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072, .f32⟩
  | 24 => ⟨S131072, .f32⟩
  | 25 => ⟨S131072, .f32⟩
  | 26 => ⟨S131072, .f32⟩
  | 27 => ⟨S131072, .f32⟩
  | 28 => ⟨S131072, .f32⟩
  | 29 => ⟨S131072, .f32⟩
  | 30 => ⟨S131072, .f32⟩
  | 31 => ⟨S131072, .f32⟩
  | 32 => ⟨S131072, .f32⟩
  | 33 => ⟨S131072, .f32⟩
  | 34 => ⟨S131072, .f32⟩
  | 35 => ⟨S131072, .f32⟩
  | 36 => ⟨S131072, .f32⟩
  | 37 => ⟨S131072, .f32⟩
  | 38 => ⟨S131072, .f32⟩
  | 39 => ⟨S131072x1, .f32⟩
  | 40 => ⟨S131072x1, .f32⟩
  | 41 => ⟨S131072x1, .f32⟩
  | 42 => ⟨S131072x1, .f32⟩
  | 43 => ⟨S131072x4, .f32⟩
  | 44 => ⟨S131072, .f32⟩
  | 45 => ⟨S131072, .f32⟩
  | 46 => ⟨S131072, .f32⟩
  | 47 => ⟨S131072, .f32⟩
  | 48 => ⟨S131072, .f32⟩
  | 49 => ⟨S131072, .f32⟩
  | 50 => ⟨S131072, .f32⟩
  | 51 => ⟨S131072, .f32⟩
  | 52 => ⟨S131072, .f32⟩
  | 53 => ⟨S131072, .f32⟩
  | 54 => ⟨S131072, .f32⟩
  | 55 => ⟨S131072, .f32⟩
  | 56 => ⟨S131072, .f32⟩
  | 57 => ⟨S131072, .f32⟩
  | 58 => ⟨S131072, .f32⟩
  | 59 => ⟨S131072, .f32⟩
  | 60 => ⟨S131072x1, .f32⟩
  | 61 => ⟨S131072x1, .f32⟩
  | 62 => ⟨S131072x1, .f32⟩
  | 63 => ⟨S131072x1, .f32⟩
  | 64 => ⟨S131072x4, .f32⟩
  | 65 => ⟨S131072x1, .f32⟩
  | 66 => ⟨S131072, .f32⟩
  | 67 => ⟨S131072x1, .f32⟩
  | 68 => ⟨S131072, .f32⟩
  | 69 => ⟨S131072x1, .f32⟩
  | 70 => ⟨S131072, .f32⟩
  | 71 => ⟨S131072x1, .f32⟩
  | 72 => ⟨S131072, .f32⟩
  | 73 => ⟨S131072x1, .f32⟩
  | 74 => ⟨S131072, .f32⟩
  | 75 => ⟨S131072x1, .f32⟩
  | 76 => ⟨S131072, .f32⟩
  | 77 => ⟨S131072, .f32⟩
  | 78 => ⟨S131072, .f32⟩
  | 79 => ⟨S131072, .f32⟩
  | 80 => ⟨S_, .f32⟩
  | 81 => ⟨S131072, .f32⟩
  | 82 => ⟨S131072, .f32⟩
  | 83 => ⟨S_, .f32⟩
  | 84 => ⟨S131072, .f32⟩
  | 85 => ⟨S131072, .f32⟩
  | 86 => ⟨S131072, .f32⟩
  | 87 => ⟨S131072, .f32⟩
  | 88 => ⟨S131072, .f32⟩
  | 89 => ⟨S131072, .f32⟩
  | 90 => ⟨S131072, .f32⟩
  | 91 => ⟨S131072, .f32⟩
  | 92 => ⟨S131072, .f32⟩
  | 93 => ⟨S131072, .f32⟩
  | 94 => ⟨S131072, .f32⟩
  | 95 => ⟨S131072, .f32⟩
  | 96 => ⟨S131072, .f32⟩
  | 97 => ⟨S131072, .f32⟩
  | 98 => ⟨S131072, .f32⟩
  | 99 => ⟨S131072, .f32⟩
  | 100 => ⟨S131072, .f32⟩
  | 101 => ⟨S131072, .f32⟩
  | 102 => ⟨S131072x1, .f32⟩
  | 103 => ⟨S131072x1, .f32⟩
  | 104 => ⟨S131072x1, .f32⟩
  | 105 => ⟨S131072x1, .f32⟩
  | 106 => ⟨S131072x4, .f32⟩
  | 107 => ⟨S131072, .f32⟩
  | 108 => ⟨S131072, .f32⟩
  | 109 => ⟨S131072, .f32⟩
  | 110 => ⟨S131072, .f32⟩
  | 111 => ⟨S131072, .f32⟩
  | 112 => ⟨S131072, .f32⟩
  | 113 => ⟨S131072, .f32⟩
  | 114 => ⟨S131072, .f32⟩
  | 115 => ⟨S131072, .f32⟩
  | 116 => ⟨S131072, .f32⟩
  | 117 => ⟨S131072, .f32⟩
  | 118 => ⟨S131072, .f32⟩
  | 119 => ⟨S131072, .f32⟩
  | 120 => ⟨S131072, .f32⟩
  | 121 => ⟨S131072, .f32⟩
  | 122 => ⟨S131072, .f32⟩
  | 123 => ⟨S131072x1, .f32⟩
  | 124 => ⟨S131072x1, .f32⟩
  | 125 => ⟨S131072x1, .f32⟩
  | 126 => ⟨S131072x1, .f32⟩
  | 127 => ⟨S131072x4, .f32⟩
  | _ => ⟨S131072x6, .f32⟩

abbrev hbmTy0_1 (i : Nat) : BufTy := match i % 128 with
  | 0 => ⟨S131072x1, .f32⟩
  | 1 => ⟨S131072, .f32⟩
  | 2 => ⟨S131072x1, .f32⟩
  | 3 => ⟨S131072, .f32⟩
  | 4 => ⟨S131072, .f32⟩
  | 5 => ⟨S131072x1, .f32⟩
  | 6 => ⟨S131072, .f32⟩
  | 7 => ⟨S131072x1, .f32⟩
  | 8 => ⟨S131072, .f32⟩
  | 9 => ⟨S131072, .f32⟩
  | 10 => ⟨S_, .f32⟩
  | 11 => ⟨S131072x4, .f32⟩
  | 12 => ⟨S131072x8, .f32⟩
  | 13 => ⟨S131072x8, .f32⟩
  | 14 => ⟨S_, .i32⟩
  | 15 => ⟨S131072, .i32⟩
  | 16 => ⟨S_, .i1⟩
  | 17 => ⟨S131072, .i1⟩
  | 18 => ⟨S131072x8, .i32⟩
  | 19 => ⟨S131072x1, .f32⟩
  | 20 => ⟨S131072, .f32⟩
  | 21 => ⟨S131072x1, .f32⟩
  | 22 => ⟨S131072, .f32⟩
  | 23 => ⟨S131072x1, .f32⟩
  | 24 => ⟨S131072, .f32⟩
  | 25 => ⟨S131072x1, .f32⟩
  | 26 => ⟨S131072, .f32⟩
  | 27 => ⟨S131072, .f32⟩
  | 28 => ⟨S131072x1, .f32⟩
  | 29 => ⟨S131072, .f32⟩
  | 30 => ⟨S131072x1, .f32⟩
  | 31 => ⟨S131072, .f32⟩
  | 32 => ⟨S131072, .f32⟩
  | 33 => ⟨S131072, .f32⟩
  | 34 => ⟨S131072x1, .f32⟩
  | 35 => ⟨S131072x1, .i32⟩
  | 36 => ⟨S131072x8, .i32⟩
  | 37 => ⟨S131072x8, .i1⟩
  | 38 => ⟨S_, .i32⟩
  | 39 => ⟨S131072x8, .i32⟩
  | 40 => ⟨S131072x8, .i32⟩
  | 41 => ⟨S131072x1, .i32⟩
  | 42 => ⟨S131072x8, .i32⟩
  | 43 => ⟨S131072x8, .i1⟩
  | 44 => ⟨S131072x8, .f32⟩
  | 45 => ⟨S131072x8, .f32⟩
  | 46 => ⟨S131072x8, .f32⟩
  | 47 => ⟨S131072x8, .f32⟩
  | 48 => ⟨S131072x8, .f32⟩
  | 49 => ⟨S131072x8, .f32⟩
  | 50 => ⟨S131072x8, .f32⟩
  | 51 => ⟨S131072x1, .f32⟩
  | 52 => ⟨S131072x7, .f32⟩
  | 53 => ⟨S131072x1, .f32⟩
  | 54 => ⟨S131072x8, .f32⟩
  | 55 => ⟨S131072x8, .f32⟩
  | 56 => ⟨S131072x8, .f32⟩
  | 57 => ⟨S131072x1, .f32⟩
  | 58 => ⟨S131072x7, .f32⟩
  | 59 => ⟨S131072x1, .f32⟩
  | 60 => ⟨S131072x8, .f32⟩
  | 61 => ⟨S131072x8, .f32⟩
  | 62 => ⟨S131072x8, .f32⟩
  | 63 => ⟨S131072x1, .f32⟩
  | 64 => ⟨S131072x7, .f32⟩
  | 65 => ⟨S131072x1, .f32⟩
  | 66 => ⟨S131072x8, .f32⟩
  | 67 => ⟨S131072x8, .f32⟩
  | 68 => ⟨S131072x8, .f32⟩
  | 69 => ⟨S_, .f32⟩
  | 70 => ⟨S131072x8, .f32⟩
  | 71 => ⟨S131072x8, .i1⟩
  | 72 => ⟨S131072x8, .i1⟩
  | 73 => ⟨S131072x8, .f32⟩
  | 74 => ⟨S_, .f32⟩
  | 75 => ⟨S131072x8, .f32⟩
  | 76 => ⟨S131072x8, .i1⟩
  | 77 => ⟨S131072x8, .i1⟩
  | 78 => ⟨S131072x8, .f32⟩
  | 79 => ⟨S131072x8, .f32⟩
  | 80 => ⟨S131072x8, .f32⟩
  | 81 => ⟨S131072x8, .f32⟩
  | 82 => ⟨S131072x8, .f32⟩
  | 83 => ⟨S131072x8, .f32⟩
  | 84 => ⟨S131072x8, .f32⟩
  | 85 => ⟨S131072x8, .f32⟩
  | 86 => ⟨S131072x8, .f32⟩
  | 87 => ⟨S131072x8, .f32⟩
  | 88 => ⟨S_, .f32⟩
  | 89 => ⟨S_, .f32⟩
  | 90 => ⟨S131072x8, .f32⟩
  | 91 => ⟨S131072x8, .f32⟩
  | 92 => ⟨S131072x8, .f32⟩
  | 93 => ⟨S131072x8, .f32⟩
  | 94 => ⟨S131072x8, .f32⟩
  | 95 => ⟨S131072x8, .f32⟩
  | 96 => ⟨S131072x8, .f32⟩
  | 97 => ⟨S131072x8, .f32⟩
  | 98 => ⟨S131072x8, .f32⟩
  | 99 => ⟨S131072x8, .f32⟩
  | 100 => ⟨S131072x8, .f32⟩
  | 101 => ⟨S131072x8, .f32⟩
  | 102 => ⟨S131072x8, .f32⟩
  | 103 => ⟨S131072x8, .f32⟩
  | 104 => ⟨S131072x8x1, .f32⟩
  | 105 => ⟨S131072x8x1, .f32⟩
  | 106 => ⟨S131072x8x2, .f32⟩
  | 107 => ⟨S131072x16, .f32⟩
  | 108 => ⟨S131072x8x1, .f32⟩
  | 109 => ⟨S131072x8x1, .f32⟩
  | 110 => ⟨S131072x8x2, .f32⟩
  | 111 => ⟨S131072x16, .f32⟩
  | 112 => ⟨S131072x8x1, .i1⟩
  | 113 => ⟨S131072x8x1, .i1⟩
  | 114 => ⟨S131072x8x2, .i1⟩
  | 115 => ⟨S131072x16, .i1⟩
  | 116 => ⟨S131072x16, .i1⟩
  | 117 => ⟨S131072x16, .i1⟩
  | 118 => ⟨S131072x16, .f32⟩
  | 119 => ⟨S131072x16, .f32⟩
  | 120 => ⟨S131072x16, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i1⟩
  | 127 => ⟨S131072, .i1⟩
  | _ => ⟨S131072x6, .f32⟩

abbrev hbmTy0_2 (i : Nat) : BufTy := match i % 128 with
  | 0 => ⟨S_, .i32⟩
  | 1 => ⟨S131072, .i32⟩
  | 2 => ⟨S131072, .i1⟩
  | 3 => ⟨S131072, .i1⟩
  | 4 => ⟨S131072x1, .i1⟩
  | 5 => ⟨S131072x8, .f32⟩
  | 6 => ⟨S131072x8, .i1⟩
  | 7 => ⟨S131072x8, .f32⟩
  | 8 => ⟨S131072x1, .i1⟩
  | 9 => ⟨S131072x8, .f32⟩
  | 10 => ⟨S131072x8, .i1⟩
  | 11 => ⟨S131072x8, .f32⟩
  | 12 => ⟨S_, .i32⟩
  | 13 => ⟨S131072, .i32⟩
  | 14 => ⟨S131072, .i32⟩
  | 15 => ⟨S131072, .i32⟩
  | 16 => ⟨S_, .i32⟩
  | 17 => ⟨S131072, .i32⟩
  | 18 => ⟨S131072, .i1⟩
  | 19 => ⟨S131072, .i1⟩
  | 20 => ⟨S131072, .i1⟩
  | 21 => ⟨S131072x1, .f32⟩
  | 22 => ⟨S131072, .f32⟩
  | 23 => ⟨S131072x1, .f32⟩
  | 24 => ⟨S131072, .f32⟩
  | 25 => ⟨S131072x1, .f32⟩
  | 26 => ⟨S131072, .f32⟩
  | 27 => ⟨S131072x1, .f32⟩
  | 28 => ⟨S131072, .f32⟩
  | 29 => ⟨S131072, .f32⟩
  | 30 => ⟨S131072x1, .f32⟩
  | 31 => ⟨S131072, .f32⟩
  | 32 => ⟨S131072x1, .f32⟩
  | 33 => ⟨S131072, .f32⟩
  | 34 => ⟨S131072, .f32⟩
  | 35 => ⟨S131072, .f32⟩
  | 36 => ⟨S131072x1, .f32⟩
  | 37 => ⟨S131072x1, .i32⟩
  | 38 => ⟨S131072x8, .i32⟩
  | 39 => ⟨S131072x8, .i1⟩
  | 40 => ⟨S_, .i32⟩
  | 41 => ⟨S131072x8, .i32⟩
  | 42 => ⟨S131072x8, .i32⟩
  | 43 => ⟨S131072x1, .i32⟩
  | 44 => ⟨S131072x8, .i32⟩
  | 45 => ⟨S131072x8, .i1⟩
  | 46 => ⟨S131072x8, .f32⟩
  | 47 => ⟨S131072x8, .f32⟩
  | 48 => ⟨S131072x8, .f32⟩
  | 49 => ⟨S131072x8, .f32⟩
  | 50 => ⟨S131072x8, .f32⟩
  | 51 => ⟨S131072x8, .f32⟩
  | 52 => ⟨S131072x8, .f32⟩
  | 53 => ⟨S131072x1, .f32⟩
  | 54 => ⟨S131072x7, .f32⟩
  | 55 => ⟨S131072x1, .f32⟩
  | 56 => ⟨S131072x8, .f32⟩
  | 57 => ⟨S131072x8, .f32⟩
  | 58 => ⟨S131072x8, .f32⟩
  | 59 => ⟨S131072x1, .f32⟩
  | 60 => ⟨S131072x7, .f32⟩
  | 61 => ⟨S131072x1, .f32⟩
  | 62 => ⟨S131072x8, .f32⟩
  | 63 => ⟨S131072x8, .f32⟩
  | 64 => ⟨S131072x8, .f32⟩
  | 65 => ⟨S131072x1, .f32⟩
  | 66 => ⟨S131072x7, .f32⟩
  | 67 => ⟨S131072x1, .f32⟩
  | 68 => ⟨S131072x8, .f32⟩
  | 69 => ⟨S131072x8, .f32⟩
  | 70 => ⟨S131072x8, .f32⟩
  | 71 => ⟨S_, .f32⟩
  | 72 => ⟨S131072x8, .f32⟩
  | 73 => ⟨S131072x8, .i1⟩
  | 74 => ⟨S131072x8, .i1⟩
  | 75 => ⟨S131072x8, .f32⟩
  | 76 => ⟨S_, .f32⟩
  | 77 => ⟨S131072x8, .f32⟩
  | 78 => ⟨S131072x8, .i1⟩
  | 79 => ⟨S131072x8, .i1⟩
  | 80 => ⟨S131072x8, .f32⟩
  | 81 => ⟨S131072x8, .f32⟩
  | 82 => ⟨S131072x8, .f32⟩
  | 83 => ⟨S131072x8, .f32⟩
  | 84 => ⟨S131072x8, .f32⟩
  | 85 => ⟨S131072x8, .f32⟩
  | 86 => ⟨S131072x8, .f32⟩
  | 87 => ⟨S131072x8, .f32⟩
  | 88 => ⟨S131072x8, .f32⟩
  | 89 => ⟨S131072x8, .f32⟩
  | 90 => ⟨S_, .f32⟩
  | 91 => ⟨S_, .f32⟩
  | 92 => ⟨S131072x8, .f32⟩
  | 93 => ⟨S131072x8, .f32⟩
  | 94 => ⟨S131072x8, .f32⟩
  | 95 => ⟨S131072x8, .f32⟩
  | 96 => ⟨S131072x8, .f32⟩
  | 97 => ⟨S131072x8, .f32⟩
  | 98 => ⟨S131072x8, .f32⟩
  | 99 => ⟨S131072x8, .f32⟩
  | 100 => ⟨S131072x8, .f32⟩
  | 101 => ⟨S131072x8, .f32⟩
  | 102 => ⟨S131072x8, .f32⟩
  | 103 => ⟨S131072x8, .f32⟩
  | 104 => ⟨S131072x8, .f32⟩
  | 105 => ⟨S131072x8, .f32⟩
  | 106 => ⟨S131072x8x1, .f32⟩
  | 107 => ⟨S131072x8x1, .f32⟩
  | 108 => ⟨S131072x8x2, .f32⟩
  | 109 => ⟨S131072x16, .f32⟩
  | 110 => ⟨S131072x8x1, .f32⟩
  | 111 => ⟨S131072x8x1, .f32⟩
  | 112 => ⟨S131072x8x2, .f32⟩
  | 113 => ⟨S131072x16, .f32⟩
  | 114 => ⟨S131072x8x1, .i1⟩
  | 115 => ⟨S131072x8x1, .i1⟩
  | 116 => ⟨S131072x8x2, .i1⟩
  | 117 => ⟨S131072x16, .i1⟩
  | 118 => ⟨S131072x16, .i1⟩
  | 119 => ⟨S131072x16, .i1⟩
  | 120 => ⟨S131072x16, .f32⟩
  | 121 => ⟨S131072x16, .f32⟩
  | 122 => ⟨S131072x16, .i32⟩
  | 123 => ⟨S_, .i32⟩
  | 124 => ⟨S131072, .i32⟩
  | 125 => ⟨S131072, .i1⟩
  | 126 => ⟨S_, .i32⟩
  | 127 => ⟨S131072, .i32⟩
  | _ => ⟨S131072x6, .f32⟩

abbrev hbmTy0_3 (i : Nat) : BufTy := match i % 128 with
  | 0 => ⟨S131072, .i1⟩
  | 1 => ⟨S131072, .i1⟩
  | 2 => ⟨S_, .i32⟩
  | 3 => ⟨S131072, .i32⟩
  | 4 => ⟨S131072, .i1⟩
  | 5 => ⟨S131072, .i1⟩
  | 6 => ⟨S131072x1, .i1⟩
  | 7 => ⟨S131072x8, .f32⟩
  | 8 => ⟨S131072x8, .i1⟩
  | 9 => ⟨S131072x8, .f32⟩
  | 10 => ⟨S131072x1, .i1⟩
  | 11 => ⟨S131072x8, .f32⟩
  | 12 => ⟨S131072x8, .i1⟩
  | 13 => ⟨S131072x8, .f32⟩
  | 14 => ⟨S_, .i32⟩
  | 15 => ⟨S131072, .i32⟩
  | 16 => ⟨S131072, .i32⟩
  | 17 => ⟨S131072, .i32⟩
  | 18 => ⟨S_, .i32⟩
  | 19 => ⟨S131072, .i32⟩
  | 20 => ⟨S131072, .i1⟩
  | 21 => ⟨S131072, .i1⟩
  | 22 => ⟨S131072, .i1⟩
  | 23 => ⟨S131072x1, .f32⟩
  | 24 => ⟨S131072, .f32⟩
  | 25 => ⟨S131072x1, .f32⟩
  | 26 => ⟨S131072, .f32⟩
  | 27 => ⟨S131072x1, .f32⟩
  | 28 => ⟨S131072, .f32⟩
  | 29 => ⟨S131072x1, .f32⟩
  | 30 => ⟨S131072, .f32⟩
  | 31 => ⟨S131072, .f32⟩
  | 32 => ⟨S131072x1, .f32⟩
  | 33 => ⟨S131072, .f32⟩
  | 34 => ⟨S131072x1, .f32⟩
  | 35 => ⟨S131072, .f32⟩
  | 36 => ⟨S131072, .f32⟩
  | 37 => ⟨S131072, .f32⟩
  | 38 => ⟨S131072x1, .f32⟩
  | 39 => ⟨S131072x1, .i32⟩
  | 40 => ⟨S131072x8, .i32⟩
  | 41 => ⟨S131072x8, .i1⟩
  | 42 => ⟨S_, .i32⟩
  | 43 => ⟨S131072x8, .i32⟩
  | 44 => ⟨S131072x8, .i32⟩
  | 45 => ⟨S131072x1, .i32⟩
  | 46 => ⟨S131072x8, .i32⟩
  | 47 => ⟨S131072x8, .i1⟩
  | 48 => ⟨S131072x8, .f32⟩
  | 49 => ⟨S131072x8, .f32⟩
  | 50 => ⟨S131072x8, .f32⟩
  | 51 => ⟨S131072x8, .f32⟩
  | 52 => ⟨S131072x8, .f32⟩
  | 53 => ⟨S131072x8, .f32⟩
  | 54 => ⟨S131072x8, .f32⟩
  | 55 => ⟨S131072x1, .f32⟩
  | 56 => ⟨S131072x7, .f32⟩
  | 57 => ⟨S131072x1, .f32⟩
  | 58 => ⟨S131072x8, .f32⟩
  | 59 => ⟨S131072x8, .f32⟩
  | 60 => ⟨S131072x8, .f32⟩
  | 61 => ⟨S131072x1, .f32⟩
  | 62 => ⟨S131072x7, .f32⟩
  | 63 => ⟨S131072x1, .f32⟩
  | 64 => ⟨S131072x8, .f32⟩
  | 65 => ⟨S131072x8, .f32⟩
  | 66 => ⟨S131072x8, .f32⟩
  | 67 => ⟨S131072x1, .f32⟩
  | 68 => ⟨S131072x7, .f32⟩
  | 69 => ⟨S131072x1, .f32⟩
  | 70 => ⟨S131072x8, .f32⟩
  | 71 => ⟨S131072x8, .f32⟩
  | 72 => ⟨S131072x8, .f32⟩
  | 73 => ⟨S_, .f32⟩
  | 74 => ⟨S131072x8, .f32⟩
  | 75 => ⟨S131072x8, .i1⟩
  | 76 => ⟨S131072x8, .i1⟩
  | 77 => ⟨S131072x8, .f32⟩
  | 78 => ⟨S_, .f32⟩
  | 79 => ⟨S131072x8, .f32⟩
  | 80 => ⟨S131072x8, .i1⟩
  | 81 => ⟨S131072x8, .i1⟩
  | 82 => ⟨S131072x8, .f32⟩
  | 83 => ⟨S131072x8, .f32⟩
  | 84 => ⟨S131072x8, .f32⟩
  | 85 => ⟨S131072x8, .f32⟩
  | 86 => ⟨S131072x8, .f32⟩
  | 87 => ⟨S131072x8, .f32⟩
  | 88 => ⟨S131072x8, .f32⟩
  | 89 => ⟨S131072x8, .f32⟩
  | 90 => ⟨S131072x8, .f32⟩
  | 91 => ⟨S131072x8, .f32⟩
  | 92 => ⟨S_, .f32⟩
  | 93 => ⟨S_, .f32⟩
  | 94 => ⟨S131072x8, .f32⟩
  | 95 => ⟨S131072x8, .f32⟩
  | 96 => ⟨S131072x8, .f32⟩
  | 97 => ⟨S131072x8, .f32⟩
  | 98 => ⟨S131072x8, .f32⟩
  | 99 => ⟨S131072x8, .f32⟩
  | 100 => ⟨S131072x8, .f32⟩
  | 101 => ⟨S131072x8, .f32⟩
  | 102 => ⟨S131072x8, .f32⟩
  | 103 => ⟨S131072x8, .f32⟩
  | 104 => ⟨S131072x8, .f32⟩
  | 105 => ⟨S131072x8, .f32⟩
  | 106 => ⟨S131072x8, .f32⟩
  | 107 => ⟨S131072x8, .f32⟩
  | 108 => ⟨S131072x8x1, .f32⟩
  | 109 => ⟨S131072x8x1, .f32⟩
  | 110 => ⟨S131072x8x2, .f32⟩
  | 111 => ⟨S131072x16, .f32⟩
  | 112 => ⟨S131072x8x1, .f32⟩
  | 113 => ⟨S131072x8x1, .f32⟩
  | 114 => ⟨S131072x8x2, .f32⟩
  | 115 => ⟨S131072x16, .f32⟩
  | 116 => ⟨S131072x8x1, .i1⟩
  | 117 => ⟨S131072x8x1, .i1⟩
  | 118 => ⟨S131072x8x2, .i1⟩
  | 119 => ⟨S131072x16, .i1⟩
  | 120 => ⟨S131072x16, .i1⟩
  | 121 => ⟨S131072x16, .i1⟩
  | 122 => ⟨S131072x16, .f32⟩
  | 123 => ⟨S131072x16, .f32⟩
  | 124 => ⟨S131072x16, .i32⟩
  | 125 => ⟨S_, .i32⟩
  | 126 => ⟨S131072, .i32⟩
  | 127 => ⟨S131072, .i1⟩
  | _ => ⟨S131072x6, .f32⟩

abbrev hbmTy0_4 (i : Nat) : BufTy := match i % 128 with
  | 0 => ⟨S_, .i32⟩
  | 1 => ⟨S131072, .i32⟩
  | 2 => ⟨S131072, .i1⟩
  | 3 => ⟨S131072, .i1⟩
  | 4 => ⟨S_, .i32⟩
  | 5 => ⟨S131072, .i32⟩
  | 6 => ⟨S131072, .i1⟩
  | 7 => ⟨S131072, .i1⟩
  | 8 => ⟨S131072x1, .i1⟩
  | 9 => ⟨S131072x8, .f32⟩
  | 10 => ⟨S131072x8, .i1⟩
  | 11 => ⟨S131072x8, .f32⟩
  | 12 => ⟨S131072x1, .i1⟩
  | 13 => ⟨S131072x8, .f32⟩
  | 14 => ⟨S131072x8, .i1⟩
  | 15 => ⟨S131072x8, .f32⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i1⟩
  | 23 => ⟨S131072, .i1⟩
  | 24 => ⟨S131072, .i1⟩
  | 25 => ⟨S131072x1, .f32⟩
  | 26 => ⟨S131072, .f32⟩
  | 27 => ⟨S131072x1, .f32⟩
  | 28 => ⟨S131072, .f32⟩
  | 29 => ⟨S131072x1, .f32⟩
  | 30 => ⟨S131072, .f32⟩
  | 31 => ⟨S131072x1, .f32⟩
  | 32 => ⟨S131072, .f32⟩
  | 33 => ⟨S131072, .f32⟩
  | 34 => ⟨S131072x1, .f32⟩
  | 35 => ⟨S131072, .f32⟩
  | 36 => ⟨S131072x1, .f32⟩
  | 37 => ⟨S131072, .f32⟩
  | 38 => ⟨S131072, .f32⟩
  | 39 => ⟨S131072, .f32⟩
  | 40 => ⟨S131072x1, .f32⟩
  | 41 => ⟨S131072x1, .i32⟩
  | 42 => ⟨S131072x8, .i32⟩
  | 43 => ⟨S131072x8, .i1⟩
  | 44 => ⟨S_, .i32⟩
  | 45 => ⟨S131072x8, .i32⟩
  | 46 => ⟨S131072x8, .i32⟩
  | 47 => ⟨S131072x1, .i32⟩
  | 48 => ⟨S131072x8, .i32⟩
  | 49 => ⟨S131072x8, .i1⟩
  | 50 => ⟨S131072x8, .f32⟩
  | 51 => ⟨S131072x8, .f32⟩
  | 52 => ⟨S131072x8, .f32⟩
  | 53 => ⟨S131072x8, .f32⟩
  | 54 => ⟨S131072x8, .f32⟩
  | 55 => ⟨S131072x8, .f32⟩
  | 56 => ⟨S131072x8, .f32⟩
  | 57 => ⟨S131072x1, .f32⟩
  | 58 => ⟨S131072x7, .f32⟩
  | 59 => ⟨S131072x1, .f32⟩
  | 60 => ⟨S131072x8, .f32⟩
  | 61 => ⟨S131072x8, .f32⟩
  | 62 => ⟨S131072x8, .f32⟩
  | 63 => ⟨S131072x1, .f32⟩
  | 64 => ⟨S131072x7, .f32⟩
  | 65 => ⟨S131072x1, .f32⟩
  | 66 => ⟨S131072x8, .f32⟩
  | 67 => ⟨S131072x8, .f32⟩
  | 68 => ⟨S131072x8, .f32⟩
  | 69 => ⟨S131072x1, .f32⟩
  | 70 => ⟨S131072x7, .f32⟩
  | 71 => ⟨S131072x1, .f32⟩
  | 72 => ⟨S131072x8, .f32⟩
  | 73 => ⟨S131072x8, .f32⟩
  | 74 => ⟨S131072x8, .f32⟩
  | 75 => ⟨S_, .f32⟩
  | 76 => ⟨S131072x8, .f32⟩
  | 77 => ⟨S131072x8, .i1⟩
  | 78 => ⟨S131072x8, .i1⟩
  | 79 => ⟨S131072x8, .f32⟩
  | 80 => ⟨S_, .f32⟩
  | 81 => ⟨S131072x8, .f32⟩
  | 82 => ⟨S131072x8, .i1⟩
  | 83 => ⟨S131072x8, .i1⟩
  | 84 => ⟨S131072x8, .f32⟩
  | 85 => ⟨S131072x8, .f32⟩
  | 86 => ⟨S131072x8, .f32⟩
  | 87 => ⟨S131072x8, .f32⟩
  | 88 => ⟨S131072x8, .f32⟩
  | 89 => ⟨S131072x8, .f32⟩
  | 90 => ⟨S131072x8, .f32⟩
  | 91 => ⟨S131072x8, .f32⟩
  | 92 => ⟨S131072x8, .f32⟩
  | 93 => ⟨S131072x8, .f32⟩
  | 94 => ⟨S_, .f32⟩
  | 95 => ⟨S_, .f32⟩
  | 96 => ⟨S131072x8, .f32⟩
  | 97 => ⟨S131072x8, .f32⟩
  | 98 => ⟨S131072x8, .f32⟩
  | 99 => ⟨S131072x8, .f32⟩
  | 100 => ⟨S131072x8, .f32⟩
  | 101 => ⟨S131072x8, .f32⟩
  | 102 => ⟨S131072x8, .f32⟩
  | 103 => ⟨S131072x8, .f32⟩
  | 104 => ⟨S131072x8, .f32⟩
  | 105 => ⟨S131072x8, .f32⟩
  | 106 => ⟨S131072x8, .f32⟩
  | 107 => ⟨S131072x8, .f32⟩
  | 108 => ⟨S131072x8, .f32⟩
  | 109 => ⟨S131072x8, .f32⟩
  | 110 => ⟨S131072x8x1, .f32⟩
  | 111 => ⟨S131072x8x1, .f32⟩
  | 112 => ⟨S131072x8x2, .f32⟩
  | 113 => ⟨S131072x16, .f32⟩
  | 114 => ⟨S131072x8x1, .f32⟩
  | 115 => ⟨S131072x8x1, .f32⟩
  | 116 => ⟨S131072x8x2, .f32⟩
  | 117 => ⟨S131072x16, .f32⟩
  | 118 => ⟨S131072x8x1, .i1⟩
  | 119 => ⟨S131072x8x1, .i1⟩
  | 120 => ⟨S131072x8x2, .i1⟩
  | 121 => ⟨S131072x16, .i1⟩
  | 122 => ⟨S131072x16, .i1⟩
  | 123 => ⟨S131072x16, .i1⟩
  | 124 => ⟨S131072x16, .f32⟩
  | 125 => ⟨S131072x16, .f32⟩
  | 126 => ⟨S131072x16, .i32⟩
  | 127 => ⟨S_, .i32⟩
  | _ => ⟨S131072x6, .f32⟩

abbrev hbmTy0_5 (i : Nat) : BufTy := match i % 128 with
  | 0 => ⟨S131072, .i32⟩
  | 1 => ⟨S131072, .i1⟩
  | 2 => ⟨S_, .i32⟩
  | 3 => ⟨S131072, .i32⟩
  | 4 => ⟨S131072, .i1⟩
  | 5 => ⟨S131072, .i1⟩
  | 6 => ⟨S_, .i32⟩
  | 7 => ⟨S131072, .i32⟩
  | 8 => ⟨S131072, .i1⟩
  | 9 => ⟨S131072, .i1⟩
  | 10 => ⟨S131072x1, .i1⟩
  | 11 => ⟨S131072x8, .f32⟩
  | 12 => ⟨S131072x8, .i1⟩
  | 13 => ⟨S131072x8, .f32⟩
  | 14 => ⟨S131072x1, .i1⟩
  | 15 => ⟨S131072x8, .f32⟩
  | 16 => ⟨S131072x8, .i1⟩
  | 17 => ⟨S131072x8, .f32⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S131072, .i1⟩
  | 26 => ⟨S131072, .i1⟩
  | 27 => ⟨S131072x1, .i32⟩
  | 28 => ⟨S131072x8, .i32⟩
  | 29 => ⟨S131072x8, .i1⟩
  | 30 => ⟨S131072x1, .f32⟩
  | 31 => ⟨S131072x8, .f32⟩
  | 32 => ⟨S131072x8, .f32⟩
  | 33 => ⟨S131072x1, .f32⟩
  | 34 => ⟨S131072x8, .f32⟩
  | 35 => ⟨S131072x8, .f32⟩
  | 36 => ⟨S131072x7, .f32⟩
  | 37 => ⟨S131072x1, .f32⟩
  | 38 => ⟨S131072x8, .f32⟩
  | 39 => ⟨S131072x8, .f32⟩
  | 40 => ⟨S131072x7, .f32⟩
  | 41 => ⟨S131072x1, .f32⟩
  | 42 => ⟨S131072x8, .f32⟩
  | 43 => ⟨S131072x8, .f32⟩
  | 44 => ⟨S131072x8, .f32⟩
  | 45 => ⟨S_, .f32⟩
  | 46 => ⟨S131072, .f32⟩
  | 47 => ⟨S131072, .f32⟩
  | 48 => ⟨S_, .f32⟩
  | 49 => ⟨S131072, .f32⟩
  | 50 => ⟨S131072, .f32⟩
  | 51 => ⟨S_, .i32⟩
  | 52 => ⟨S131072, .i32⟩
  | 53 => ⟨S131072, .i1⟩
  | 54 => ⟨S_, .f32⟩
  | 55 => ⟨S_, .f32⟩
  | 56 => ⟨S131072, .f32⟩
  | 57 => ⟨S131072, .f32⟩
  | 58 => ⟨S131072, .f32⟩
  | 59 => ⟨S131072, .f32⟩
  | 60 => ⟨S_, .f32⟩
  | 61 => ⟨S131072, .f32⟩
  | 62 => ⟨S131072, .f32⟩
  | 63 => ⟨S131072, .f32⟩
  | 64 => ⟨S131072x8, .f32⟩
  | 65 => ⟨S131072x8, .f32⟩
  | 66 => ⟨S131072x1x8, .f32⟩
  | 67 => ⟨S131072x8x1, .f32⟩
  | 68 => ⟨S131072x8x8, .f32⟩
  | 69 => ⟨S131072x8x8, .f32⟩
  | 70 => ⟨S131072x8x8, .f32⟩
  | 71 => ⟨S131072x1x8, .f32⟩
  | 72 => ⟨S131072x8x1, .f32⟩
  | 73 => ⟨S131072x8x8, .f32⟩
  | 74 => ⟨S131072x8x8, .f32⟩
  | 75 => ⟨S131072x8x8, .f32⟩
  | 76 => ⟨S131072x8x8x1, .f32⟩
  | 77 => ⟨S131072x8x1x8, .f32⟩
  | 78 => ⟨S131072x8x8x8, .f32⟩
  | 79 => ⟨S131072x8x8x8, .f32⟩
  | 80 => ⟨S131072x8x8x8, .f32⟩
  | 81 => ⟨S131072x8x8x1, .f32⟩
  | 82 => ⟨S131072x8x1x8, .f32⟩
  | 83 => ⟨S131072x8x8x8, .f32⟩
  | 84 => ⟨S131072x8x8x8, .f32⟩
  | 85 => ⟨S131072x8x8x8, .f32⟩
  | 86 => ⟨S131072x8x8x8, .f32⟩
  | 87 => ⟨S_, .f32⟩
  | 88 => ⟨S131072x8x8x8, .f32⟩
  | 89 => ⟨S131072x8x8x8, .i1⟩
  | 90 => ⟨S_, .i1⟩
  | 91 => ⟨S131072x8x8, .i1⟩
  | 92 => ⟨S131072x8x8, .f32⟩
  | 93 => ⟨S131072x8x8, .f32⟩
  | 94 => ⟨S131072x8x8, .f32⟩
  | 95 => ⟨S_, .f32⟩
  | 96 => ⟨S131072x8x8, .f32⟩
  | 97 => ⟨S131072x8x8, .i1⟩
  | 98 => ⟨S131072x8x8, .i1⟩
  | 99 => ⟨S131072x8x1, .f32⟩
  | 100 => ⟨S131072x1x8, .f32⟩
  | 101 => ⟨S131072x8x8, .f32⟩
  | 102 => ⟨S131072x8x8, .f32⟩
  | 103 => ⟨S131072x8x8, .f32⟩
  | 104 => ⟨S131072x8x1, .f32⟩
  | 105 => ⟨S131072x1x8, .f32⟩
  | 106 => ⟨S131072x8x8, .f32⟩
  | 107 => ⟨S131072x8x8, .f32⟩
  | 108 => ⟨S131072x8x8, .f32⟩
  | 109 => ⟨S131072x8x8, .f32⟩
  | 110 => ⟨S_, .f32⟩
  | 111 => ⟨S_, .f32⟩
  | 112 => ⟨S131072x8x8, .f32⟩
  | 113 => ⟨S131072x8x8, .f32⟩
  | 114 => ⟨S_, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .f32⟩
  | 121 => ⟨S_, .f32⟩
  | 122 => ⟨S131072, .f32⟩
  | 123 => ⟨S131072, .f32⟩
  | 124 => ⟨S131072, .f32⟩
  | 125 => ⟨S131072, .f32⟩
  | 126 => ⟨S_, .f32⟩
  | 127 => ⟨S131072, .f32⟩
  | _ => ⟨S131072x6, .f32⟩

abbrev hbmTy0_6 (i : Nat) : BufTy := match i % 128 with
  | 0 => ⟨S131072, .f32⟩
  | 1 => ⟨S_, .f32⟩
  | 2 => ⟨S_, .f32⟩
  | 3 => ⟨S1, .f32⟩
  | _ => ⟨S131072x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S131072x6, .f32⟩

abbrev bufTy : (tb : Table) → Fin (tcTables nBuf tb) → BufTy
  | .hbm, ⟨i, _⟩ => hbmTy i
  | _, _ => ⟨S131072x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_cst_1 : Ref sig .tc := ⟨.hbm, 80, rfl⟩
abbrev main_v76 : Ref sig .tc := ⟨.hbm, 81, rfl⟩
abbrev main_v77 : Ref sig .tc := ⟨.hbm, 82, rfl⟩
abbrev main_cst_2 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_cst_3 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_c : Ref sig .tc := ⟨.hbm, 142, rfl⟩
abbrev main_v135 : Ref sig .tc := ⟨.hbm, 143, rfl⟩
abbrev main_c_4 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_c_5 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_call0_v0 : Ref sig .tc := ⟨.hbm, 180, rfl⟩
abbrev main_call0_v1 : Ref sig .tc := ⟨.hbm, 181, rfl⟩
abbrev main_v170 : Ref sig .tc := ⟨.hbm, 182, rfl⟩
abbrev main_call1_v0 : Ref sig .tc := ⟨.hbm, 183, rfl⟩
abbrev main_v171 : Ref sig .tc := ⟨.hbm, 184, rfl⟩
abbrev main_v172 : Ref sig .tc := ⟨.hbm, 185, rfl⟩
abbrev main_call2_v0 : Ref sig .tc := ⟨.hbm, 186, rfl⟩
abbrev main_call2_v1 : Ref sig .tc := ⟨.hbm, 187, rfl⟩
abbrev main_v173 : Ref sig .tc := ⟨.hbm, 188, rfl⟩
abbrev main_call3_v0 : Ref sig .tc := ⟨.hbm, 189, rfl⟩
abbrev main_v174 : Ref sig .tc := ⟨.hbm, 190, rfl⟩
abbrev main_v175 : Ref sig .tc := ⟨.hbm, 191, rfl⟩
abbrev main_call4_v0 : Ref sig .tc := ⟨.hbm, 192, rfl⟩
abbrev main_call4_v1 : Ref sig .tc := ⟨.hbm, 193, rfl⟩
abbrev main_v176 : Ref sig .tc := ⟨.hbm, 194, rfl⟩
abbrev main_call5_v0 : Ref sig .tc := ⟨.hbm, 195, rfl⟩
abbrev main_v177 : Ref sig .tc := ⟨.hbm, 196, rfl⟩
abbrev main_cst_6 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_cst_7 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_cst_8 : Ref sig .tc := ⟨.hbm, 216, rfl⟩
abbrev main_call6_v0 : Ref sig .tc := ⟨.hbm, 217, rfl⟩
abbrev main_call6_v1 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221_0 : Ref sig .tc := ⟨.hbm, 245, rfl⟩
abbrev main_v221_1 : Ref sig .tc := ⟨.hbm, 246, rfl⟩
abbrev main_v221_2 : Ref sig .tc := ⟨.hbm, 247, rfl⟩
abbrev main_v222 : Ref sig .tc := ⟨.hbm, 248, rfl⟩
abbrev main_c_9 : Ref sig .tc := ⟨.hbm, 249, rfl⟩
abbrev main_v223 : Ref sig .tc := ⟨.hbm, 250, rfl⟩
abbrev main_v224 : Ref sig .tc := ⟨.hbm, 251, rfl⟩
abbrev main_c_10 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_c_11 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_call7_v0 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_call8_v0 : Ref sig .tc := ⟨.hbm, 266, rfl⟩
abbrev main_v236 : Ref sig .tc := ⟨.hbm, 267, rfl⟩
abbrev main_c_12 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_c_13 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_c_14 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_call10_v0 : Ref sig .tc := ⟨.hbm, 310, rfl⟩
abbrev main_call10_v1 : Ref sig .tc := ⟨.hbm, 311, rfl⟩
abbrev main_v276 : Ref sig .tc := ⟨.hbm, 312, rfl⟩
abbrev main_call11_v0 : Ref sig .tc := ⟨.hbm, 313, rfl⟩
abbrev main_v277 : Ref sig .tc := ⟨.hbm, 314, rfl⟩
abbrev main_v278 : Ref sig .tc := ⟨.hbm, 315, rfl⟩
abbrev main_call12_v0 : Ref sig .tc := ⟨.hbm, 316, rfl⟩
abbrev main_call12_v1 : Ref sig .tc := ⟨.hbm, 317, rfl⟩
abbrev main_v279 : Ref sig .tc := ⟨.hbm, 318, rfl⟩
abbrev main_call13_v0 : Ref sig .tc := ⟨.hbm, 319, rfl⟩
abbrev main_v280 : Ref sig .tc := ⟨.hbm, 320, rfl⟩
abbrev main_v281 : Ref sig .tc := ⟨.hbm, 321, rfl⟩
abbrev main_call14_v0 : Ref sig .tc := ⟨.hbm, 322, rfl⟩
abbrev main_call14_v1 : Ref sig .tc := ⟨.hbm, 323, rfl⟩
abbrev main_v282 : Ref sig .tc := ⟨.hbm, 324, rfl⟩
abbrev main_call15_v0 : Ref sig .tc := ⟨.hbm, 325, rfl⟩
abbrev main_v283 : Ref sig .tc := ⟨.hbm, 326, rfl⟩
abbrev main_cst_15 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_cst_16 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_cst_17 : Ref sig .tc := ⟨.hbm, 346, rfl⟩
abbrev main_call16_v0 : Ref sig .tc := ⟨.hbm, 347, rfl⟩
abbrev main_call16_v1 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327_0 : Ref sig .tc := ⟨.hbm, 375, rfl⟩
abbrev main_v327_1 : Ref sig .tc := ⟨.hbm, 376, rfl⟩
abbrev main_v327_2 : Ref sig .tc := ⟨.hbm, 377, rfl⟩
abbrev main_v328 : Ref sig .tc := ⟨.hbm, 378, rfl⟩
abbrev main_c_18 : Ref sig .tc := ⟨.hbm, 379, rfl⟩
abbrev main_v329 : Ref sig .tc := ⟨.hbm, 380, rfl⟩
abbrev main_v330 : Ref sig .tc := ⟨.hbm, 381, rfl⟩
abbrev main_c_19 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_c_20 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_call17_v0 : Ref sig .tc := ⟨.hbm, 392, rfl⟩
abbrev main_v339 : Ref sig .tc := ⟨.hbm, 393, rfl⟩
abbrev main_v340 : Ref sig .tc := ⟨.hbm, 394, rfl⟩
abbrev main_v341 : Ref sig .tc := ⟨.hbm, 395, rfl⟩
abbrev main_call18_v0 : Ref sig .tc := ⟨.hbm, 396, rfl⟩
abbrev main_v342 : Ref sig .tc := ⟨.hbm, 397, rfl⟩
abbrev main_c_21 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_c_22 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_c_23 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_v372 : Ref sig .tc := ⟨.hbm, 430, rfl⟩
abbrev main_v373 : Ref sig .tc := ⟨.hbm, 431, rfl⟩
abbrev main_v374 : Ref sig .tc := ⟨.hbm, 432, rfl⟩
abbrev main_v375 : Ref sig .tc := ⟨.hbm, 433, rfl⟩
abbrev main_v376 : Ref sig .tc := ⟨.hbm, 434, rfl⟩
abbrev main_v377 : Ref sig .tc := ⟨.hbm, 435, rfl⟩
abbrev main_v378 : Ref sig .tc := ⟨.hbm, 436, rfl⟩
abbrev main_v379 : Ref sig .tc := ⟨.hbm, 437, rfl⟩
abbrev main_v380 : Ref sig .tc := ⟨.hbm, 438, rfl⟩
abbrev main_v381 : Ref sig .tc := ⟨.hbm, 439, rfl⟩
abbrev main_call20_v0 : Ref sig .tc := ⟨.hbm, 440, rfl⟩
abbrev main_call20_v1 : Ref sig .tc := ⟨.hbm, 441, rfl⟩
abbrev main_v382 : Ref sig .tc := ⟨.hbm, 442, rfl⟩
abbrev main_call21_v0 : Ref sig .tc := ⟨.hbm, 443, rfl⟩
abbrev main_v383 : Ref sig .tc := ⟨.hbm, 444, rfl⟩
abbrev main_v384 : Ref sig .tc := ⟨.hbm, 445, rfl⟩
abbrev main_call22_v0 : Ref sig .tc := ⟨.hbm, 446, rfl⟩
abbrev main_call22_v1 : Ref sig .tc := ⟨.hbm, 447, rfl⟩
abbrev main_v385 : Ref sig .tc := ⟨.hbm, 448, rfl⟩
abbrev main_call23_v0 : Ref sig .tc := ⟨.hbm, 449, rfl⟩
abbrev main_v386 : Ref sig .tc := ⟨.hbm, 450, rfl⟩
abbrev main_v387 : Ref sig .tc := ⟨.hbm, 451, rfl⟩
abbrev main_call24_v0 : Ref sig .tc := ⟨.hbm, 452, rfl⟩
abbrev main_call24_v1 : Ref sig .tc := ⟨.hbm, 453, rfl⟩
abbrev main_v388 : Ref sig .tc := ⟨.hbm, 454, rfl⟩
abbrev main_call25_v0 : Ref sig .tc := ⟨.hbm, 455, rfl⟩
abbrev main_v389 : Ref sig .tc := ⟨.hbm, 456, rfl⟩
abbrev main_cst_24 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_cst_25 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_cst_26 : Ref sig .tc := ⟨.hbm, 476, rfl⟩
abbrev main_call26_v0 : Ref sig .tc := ⟨.hbm, 477, rfl⟩
abbrev main_call26_v1 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_v411 : Ref sig .tc := ⟨.hbm, 483, rfl⟩
abbrev main_v412 : Ref sig .tc := ⟨.hbm, 484, rfl⟩
abbrev main_v413 : Ref sig .tc := ⟨.hbm, 485, rfl⟩
abbrev main_v414 : Ref sig .tc := ⟨.hbm, 486, rfl⟩
abbrev main_v415 : Ref sig .tc := ⟨.hbm, 487, rfl⟩
abbrev main_v416 : Ref sig .tc := ⟨.hbm, 488, rfl⟩
abbrev main_v417 : Ref sig .tc := ⟨.hbm, 489, rfl⟩
abbrev main_v418 : Ref sig .tc := ⟨.hbm, 490, rfl⟩
abbrev main_v419 : Ref sig .tc := ⟨.hbm, 491, rfl⟩
abbrev main_v420 : Ref sig .tc := ⟨.hbm, 492, rfl⟩
abbrev main_v421 : Ref sig .tc := ⟨.hbm, 493, rfl⟩
abbrev main_v422 : Ref sig .tc := ⟨.hbm, 494, rfl⟩
abbrev main_v423 : Ref sig .tc := ⟨.hbm, 495, rfl⟩
abbrev main_v424 : Ref sig .tc := ⟨.hbm, 496, rfl⟩
abbrev main_v425 : Ref sig .tc := ⟨.hbm, 497, rfl⟩
abbrev main_v426 : Ref sig .tc := ⟨.hbm, 498, rfl⟩
abbrev main_v427 : Ref sig .tc := ⟨.hbm, 499, rfl⟩
abbrev main_v428 : Ref sig .tc := ⟨.hbm, 500, rfl⟩
abbrev main_v429 : Ref sig .tc := ⟨.hbm, 501, rfl⟩
abbrev main_v430 : Ref sig .tc := ⟨.hbm, 502, rfl⟩
abbrev main_v431 : Ref sig .tc := ⟨.hbm, 503, rfl⟩
abbrev main_v432 : Ref sig .tc := ⟨.hbm, 504, rfl⟩
abbrev main_v433_0 : Ref sig .tc := ⟨.hbm, 505, rfl⟩
abbrev main_v433_1 : Ref sig .tc := ⟨.hbm, 506, rfl⟩
abbrev main_v433_2 : Ref sig .tc := ⟨.hbm, 507, rfl⟩
abbrev main_v434 : Ref sig .tc := ⟨.hbm, 508, rfl⟩
abbrev main_c_27 : Ref sig .tc := ⟨.hbm, 509, rfl⟩
abbrev main_v435 : Ref sig .tc := ⟨.hbm, 510, rfl⟩
abbrev main_v436 : Ref sig .tc := ⟨.hbm, 511, rfl⟩
abbrev main_c_28 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_c_29 : Ref sig .tc := ⟨.hbm, 516, rfl⟩
abbrev main_v440 : Ref sig .tc := ⟨.hbm, 517, rfl⟩
abbrev main_v441 : Ref sig .tc := ⟨.hbm, 518, rfl⟩
abbrev main_v442 : Ref sig .tc := ⟨.hbm, 519, rfl⟩
abbrev main_v443 : Ref sig .tc := ⟨.hbm, 520, rfl⟩
abbrev main_v444 : Ref sig .tc := ⟨.hbm, 521, rfl⟩
abbrev main_call27_v0 : Ref sig .tc := ⟨.hbm, 522, rfl⟩
abbrev main_v445 : Ref sig .tc := ⟨.hbm, 523, rfl⟩
abbrev main_v446 : Ref sig .tc := ⟨.hbm, 524, rfl⟩
abbrev main_v447 : Ref sig .tc := ⟨.hbm, 525, rfl⟩
abbrev main_call28_v0 : Ref sig .tc := ⟨.hbm, 526, rfl⟩
abbrev main_v448 : Ref sig .tc := ⟨.hbm, 527, rfl⟩
abbrev main_c_30 : Ref sig .tc := ⟨.hbm, 528, rfl⟩
abbrev main_v449 : Ref sig .tc := ⟨.hbm, 529, rfl⟩
abbrev main_v450 : Ref sig .tc := ⟨.hbm, 530, rfl⟩
abbrev main_v451 : Ref sig .tc := ⟨.hbm, 531, rfl⟩
abbrev main_c_31 : Ref sig .tc := ⟨.hbm, 532, rfl⟩
abbrev main_v452 : Ref sig .tc := ⟨.hbm, 533, rfl⟩
abbrev main_v453 : Ref sig .tc := ⟨.hbm, 534, rfl⟩
abbrev main_v454 : Ref sig .tc := ⟨.hbm, 535, rfl⟩
abbrev main_v455 : Ref sig .tc := ⟨.hbm, 536, rfl⟩
abbrev main_v456 : Ref sig .tc := ⟨.hbm, 537, rfl⟩
abbrev main_v457 : Ref sig .tc := ⟨.hbm, 538, rfl⟩
abbrev main_v458 : Ref sig .tc := ⟨.hbm, 539, rfl⟩
abbrev main_v459 : Ref sig .tc := ⟨.hbm, 540, rfl⟩
abbrev main_v460 : Ref sig .tc := ⟨.hbm, 541, rfl⟩
abbrev main_v461 : Ref sig .tc := ⟨.hbm, 542, rfl⟩
abbrev main_v462 : Ref sig .tc := ⟨.hbm, 543, rfl⟩
abbrev main_v463 : Ref sig .tc := ⟨.hbm, 544, rfl⟩
abbrev main_v464 : Ref sig .tc := ⟨.hbm, 545, rfl⟩
abbrev main_v465 : Ref sig .tc := ⟨.hbm, 546, rfl⟩
abbrev main_v466 : Ref sig .tc := ⟨.hbm, 547, rfl⟩
abbrev main_v467 : Ref sig .tc := ⟨.hbm, 548, rfl⟩
abbrev main_v468 : Ref sig .tc := ⟨.hbm, 549, rfl⟩
abbrev main_v469 : Ref sig .tc := ⟨.hbm, 550, rfl⟩
abbrev main_v470 : Ref sig .tc := ⟨.hbm, 551, rfl⟩
abbrev main_v471 : Ref sig .tc := ⟨.hbm, 552, rfl⟩
abbrev main_v472 : Ref sig .tc := ⟨.hbm, 553, rfl⟩
abbrev main_v473 : Ref sig .tc := ⟨.hbm, 554, rfl⟩
abbrev main_v474 : Ref sig .tc := ⟨.hbm, 555, rfl⟩
abbrev main_c_32 : Ref sig .tc := ⟨.hbm, 556, rfl⟩
abbrev main_v475 : Ref sig .tc := ⟨.hbm, 557, rfl⟩
abbrev main_v476 : Ref sig .tc := ⟨.hbm, 558, rfl⟩
abbrev main_v477 : Ref sig .tc := ⟨.hbm, 559, rfl⟩
abbrev main_v478 : Ref sig .tc := ⟨.hbm, 560, rfl⟩
abbrev main_v479 : Ref sig .tc := ⟨.hbm, 561, rfl⟩
abbrev main_v480 : Ref sig .tc := ⟨.hbm, 562, rfl⟩
abbrev main_v481 : Ref sig .tc := ⟨.hbm, 563, rfl⟩
abbrev main_v482 : Ref sig .tc := ⟨.hbm, 564, rfl⟩
abbrev main_v483 : Ref sig .tc := ⟨.hbm, 565, rfl⟩
abbrev main_v484 : Ref sig .tc := ⟨.hbm, 566, rfl⟩
abbrev main_v485 : Ref sig .tc := ⟨.hbm, 567, rfl⟩
abbrev main_v486 : Ref sig .tc := ⟨.hbm, 568, rfl⟩
abbrev main_v487 : Ref sig .tc := ⟨.hbm, 569, rfl⟩
abbrev main_call30_v0 : Ref sig .tc := ⟨.hbm, 570, rfl⟩
abbrev main_call30_v1 : Ref sig .tc := ⟨.hbm, 571, rfl⟩
abbrev main_v488 : Ref sig .tc := ⟨.hbm, 572, rfl⟩
abbrev main_call31_v0 : Ref sig .tc := ⟨.hbm, 573, rfl⟩
abbrev main_v489 : Ref sig .tc := ⟨.hbm, 574, rfl⟩
abbrev main_v490 : Ref sig .tc := ⟨.hbm, 575, rfl⟩
abbrev main_call32_v0 : Ref sig .tc := ⟨.hbm, 576, rfl⟩
abbrev main_call32_v1 : Ref sig .tc := ⟨.hbm, 577, rfl⟩
abbrev main_v491 : Ref sig .tc := ⟨.hbm, 578, rfl⟩
abbrev main_call33_v0 : Ref sig .tc := ⟨.hbm, 579, rfl⟩
abbrev main_v492 : Ref sig .tc := ⟨.hbm, 580, rfl⟩
abbrev main_v493 : Ref sig .tc := ⟨.hbm, 581, rfl⟩
abbrev main_call34_v0 : Ref sig .tc := ⟨.hbm, 582, rfl⟩
abbrev main_call34_v1 : Ref sig .tc := ⟨.hbm, 583, rfl⟩
abbrev main_v494 : Ref sig .tc := ⟨.hbm, 584, rfl⟩
abbrev main_call35_v0 : Ref sig .tc := ⟨.hbm, 585, rfl⟩
abbrev main_v495 : Ref sig .tc := ⟨.hbm, 586, rfl⟩
abbrev main_cst_33 : Ref sig .tc := ⟨.hbm, 587, rfl⟩
abbrev main_v496 : Ref sig .tc := ⟨.hbm, 588, rfl⟩
abbrev main_v497 : Ref sig .tc := ⟨.hbm, 589, rfl⟩
abbrev main_v498 : Ref sig .tc := ⟨.hbm, 590, rfl⟩
abbrev main_v499 : Ref sig .tc := ⟨.hbm, 591, rfl⟩
abbrev main_cst_34 : Ref sig .tc := ⟨.hbm, 592, rfl⟩
abbrev main_v500 : Ref sig .tc := ⟨.hbm, 593, rfl⟩
abbrev main_v501 : Ref sig .tc := ⟨.hbm, 594, rfl⟩
abbrev main_v502 : Ref sig .tc := ⟨.hbm, 595, rfl⟩
abbrev main_v503 : Ref sig .tc := ⟨.hbm, 596, rfl⟩
abbrev main_v504 : Ref sig .tc := ⟨.hbm, 597, rfl⟩
abbrev main_v505 : Ref sig .tc := ⟨.hbm, 598, rfl⟩
abbrev main_v506 : Ref sig .tc := ⟨.hbm, 599, rfl⟩
abbrev main_v507 : Ref sig .tc := ⟨.hbm, 600, rfl⟩
abbrev main_v508 : Ref sig .tc := ⟨.hbm, 601, rfl⟩
abbrev main_v509 : Ref sig .tc := ⟨.hbm, 602, rfl⟩
abbrev main_v510 : Ref sig .tc := ⟨.hbm, 603, rfl⟩
abbrev main_v511 : Ref sig .tc := ⟨.hbm, 604, rfl⟩
abbrev main_v512 : Ref sig .tc := ⟨.hbm, 605, rfl⟩
abbrev main_cst_35 : Ref sig .tc := ⟨.hbm, 606, rfl⟩
abbrev main_call36_v0 : Ref sig .tc := ⟨.hbm, 607, rfl⟩
abbrev main_call36_v1 : Ref sig .tc := ⟨.hbm, 608, rfl⟩
abbrev main_v513 : Ref sig .tc := ⟨.hbm, 609, rfl⟩
abbrev main_v514 : Ref sig .tc := ⟨.hbm, 610, rfl⟩
abbrev main_v515 : Ref sig .tc := ⟨.hbm, 611, rfl⟩
abbrev main_v516 : Ref sig .tc := ⟨.hbm, 612, rfl⟩
abbrev main_v517 : Ref sig .tc := ⟨.hbm, 613, rfl⟩
abbrev main_v518 : Ref sig .tc := ⟨.hbm, 614, rfl⟩
abbrev main_v519 : Ref sig .tc := ⟨.hbm, 615, rfl⟩
abbrev main_v520 : Ref sig .tc := ⟨.hbm, 616, rfl⟩
abbrev main_v521 : Ref sig .tc := ⟨.hbm, 617, rfl⟩
abbrev main_v522 : Ref sig .tc := ⟨.hbm, 618, rfl⟩
abbrev main_v523 : Ref sig .tc := ⟨.hbm, 619, rfl⟩
abbrev main_v524 : Ref sig .tc := ⟨.hbm, 620, rfl⟩
abbrev main_v525 : Ref sig .tc := ⟨.hbm, 621, rfl⟩
abbrev main_v526 : Ref sig .tc := ⟨.hbm, 622, rfl⟩
abbrev main_v527 : Ref sig .tc := ⟨.hbm, 623, rfl⟩
abbrev main_v528 : Ref sig .tc := ⟨.hbm, 624, rfl⟩
abbrev main_v529 : Ref sig .tc := ⟨.hbm, 625, rfl⟩
abbrev main_v530 : Ref sig .tc := ⟨.hbm, 626, rfl⟩
abbrev main_v531 : Ref sig .tc := ⟨.hbm, 627, rfl⟩
abbrev main_v532 : Ref sig .tc := ⟨.hbm, 628, rfl⟩
abbrev main_v533 : Ref sig .tc := ⟨.hbm, 629, rfl⟩
abbrev main_v534 : Ref sig .tc := ⟨.hbm, 630, rfl⟩
abbrev main_v535 : Ref sig .tc := ⟨.hbm, 631, rfl⟩
abbrev main_v536 : Ref sig .tc := ⟨.hbm, 632, rfl⟩
abbrev main_v537 : Ref sig .tc := ⟨.hbm, 633, rfl⟩
abbrev main_v538 : Ref sig .tc := ⟨.hbm, 634, rfl⟩
abbrev main_v539_0 : Ref sig .tc := ⟨.hbm, 635, rfl⟩
abbrev main_v539_1 : Ref sig .tc := ⟨.hbm, 636, rfl⟩
abbrev main_v539_2 : Ref sig .tc := ⟨.hbm, 637, rfl⟩
abbrev main_v540 : Ref sig .tc := ⟨.hbm, 638, rfl⟩
abbrev main_c_36 : Ref sig .tc := ⟨.hbm, 639, rfl⟩
abbrev main_v541 : Ref sig .tc := ⟨.hbm, 640, rfl⟩
abbrev main_v542 : Ref sig .tc := ⟨.hbm, 641, rfl⟩
abbrev main_c_37 : Ref sig .tc := ⟨.hbm, 642, rfl⟩
abbrev main_v543 : Ref sig .tc := ⟨.hbm, 643, rfl⟩
abbrev main_v544 : Ref sig .tc := ⟨.hbm, 644, rfl⟩
abbrev main_v545 : Ref sig .tc := ⟨.hbm, 645, rfl⟩
abbrev main_c_38 : Ref sig .tc := ⟨.hbm, 646, rfl⟩
abbrev main_v546 : Ref sig .tc := ⟨.hbm, 647, rfl⟩
abbrev main_v547 : Ref sig .tc := ⟨.hbm, 648, rfl⟩
abbrev main_v548 : Ref sig .tc := ⟨.hbm, 649, rfl⟩
abbrev main_v549 : Ref sig .tc := ⟨.hbm, 650, rfl⟩
abbrev main_v550 : Ref sig .tc := ⟨.hbm, 651, rfl⟩
abbrev main_call37_v0 : Ref sig .tc := ⟨.hbm, 652, rfl⟩
abbrev main_v551 : Ref sig .tc := ⟨.hbm, 653, rfl⟩
abbrev main_v552 : Ref sig .tc := ⟨.hbm, 654, rfl⟩
abbrev main_v553 : Ref sig .tc := ⟨.hbm, 655, rfl⟩
abbrev main_call38_v0 : Ref sig .tc := ⟨.hbm, 656, rfl⟩
abbrev main_v554 : Ref sig .tc := ⟨.hbm, 657, rfl⟩
abbrev main_c_39 : Ref sig .tc := ⟨.hbm, 658, rfl⟩
abbrev main_v555 : Ref sig .tc := ⟨.hbm, 659, rfl⟩
abbrev main_v556 : Ref sig .tc := ⟨.hbm, 660, rfl⟩
abbrev main_v557 : Ref sig .tc := ⟨.hbm, 661, rfl⟩
abbrev main_c_40 : Ref sig .tc := ⟨.hbm, 662, rfl⟩
abbrev main_v558 : Ref sig .tc := ⟨.hbm, 663, rfl⟩
abbrev main_v559 : Ref sig .tc := ⟨.hbm, 664, rfl⟩
abbrev main_v560 : Ref sig .tc := ⟨.hbm, 665, rfl⟩
abbrev main_v561 : Ref sig .tc := ⟨.hbm, 666, rfl⟩
abbrev main_v562 : Ref sig .tc := ⟨.hbm, 667, rfl⟩
abbrev main_v563 : Ref sig .tc := ⟨.hbm, 668, rfl⟩
abbrev main_v564 : Ref sig .tc := ⟨.hbm, 669, rfl⟩
abbrev main_v565 : Ref sig .tc := ⟨.hbm, 670, rfl⟩
abbrev main_call40_v0 : Ref sig .tc := ⟨.hbm, 671, rfl⟩
abbrev main_v566 : Ref sig .tc := ⟨.hbm, 672, rfl⟩
abbrev main_v567 : Ref sig .tc := ⟨.hbm, 673, rfl⟩
abbrev main_call41_v0 : Ref sig .tc := ⟨.hbm, 674, rfl⟩
abbrev main_v568 : Ref sig .tc := ⟨.hbm, 675, rfl⟩
abbrev main_call42_v0 : Ref sig .tc := ⟨.hbm, 676, rfl⟩
abbrev main_call42_v1 : Ref sig .tc := ⟨.hbm, 677, rfl⟩
abbrev main_v569 : Ref sig .tc := ⟨.hbm, 678, rfl⟩
abbrev main_v570 : Ref sig .tc := ⟨.hbm, 679, rfl⟩
abbrev main_call43_v0 : Ref sig .tc := ⟨.hbm, 680, rfl⟩
abbrev main_call43_v1 : Ref sig .tc := ⟨.hbm, 681, rfl⟩
abbrev main_v571 : Ref sig .tc := ⟨.hbm, 682, rfl⟩
abbrev main_v572 : Ref sig .tc := ⟨.hbm, 683, rfl⟩
abbrev main_v573 : Ref sig .tc := ⟨.hbm, 684, rfl⟩
abbrev main_cst_41 : Ref sig .tc := ⟨.hbm, 685, rfl⟩
abbrev main_v574 : Ref sig .tc := ⟨.hbm, 686, rfl⟩
abbrev main_v575 : Ref sig .tc := ⟨.hbm, 687, rfl⟩
abbrev main_cst_42 : Ref sig .tc := ⟨.hbm, 688, rfl⟩
abbrev main_v576 : Ref sig .tc := ⟨.hbm, 689, rfl⟩
abbrev main_v577 : Ref sig .tc := ⟨.hbm, 690, rfl⟩
abbrev main_c_43 : Ref sig .tc := ⟨.hbm, 691, rfl⟩
abbrev main_v578 : Ref sig .tc := ⟨.hbm, 692, rfl⟩
abbrev main_v579 : Ref sig .tc := ⟨.hbm, 693, rfl⟩
abbrev main_cst_44 : Ref sig .tc := ⟨.hbm, 694, rfl⟩
abbrev main_call44_v0 : Ref sig .tc := ⟨.hbm, 695, rfl⟩
abbrev main_call44_v1 : Ref sig .tc := ⟨.hbm, 696, rfl⟩
abbrev main_v580 : Ref sig .tc := ⟨.hbm, 697, rfl⟩
abbrev main_v581 : Ref sig .tc := ⟨.hbm, 698, rfl⟩
abbrev main_v582 : Ref sig .tc := ⟨.hbm, 699, rfl⟩
abbrev main_cst_45 : Ref sig .tc := ⟨.hbm, 700, rfl⟩
abbrev main_v583 : Ref sig .tc := ⟨.hbm, 701, rfl⟩
abbrev main_v584 : Ref sig .tc := ⟨.hbm, 702, rfl⟩
abbrev main_v585 : Ref sig .tc := ⟨.hbm, 703, rfl⟩
abbrev main_v586 : Ref sig .tc := ⟨.hbm, 704, rfl⟩
abbrev main_v587 : Ref sig .tc := ⟨.hbm, 705, rfl⟩
abbrev main_v588 : Ref sig .tc := ⟨.hbm, 706, rfl⟩
abbrev main_v589 : Ref sig .tc := ⟨.hbm, 707, rfl⟩
abbrev main_v590 : Ref sig .tc := ⟨.hbm, 708, rfl⟩
abbrev main_v591 : Ref sig .tc := ⟨.hbm, 709, rfl⟩
abbrev main_v592 : Ref sig .tc := ⟨.hbm, 710, rfl⟩
abbrev main_v593 : Ref sig .tc := ⟨.hbm, 711, rfl⟩
abbrev main_v594 : Ref sig .tc := ⟨.hbm, 712, rfl⟩
abbrev main_v595 : Ref sig .tc := ⟨.hbm, 713, rfl⟩
abbrev main_v596 : Ref sig .tc := ⟨.hbm, 714, rfl⟩
abbrev main_v597 : Ref sig .tc := ⟨.hbm, 715, rfl⟩
abbrev main_v598 : Ref sig .tc := ⟨.hbm, 716, rfl⟩
abbrev main_v599 : Ref sig .tc := ⟨.hbm, 717, rfl⟩
abbrev main_v600 : Ref sig .tc := ⟨.hbm, 718, rfl⟩
abbrev main_v601 : Ref sig .tc := ⟨.hbm, 719, rfl⟩
abbrev main_v602 : Ref sig .tc := ⟨.hbm, 720, rfl⟩
abbrev main_v603 : Ref sig .tc := ⟨.hbm, 721, rfl⟩
abbrev main_v604 : Ref sig .tc := ⟨.hbm, 722, rfl⟩
abbrev main_v605 : Ref sig .tc := ⟨.hbm, 723, rfl⟩
abbrev main_v606 : Ref sig .tc := ⟨.hbm, 724, rfl⟩
abbrev main_v607 : Ref sig .tc := ⟨.hbm, 725, rfl⟩
abbrev main_v608 : Ref sig .tc := ⟨.hbm, 726, rfl⟩
abbrev main_cst_46 : Ref sig .tc := ⟨.hbm, 727, rfl⟩
abbrev main_v609 : Ref sig .tc := ⟨.hbm, 728, rfl⟩
abbrev main_v610 : Ref sig .tc := ⟨.hbm, 729, rfl⟩
abbrev main_c_47 : Ref sig .tc := ⟨.hbm, 730, rfl⟩
abbrev main_v611 : Ref sig .tc := ⟨.hbm, 731, rfl⟩
abbrev main_v612 : Ref sig .tc := ⟨.hbm, 732, rfl⟩
abbrev main_v613 : Ref sig .tc := ⟨.hbm, 733, rfl⟩
abbrev main_v614 : Ref sig .tc := ⟨.hbm, 734, rfl⟩
abbrev main_cst_48 : Ref sig .tc := ⟨.hbm, 735, rfl⟩
abbrev main_v615 : Ref sig .tc := ⟨.hbm, 736, rfl⟩
abbrev main_v616 : Ref sig .tc := ⟨.hbm, 737, rfl⟩
abbrev main_v617 : Ref sig .tc := ⟨.hbm, 738, rfl⟩
abbrev main_v618 : Ref sig .tc := ⟨.hbm, 739, rfl⟩
abbrev main_v619 : Ref sig .tc := ⟨.hbm, 740, rfl⟩
abbrev main_v620 : Ref sig .tc := ⟨.hbm, 741, rfl⟩
abbrev main_v621 : Ref sig .tc := ⟨.hbm, 742, rfl⟩
abbrev main_v622 : Ref sig .tc := ⟨.hbm, 743, rfl⟩
abbrev main_v623 : Ref sig .tc := ⟨.hbm, 744, rfl⟩
abbrev main_v624 : Ref sig .tc := ⟨.hbm, 745, rfl⟩
abbrev main_v625 : Ref sig .tc := ⟨.hbm, 746, rfl⟩
abbrev main_v626 : Ref sig .tc := ⟨.hbm, 747, rfl⟩
abbrev main_v627 : Ref sig .tc := ⟨.hbm, 748, rfl⟩
abbrev main_v628 : Ref sig .tc := ⟨.hbm, 749, rfl⟩
abbrev main_cst_49 : Ref sig .tc := ⟨.hbm, 750, rfl⟩
abbrev main_call45_v0 : Ref sig .tc := ⟨.hbm, 751, rfl⟩
abbrev main_call45_v1 : Ref sig .tc := ⟨.hbm, 752, rfl⟩
abbrev main_v629 : Ref sig .tc := ⟨.hbm, 753, rfl⟩
abbrev main_cst_50 : Ref sig .tc := ⟨.hbm, 754, rfl⟩
abbrev main_v630 : Ref sig .tc := ⟨.hbm, 755, rfl⟩
abbrev main_v631 : Ref sig .tc := ⟨.hbm, 756, rfl⟩
abbrev main_cst_51 : Ref sig .tc := ⟨.hbm, 757, rfl⟩
abbrev main_v632 : Ref sig .tc := ⟨.hbm, 758, rfl⟩
abbrev main_v633 : Ref sig .tc := ⟨.hbm, 759, rfl⟩
abbrev main_v634 : Ref sig .tc := ⟨.hbm, 760, rfl⟩
abbrev main_cst_52 : Ref sig .tc := ⟨.hbm, 761, rfl⟩
abbrev main_v635 : Ref sig .tc := ⟨.hbm, 762, rfl⟩
abbrev main_v636 : Ref sig .tc := ⟨.hbm, 763, rfl⟩
abbrev main_v637 : Ref sig .tc := ⟨.hbm, 764, rfl⟩
abbrev main_v638 : Ref sig .tc := ⟨.hbm, 765, rfl⟩
abbrev main_cst_53 : Ref sig .tc := ⟨.hbm, 766, rfl⟩
abbrev main_v639 : Ref sig .tc := ⟨.hbm, 767, rfl⟩
abbrev main_v640 : Ref sig .tc := ⟨.hbm, 768, rfl⟩
abbrev main_cst_54 : Ref sig .tc := ⟨.hbm, 769, rfl⟩
abbrev main_v641 : Ref sig .tc := ⟨.hbm, 770, rfl⟩
abbrev main_v642 : Ref sig .tc := ⟨.hbm, 771, rfl⟩

abbrev nD : Nat := 1
abbrev τ : Topo := Topo.v7x

variable {F : FTy → Type} [FloatOps F]
-- ==== Proof.KI.Run.lean ====
module

public import proofs.«01_k».proof.Proof.Gen.KernelIdeal.Skeleton
public import proofs.«01_k».proof.Proof.Gen.KernelIdeal.Frame

@[expose] public section

/-!
The kernel body at one grid point, on whole staging buffers. The two input blocks are held at given contents, the
scratch row at what the point before left. The body stores the block of quotients, then the new scratch row; at the
last point, and only there, it stores the total as well. What each store writes is found by the run.
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores write, with the proof that from the blocks `x0`, `x1` and the scratch row `xs0` the body runs to a
    continuation that gets the inputs back, the quotient block and the scratch row written, and the total's buffer written
    at the last point or untouched elsewhere. -/
def bodyRun (c : Dev nD) (i : grid0.Coords) (arg1 : Memref sig .tc .vmem S6x32x128 .f32) (harg1 : arg1.IsWhole) (arg2 : Memref sig .tc .vmem S6x32x128 .f32) (harg2 : arg2.IsWhole) (arg3 : Memref sig .tc .vmem S32x128 .f32) (harg3 : arg3.IsWhole) (arg4 : Memref sig .tc .vmem S1x1 .f32) (harg4 : arg4.IsWhole) (arg5 : Memref sig .tc .vmem S1x128 .f32) (harg5 : arg5.IsWhole)
    (x0 : Vec F S6x32x128 .f32) (x1 : Vec F S6x32x128 .f32) (xs0 : Vec F S1x128 .f32) :
    Σ' (L2 : List (View.Piece (Elt F) S32x128 .f32)), Σ' (L3 : List (View.Piece (Elt F) S1x1 .f32)), { LS0 : List (View.Piece (Elt F) S1x128 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (if k0_cond1 i = 1#1 then iprop(∃ f, arg4.view.loc (c : Thread nD τ) ↦[arg4.view.set]{fullShare} arg4.view.writes (Elt F) f L3) else owns (c : Thread nD τ) arg4 fullShare xi3) ∗ (∃ f, arg5.view.loc (c : Thread nD τ) ↦[arg5.view.set]{fullShare} arg5.view.writes (Elt F) f LS0)) -∗ K ⟨⟩))
          ⊢ wp frame (wpE (defs₀ (F := F)) Variants.none c none) E (cc0__giou_block i arg1 harg1 arg2 harg2 arg3 harg3 arg4 harg4 arg5 harg5) K } := by
  refine ⟨?_, ?_, ?_, fun xi3 E K => ?run⟩
  case run =>
    simp only [cc0__giou_block_eq_skeleton]; unfold cc0__giou_block_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec
    by_cases hc1 : k0_cond1 i = 1#1
    · rw [if_pos hc1]
      sl_exec (disch := sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]; · iexists f2; iexact H2
      rw [dif_pos hc1]
      isplitl [H3]; · iexists (harg4.unread xi3); iexact H3
      iexists (harg5.unread xs0); iexact HS0
    · rw [if_neg hc1]
      sl_exec (disch := sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]; · iexists f2; iexact H2
      rw [dif_neg hc1]
      isplitl [H3]
      · iexists _; isplitr; · ipureintro; exact harg4.read_unread _
        iexact H3
      iexists (harg5.unread xs0); iexact HS0

end Cert.KernelIdeal.Hand

end
-- ==== Proof.KI.Frame.lean ====
module

public import proofs.«01_k».proof.Proof.KI.Run
public import Idealize.ShloMosaic.Lib.Claim

@[expose] public section

/-!
The frame of the kernel by hand: what the body leaves at each grid point, the proof data of the pipeline, the body
obligation at a generic point, and the run. The scratch row carried between the points is not initialised before the
first one; there the body reads it, but what it stores does not depend on it (`scr_first`), so the row after every point
is a function of the input blocks alone (`scrBefore`).
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The total is stored at the last point only. -/
theorem cond_iff : ∀ t : Fin cfg0.N, k0_cond1 (grid0.coords t) = 1#1 ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [k0_cond1, e0]
    word_cmp
   : ∀ t : Fin grid0.N, k0_cond1 (grid0.coords t) = 1#1 ↔ t.val % 32 = 31)

/-- The coordinate of a point is its number. -/
theorem coord_val (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  rw [e0]; omega

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
/-- The total's window is idle before the last point, -/
theorem idle_3 : ∀ t : Fin cfg0.N, ¬ k0_cond1 (grid0.coords t) = 1#1 → cfg0.idle 3 (grid0.coords t) = true := by decide +kernel
/-- and not written back there, -/
theorem noFlush_3 : ∀ t : Fin cfg0.N, ¬ k0_cond1 (grid0.coords t) = 1#1 → (cfg0.win 3).flush t = false := by decide +kernel
/-- and live at the last. -/
theorem live_3 : ∀ t : Fin cfg0.N, k0_cond1 (grid0.coords t) = 1#1 → cfg0.idle 3 (grid0.coords t) = false := by decide +kernel

/-! ## The buffers -/

abbrev VO2 : View sig .tc .vmem S32x128 .f32 := (Memref.whole cc0_stg2_0 : Memref sig .tc .vmem S32x128 .f32).view
abbrev VO3 : View sig .tc .vmem S1x1 .f32 := (Memref.whole cc0_stg3_0 : Memref sig .tc .vmem S1x1 .f32).view
abbrev scM : Memref sig .tc .vmem S1x128 .f32 := Memref.whole cc0_scratch0
abbrev VS : View sig .tc .vmem S1x128 .f32 := scM.view
abbrev st0 (t : Fin cfg0.N) : Memref sig .tc .vmem S6x32x128 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S6x32x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S32x128 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x1 .f32 := win0_3.stage (cfg0.slots t 3)
abbrev hst3 (t : Fin cfg0.N) : (st3 t).IsWhole := hstage0_3 ((cfg0.slots t 3).cast nbuf0_3)

/-- What the launch hands the region: the scratch row at anything and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves -/

/-- The body at point `t` over the blocks there and the scratch row `xs`. -/
abbrev runAt (c : Dev nD) (t : Fin cfg0.N) (xs : Vec F S1x128 .f32) :=
  bodyRun c (grid0.coords t) (st0 t) (hst0 t) (st1 t) (hst1 t) (st2 t) (hst2 t) (st3 t) (hst3 t) scM (Memref.isWhole_whole _)
    (iblk m c 0 t) (iblk m c 1 t) xs

theorem cover_2 (c : Dev nD) (t : Fin cfg0.N) (xs : Vec F S1x128 .f32) (y : S32x128.Idx) :
    ∃ pc ∈ (runAt m c t xs).1, y ∈ pc.1.set :=
  View.cover_of_tiledL (runAt m c t xs).1 S32x128.size (by sl_kernel_rfl) y
theorem cover_3 (c : Dev nD) (t : Fin cfg0.N) (xs : Vec F S1x128 .f32) (y : S1x1.Idx) :
    ∃ pc ∈ (runAt m c t xs).2.1, y ∈ pc.1.set :=
  View.cover_of_tiledL (runAt m c t xs).2.1 S1x1.size (by sl_kernel_rfl) y
theorem cover_s (c : Dev nD) (t : Fin cfg0.N) (xs : Vec F S1x128 .f32) (y : S1x128.Idx) :
    ∃ pc ∈ (runAt m c t xs).2.2.1, y ∈ pc.1.set :=
  View.cover_of_tiledL (runAt m c t xs).2.2.1 S1x128.size (by sl_kernel_rfl) y

/-- The block of quotients the body leaves at point `t`. -/
def quot (c : Dev nD) (t : Fin cfg0.N) (xs : Vec F S1x128 .f32) : Vec F S32x128 .f32 :=
  VO2.read (Elt F) (VO2.writes (Elt F) VO2.junk (runAt m c t xs).1)
/-- The total it leaves where it stores it. -/
def total (c : Dev nD) (t : Fin cfg0.N) (xs : Vec F S1x128 .f32) : Vec F S1x1 .f32 :=
  VO3.read (Elt F) (VO3.writes (Elt F) VO3.junk (runAt m c t xs).2.1)
/-- The scratch row it leaves. -/
def scr (c : Dev nD) (t : Fin cfg0.N) (xs : Vec F S1x128 .f32) : Vec F S1x128 .f32 :=
  VS.read (Elt F) (VS.writes (Elt F) VS.junk (runAt m c t xs).2.2.1)

/-- The accumulated row at the first point is the block's own sum, whatever the row held before. -/
theorem pay_first (v1706 v1709 v1773 v1794 v2798 v2812 v2815 : FVec F S32x128 .f32) (v v' : Vec F S1x128 .f32) :
    k0_pay2 (BitVec.ofNat 32 0) v1706 v1709 v1773 v1794 v2798 v2812 v2815 v
      = k0_pay2 (BitVec.ofNat 32 0) v1706 v1709 v1773 v1794 v2798 v2812 v2815 v' := by
  unfold k0_pay2 k0_pay1
  rfl

/-- The quotients do not depend on the scratch row. -/
theorem quot_indep (c : Dev nD) (t : Fin cfg0.N) (xs xs' : Vec F S1x128 .f32) : quot m c t xs = quot m c t xs' := rfl

/-- At the first point neither does the new scratch row. -/
theorem scr_first (c : Dev nD) (t : Fin cfg0.N) (ht : t.val = 0) (xs xs' : Vec F S1x128 .f32) : scr m c t xs = scr m c t xs' := by
  have e0 : (grid0.coords t 0).val = 0 := (coord_val t).trans ht
  unfold scr runAt
  dsimp only [bodyRun]
  unfold bodyRun.sl.HS0_1
  rw [e0]
  rw [pay_first]

/-- The scratch row before point `n`; before the first point it is of no consequence. -/
def scrBefore (c : Dev nD) : (n : ℕ) → n ≤ cfg0.N → Vec F S1x128 .f32
  | 0, _ => VS.read (Elt F) VS.junk
  | n + 1, hn => scr m c ⟨n, hn⟩ (scrBefore c n (Nat.le_of_succ_le hn))

/-- The region invariant before point `n`: at the start what the launch hands over, afterwards the scratch row at what the
    points before left. -/
def PhiS (c : Dev nD) : (n : ℕ) → n ≤ cfg0.N → sProp 𝕄
  | 0, _ => Pipeline.ΦA spec0 c
  | n + 1, hn => iprop(iprop(owns (c : Thread nD τ) scM fullShare (scrBefore m c (n + 1) hn)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM fullShare (scrBefore m c n h)) ∗ (∃ r, prngReg c r)) := by
  cases n with
  | zero => exact absurd rfl hz
  | succ n => rfl

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => quot m c t (scrBefore m c t.val (Nat.le_of_lt t.isLt))
    | ⟨3, _⟩ => total m c t (scrBefore m c t.val (Nat.le_of_lt t.isLt))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = quot m c t (scrBefore m c t.val (Nat.le_of_lt t.isLt)) := by dsimp only [dats]
theorem after_3 (c : Dev nD) (t : Fin cfg0.N) :
    (dats m 0 c).after 3 t = total m c t (scrBefore m c t.val (Nat.le_of_lt t.isLt)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

/-- What the body is given at point `t` besides the scratch row and the register, -/
def given (c : Dev nD) (t : Fin cfg0.N) : sProp 𝕄 :=
  iprop((dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- and what it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at point `t` from a scratch row `xs` that leads to the stated one. -/
theorem sound_from (c : Dev nD) (t : Fin cfg0.N) (xs : Vec F S1x128 .f32)
    (hs : scr m c t xs = scrBefore m c (t.val + 1) t.isLt)
    (hl : k0_cond1 (grid0.coords t) = 1#1 → xs = scrBefore m c t.val (Nat.le_of_lt t.isLt)) :
    iprop(iprop(owns (c : Thread nD τ) scM fullShare xs ∗ (∃ r, prngReg c r)) ∗ given m c t)
      ⊢ wp frame (wpE (defs₀ (F := F)) Variants.none c none) Set.univ (bodyAt0 t) (fun _ => returned m c t) := by
  unfold given returned bodyAt0
  simp only [before_0, before_1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), ← hs]
  rw [show (dats m 0 c).leavesExact 0 t = owns (c : Thread nD τ) (st0 t) fullShare ((dats m 0 c).after 0 t) from by
    unfold Dat.leavesExact; rw [live_0 t], after_0]
  rw [show (dats m 0 c).leavesExact 1 t = owns (c : Thread nD τ) (st1 t) fullShare ((dats m 0 c).after 1 t) from by
    unfold Dat.leavesExact; rw [live_1 t], after_1]
  rw [show (dats m 0 c).leavesExact 2 t = owns (c : Thread nD τ) (st2 t) fullShare ((dats m 0 c).after 2 t) from by
    unfold Dat.leavesExact; rw [live_2 t], after_2, quot_indep m c t _ xs]
  by_cases h1 : k0_cond1 (grid0.coords t) = 1#1
  · rw [show (dats m 0 c).leavesExact 3 t = owns (c : Thread nD τ) (st3 t) fullShare ((dats m 0 c).after 3 t) from by
      unfold Dat.leavesExact; rw [live_3 t h1], after_3, ← hl h1]
    unfold quot total scr
    iintro ⟨⟨HS0, Hg⟩, Ho, ⟨%d0, H0⟩, ⟨%d1, H1⟩, ⟨%d2, H2⟩, ⟨%d3, H3⟩⟩
    iapply ((runAt m c t xs).2.2.2 _ Set.univ _)
    rw [if_pos h1]
    isplitl [H0]; · iexact H0
    isplitl [H1]; · iexact H1
    isplitl [H2]; · iexists _; iexact H2
    isplitl [H3]; · iexact H3
    isplitl [HS0]; · iexact HS0
    iintro ⟨H0, H1, ⟨%e2, H2⟩, ⟨%e3, H3⟩, ⟨%es0, HS0⟩⟩
    isplitl [HS0 Hg]
    · isplitl [HS0]
      · unfold owns; iexists _; isplitr
        swap; · iexact HS0
        ipureintro; exact View.read_writes_of_cover _ _ _ _ _ (cover_s m c t xs)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_2 m c t xs)
    unfold owns; iexists _; isplitr
    swap; · iexact H3
    ipureintro; exact View.read_writes_of_cover _ _ _ _ _ (cover_3 m c t xs)
  · rw [Dat.leavesExact_idle (dats m 0 c) 3 t (idle_3 t h1) (noFlush_3 t h1)]
    unfold quot scr
    iintro ⟨⟨HS0, Hg⟩, Ho, ⟨%d0, H0⟩, ⟨%d1, H1⟩, ⟨%d2, H2⟩, ⟨%d3, H3⟩⟩
    iapply ((runAt m c t xs).2.2.2 _ Set.univ _)
    rw [if_neg h1]
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 Hg]
    · isplitl [HS0]
      · unfold owns; iexists _; isplitr
        swap; · iexact HS0
        ipureintro; exact View.read_writes_of_cover _ _ _ _ _ (cover_s m c t xs)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_2 m c t xs)
    iexists _; iexact H3

/-- The body at any point. -/
theorem sound_body (c : Dev nD) (t : Fin cfg0.N) :
    iprop((dats m 0 c).Φ t.castSucc ∗ given m c t)
      ⊢ wp frame (wpE (defs₀ (F := F)) Variants.none c none) Set.univ (bodyAt0 t) (fun _ => returned m c t) := by
  rw [Phi_castSucc]
  by_cases hz : t.val = 0
  · rw [PhiS_zero m c _ _ hz, PhiA_eq]
    iintro ⟨⟨⟨%d, HS⟩, Hg⟩, H⟩
    iapply (sound_from m c t d (scr_first m c t hz _ _) (fun h => by
      have := (cond_iff t).mp h; omega))
    isplitl [HS Hg]
    · isplitl [HS]; · iexact HS
      iexact Hg
    iexact H
  · rw [PhiS_pos m c _ _ hz]
    exact sound_from m c t _ rfl fun _ => rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS0, Hg⟩
  isplitl [HS0]
  · iexists _; iexact HS0
  iexact Hg

/-! ## The run and the frame -/

-- the launch theorem's implicit arguments are found by unifying its conclusion with this one, which takes unfolding plain
-- definitions in a metavariable's type
set_option backward.isDefEq.respectTransparency.types false in
set_option maxHeartbeats 800000 in
/-- The launch: the run, and every semaphore counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every execution of @main ends with the arrays of the pipeline at what the proof data say. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.Ref.Frame.lean ====
module

public import proofs.«01_k».proof.Proof.Gen.ReferenceIdeal.Run
public import Idealize.ShloMosaic.Lib.Claim

@[expose] public section

/-!
The frame of the reference: it runs, leaves its arguments as they were, and has no semaphore.
-/

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The arguments end unchanged and every counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (Value.run m ρ)

end Cert.ReferenceIdeal.Hand

end
-- ==== Proof.Ref.Model.lean ====
module

public import proofs.«01_k».proof.Proof.Gen.ReferenceIdeal.Run

@[expose] public section

/-!
The reference's arithmetic, said once: the array operations it uses, a box and its corners, one clipping step, the area and
the hull.
-/

noncomputable section

namespace Cert.RefM

open Cert.ReferenceIdeal Cert.ReferenceIdeal.Gen Idealize.ShloMosaic

variable {F : FTy → Type} [FloatOps F]

/-- One number per pair of boxes. -/
abbrev One (F : FTy → Type) : Type := FVec F S131072 .f32
/-- A column of numbers. -/
abbrev Col (F : FTy → Type) : Type := FVec F S131072x1 .f32
/-- Four numbers per pair of boxes. -/
abbrev Four (F : FTy → Type) : Type := FVec F S131072x4 .f32
/-- Eight numbers per pair of boxes. -/
abbrev Eight (F : FTy → Type) : Type := FVec F S131072x8 .f32

section moves
variable {α : Type}

/-- A vector as a column. -/
def up (x : S131072.Idx → α) : S131072x1.Idx → α := broadcastInDim S131072x1 ![0] bcast_S131072_S131072x1_0 x
/-- A column repeated in eight slots. -/
def wide (x : S131072x1.Idx → α) : S131072x8.Idx → α := broadcastInDim S131072x8 ![0, 1] bcast_S131072x1_S131072x8_0_1 x
/-- One value for every pair. -/
def all1 (x : S_.Idx → α) : S131072.Idx → α := broadcastInDim S131072 ![] bcast_S_S131072 x
/-- One value for every slot. -/
def all8 (x : S_.Idx → α) : S131072x8.Idx → α := broadcastInDim S131072x8 ![] bcast_S_S131072x8 x
/-- The first slot. -/
def head (x : S131072x8.Idx → α) : S131072x1.Idx → α := extractStridedSlice S131072x1 ![0, 0] x slices_S131072x8_S131072x1_0_0
/-- The slots moved down by one, the first to the end. -/
def roll (x : S131072x8.Idx → α) : S131072x8.Idx → α :=
  concatenate S131072x8 1 [⟨S131072x7, extractStridedSlice S131072x7 ![0, 1] x slices_S131072x8_S131072x7_0_1⟩, ⟨S131072x1, head x⟩]
    concatenates_S131072x7_S131072x1_S131072x8_d1
/-- The next slot; behind the last vertex, the first. -/
def after (last : IVec S131072x8 1) (x : S131072x8.Idx → α) : S131072x8.Idx → α := select last (wide (head x)) (roll x)
/-- Two arrays' slots in turn. -/
def pairUp (x y : S131072x8.Idx → α) : S131072x16.Idx → α :=
  shapeCast _ (concatenate S131072x8x2 2 [⟨S131072x8x1, broadcastInDim S131072x8x1 ![0, 1] bcast_S131072x8_S131072x8x1_0_1 x⟩,
    ⟨S131072x8x1, broadcastInDim S131072x8x1 ![0, 1] bcast_S131072x8_S131072x8x1_0_1 y⟩]
    concatenates_S131072x8x1_S131072x8x1_S131072x8x2_d2) shapeCasts_S131072x8x2_S131072x16
/-- Two groups of four slots. -/
def both (x y : S131072x4.Idx → α) : S131072x8.Idx → α :=
  concatenate S131072x8 1 [⟨S131072x4, x⟩, ⟨S131072x4, y⟩] concatenates_S131072x4_S131072x4_S131072x8_d1
/-- Four columns. -/
def four (x y z w : S131072.Idx → α) : S131072x4.Idx → α :=
  concatenate S131072x4 1 [⟨S131072x1, up x⟩, ⟨S131072x1, up y⟩, ⟨S131072x1, up z⟩, ⟨S131072x1, up w⟩]
    concatenates_S131072x1_S131072x1_S131072x1_S131072x1_S131072x4_d1
/-- A column of the boxes' array. -/
def col (x : S131072x6.Idx → α) (k : ℕ) (h : S131072x6.Slices ![0, k] S131072x1) : S131072.Idx → α :=
  shapeCast _ (extractStridedSlice S131072x1 ![0, k] x h) shapeCasts_S131072x1_S131072
/-- A column of the corners' array. -/
def col4 (x : S131072x4.Idx → α) (k : ℕ) (h : S131072x4.Slices ![0, k] S131072x1) : S131072.Idx → α :=
  shapeCast _ (extractStridedSlice S131072x1 ![0, k] x h) shapeCasts_S131072x1_S131072

end moves

/-- The number with these bits for every pair. -/
def num1 (b : BitVec 32) : One F := all1 (constant S_ .f32 b)
/-- The number with these bits in every slot. -/
def num8 (b : BitVec 32) : Eight F := all8 (constant S_ .f32 b)
/-- The integer in every place. -/
def int1 (b : BitVec 32) : IVec S131072 32 := all1 (constantI S_ 32 b)

/-- The boxes: an array with six columns. -/
abbrev Boxes (F : FTy → Type) : Type := FVec F S131072x6 .f32

namespace Boxes
variable (b : Boxes F)

def x : One F := col b 0 slices_S131072x6_S131072x1_0_0
def y : One F := col b 1 slices_S131072x6_S131072x1_0_1
def w : One F := col b 2 slices_S131072x6_S131072x1_0_2
def l : One F := col b 3 slices_S131072x6_S131072x1_0_3
def im : One F := col b 4 slices_S131072x6_S131072x1_0_4
def re : One F := col b 5 slices_S131072x6_S131072x1_0_5
/-- The angle. -/
def ang : One F := Host.atan2 (im b) (re b)
def c : One F := Host.cos (ang b)
def s : One F := Host.sin (ang b)
def hw : One F := mulf (w b) (num1 0x3F000000#32)
def hl : One F := mulf (l b) (num1 0x3F000000#32)

/-- The corners' first coordinates. -/
def cx0 : One F := subf (subf (x b) (mulf (hw b) (c b))) (mulf (hl b) (s b))
def cx1 : One F := addf (subf (x b) (mulf (hw b) (c b))) (mulf (hl b) (s b))
def cx2 : One F := addf (addf (x b) (mulf (hw b) (c b))) (mulf (hl b) (s b))
def cx3 : One F := subf (addf (x b) (mulf (hw b) (c b))) (mulf (hl b) (s b))
/-- The corners' second coordinates. -/
def cy0 : One F := addf (subf (y b) (mulf (hw b) (s b))) (mulf (hl b) (c b))
def cy1 : One F := subf (subf (y b) (mulf (hw b) (s b))) (mulf (hl b) (c b))
def cy2 : One F := subf (addf (y b) (mulf (hw b) (s b))) (mulf (hl b) (c b))
def cy3 : One F := addf (addf (y b) (mulf (hw b) (s b))) (mulf (hl b) (c b))

def cx : Four F := four (cx0 b) (cx1 b) (cx2 b) (cx3 b)
def cy : Four F := four (cy0 b) (cy1 b) (cy2 b) (cy3 b)

end Boxes

/-- The state between two clipping steps: the slots' coordinates, the number of vertices, whether clipping has ended. -/
structure RSt (F : FTy → Type) where
  px : Eight F
  py : Eight F
  m : IVec S131072 32
  fr : IVec S131072 1

/-- The slots' numbers. -/
def slot : IVec S131072x8 32 := iotaInDim S131072x8 32 1

/-- A line: its coefficients. -/
structure RLine (F : FTy → Type) where
  a : Col F
  b : Col F
  c : Col F

/-- The line through two points. -/
def lineOf (px py qx qy : One F) : RLine F where
  a := up (subf qy py)
  b := up (subf px qx)
  c := up (subf (mulf qx py) (mulf qy px))

namespace RSt
variable (S : RSt F) (L : RLine F)

def used : IVec S131072x8 1 := cmpi .slt slot (wide (up S.m))
def last : IVec S131072x8 1 := cmpi .sge (addi slot (all8 (constantI S_ 32 1#32))) (wide (up S.m))
def vals : Eight F := addf (addf (mulf (wide L.a) S.px) (mulf (wide L.b) S.py)) (wide L.c)
def tx : Eight F := after S.last S.px
def ty : Eight F := after S.last S.py
def crossing : IVec S131072x8 1 := andi S.used (cmpf .olt (mulf (S.vals L) (after S.last (S.vals L))) (num8 0x00000000#32))
def keep : IVec S131072x8 1 := andi S.used (cmpf .ole (S.vals L) (num8 0x00000000#32))
def a2 : Eight F := subf S.ty S.py
def b2 : Eight F := subf S.px S.tx
def c2 : Eight F := subf (mulf S.tx S.py) (mulf S.ty S.px)
def det : Eight F := select (S.crossing L) (subf (mulf (wide L.a) S.b2) (mulf (wide L.b) S.a2)) (all8 (id (constant S_ .f32 0x3F800000#32)))
def ix : Eight F := Host.divf (subf (mulf (wide L.b) S.c2) (mulf (wide L.c) S.b2)) (S.det L)
def iy : Eight F := Host.divf (subf (mulf (wide L.c) S.a2) (mulf (wide L.a) S.c2)) (S.det L)
def candX : FVec F S131072x16 .f32 := pairUp S.px (S.ix L)
def candY : FVec F S131072x16 .f32 := pairUp S.py (S.iy L)
def mark : IVec S131072x16 1 := pairUp (S.keep L) (S.crossing L)
def count : IVec S131072 32 := Host.reduce IntOp.addi (extui 32 (S.mark L) natLt_1_32) (constantI S_ 32 0#32) reducesTo_S131072x16_S131072_d1 h_S_
def go : IVec S131072 1 := andi (noti S.fr) (cmpi .sgt S.m (int1 2#32))
def acc : IVec S131072 1 := andi S.go (cmpi .sgt (S.count L) (int1 0#32))
def sorted : IVec S131072x16 1 × FVec F S131072x16 .f32 × FVec F S131072x16 .f32 :=
  Host.sort3 S131072x16 1 comparator_i1_f32_f32_d1 (noti (S.mark L)) (S.candX L) (S.candY L)
/-- One clipping step. -/
def next : RSt F where
  px := select (wide (up (S.acc L))) (extractStridedSlice S131072x8 ![0, 0] (S.sorted L).2.1 slices_S131072x16_S131072x8_0_0) S.px
  py := select (wide (up (S.acc L))) (extractStridedSlice S131072x8 ![0, 0] (S.sorted L).2.2 slices_S131072x16_S131072x8_0_0) S.py
  m := select (S.acc L) (minsi (S.count L) (int1 8#32)) S.m
  fr := ori S.fr (andi S.go (cmpi .eq (S.count L) (int1 0#32)))

/-- A coordinate of the polygon, the first vertex in the slots not in use. -/
def full (x : Eight F) : Eight F := select S.used x (wide (head x))
/-- The polygon's area. -/
def area : One F :=
  select (cmpi .sgt S.m (int1 2#32))
    (mulf (num1 0x3F000000#32) (Host.absf (Host.reduceAdd (subf (mulf (S.full S.px) (roll (S.full S.py))) (mulf (S.full S.py) (roll (S.full S.px))))
      (constant S_ .f32 0x00000000#32) reducesTo_S131072x8_S131072_d1 h_S_)))
    (all1 (id (constant S_ .f32 0x00000000#32)))

end RSt

/-- The first state: the box's corners. -/
def start (p : Boxes F) : RSt F where
  px := both p.cx (broadcastInDim S131072x4 ![] bcast_S_S131072x4 (constant S_ .f32 0x00000000#32))
  py := both p.cy (broadcastInDim S131072x4 ![] bcast_S_S131072x4 (constant S_ .f32 0x00000000#32))
  m := int1 4#32
  fr := all1 (constantI S_ 1 0#1)

/-- The line along a box's side, between two of its corners. -/
def side (t : Boxes F) (i j : ℕ) (hi : S131072x4.Slices ![0, i] S131072x1) (hj : S131072x4.Slices ![0, j] S131072x1) : RLine F :=
  lineOf (col4 t.cx i hi) (col4 t.cy i hi) (col4 t.cx j hj) (col4 t.cy j hj)

variable (p t : Boxes F)

def step1 : RSt F := (start p).next (side t 0 1 slices_S131072x4_S131072x1_0_0 slices_S131072x4_S131072x1_0_1)
def step2 : RSt F := (step1 p t).next (side t 1 2 slices_S131072x4_S131072x1_0_1 slices_S131072x4_S131072x1_0_2)
def step3 : RSt F := (step2 p t).next (side t 2 3 slices_S131072x4_S131072x1_0_2 slices_S131072x4_S131072x1_0_3)
def step4 : RSt F := (step3 p t).next (side t 3 0 slices_S131072x4_S131072x1_0_3 slices_S131072x4_S131072x1_0_0)

/-- The area of the intersection. -/
def inter : One F := (step4 p t).area
/-- The area of the union. -/
def union : One F := subf (addf (mulf p.w p.l) (mulf t.w t.l)) (inter p t)
/-- The quotient of the two. -/
def iou : One F := Host.divf (inter p t) (addf (union p t) (num1 0x24E69595#32))

section hull
variable (x y : Eight F)

/-- A number per ordered pair of corners from one per corner, the first of the pair or the second. -/
def fst8 (x : Eight F) : FVec F S131072x8x8 .f32 :=
  broadcastInDim S131072x8x8 ![0, 1, 2] bcast_S131072x8x1_S131072x8x8_0_1_2 (broadcastInDim S131072x8x1 ![0, 1] bcast_S131072x8_S131072x8x1_0_1 x)
def snd8 (x : Eight F) : FVec F S131072x8x8 .f32 :=
  broadcastInDim S131072x8x8 ![0, 1, 2] bcast_S131072x1x8_S131072x8x8_0_1_2 (broadcastInDim S131072x1x8 ![0, 2] bcast_S131072x8_S131072x1x8_0_2 x)
/-- The difference of a coordinate along a pair. -/
def dif (x : Eight F) : FVec F S131072x8x8 .f32 := subf (snd8 x) (fst8 x)
/-- A number per triple from one per pair, of the first and second or of the first and third. -/
def ij8 (x : FVec F S131072x8x8 .f32) : FVec F S131072x8x8x8 .f32 :=
  broadcastInDim S131072x8x8x8 ![0, 1, 2, 3] bcast_S131072x8x8x1_S131072x8x8x8_0_1_2_3
    (broadcastInDim S131072x8x8x1 ![0, 1, 2] bcast_S131072x8x8_S131072x8x8x1_0_1_2 x)
def ik8 (x : FVec F S131072x8x8 .f32) : FVec F S131072x8x8x8 .f32 :=
  broadcastInDim S131072x8x8x8 ![0, 1, 2, 3] bcast_S131072x8x1x8_S131072x8x8x8_0_1_2_3
    (broadcastInDim S131072x8x1x8 ![0, 1, 3] bcast_S131072x8x8_S131072x8x1x8_0_1_3 x)
/-- Twice the signed area of a triangle of corners. -/
def tri8 : FVec F S131072x8x8x8 .f32 := subf (mulf (ij8 (dif x)) (ik8 (dif y))) (mulf (ij8 (dif y)) (ik8 (dif x)))
/-- No corner lies to the right. -/
def left8 : IVec S131072x8x8 1 :=
  Host.reduce IntOp.andi (cmpf .oge (tri8 x y) (broadcastInDim S131072x8x8x8 ![] bcast_S_S131072x8x8x8 (constant S_ .f32 0xB58637BD#32)))
    (constantI S_ 1 1#1) reducesTo_S131072x8x8x8_S131072x8x8_d3 h_S_
/-- The two corners are apart. -/
def apart8 : IVec S131072x8x8 1 :=
  cmpf .ogt (addf (mulf (dif x) (dif x)) (mulf (dif y) (dif y))) (broadcastInDim S131072x8x8 ![] bcast_S_S131072x8x8 (constant S_ .f32 0x2B8CBCCC#32))
/-- What a pair adds to twice the hull's area. -/
def edge8 : FVec F S131072x8x8 .f32 :=
  select (andi (left8 x y) (apart8 x y)) (subf (mulf (fst8 x) (snd8 y)) (mulf (fst8 y) (snd8 x)))
    (broadcastInDim S131072x8x8 ![] bcast_S_S131072x8x8 (id (constant S_ .f32 0x00000000#32)))
/-- The hull's area. -/
def hull8 : One F :=
  mulf (num1 0x3F000000#32) (Host.absf (Host.reduceAdd (edge8 x y) (constant S_ .f32 0x00000000#32) reducesTo_S131072x8x8_S131072_d1_2 h_S_))
end hull

/-- The hull's area, of the eight corners. -/
def hull : One F := hull8 (both p.cx t.cx) (both p.cy t.cy)
/-- The loss of every pair. -/
def giou : One F :=
  subf (num1 0x3F800000#32) (subf (iou p t) (Host.divf (subf (hull p t) (union p t)) (addf (hull p t) (num1 0x24E69595#32))))
/-- The loss. -/
def loss : FVec F S1 .f32 :=
  shapeCast _ (Host.reduceAdd (giou p t) (constant S_ .f32 0x00000000#32) reducesTo_S131072_S_d0 h_S_) shapeCasts_S_S1

end Cert.RefM

end
-- ==== Proof.Ref.Eq.lean ====
module

public import proofs.«01_k».proof.Proof.Ref.Model

@[expose] public section

/-!
The printed reference is the arithmetic as said once: its results are `iou` and `loss` of its two arguments.
-/

noncomputable section

namespace Cert.RefM

open Cert.ReferenceIdeal Cert.ReferenceIdeal.Gen Cert.ReferenceIdeal.Value Idealize.ShloMosaic Idealize.ShloMosaic.TcCoe Idealize.SL.Sem

variable {F : FTy → Type} [FloatOps F] (V0 : Valuation τ sig (Elt F))

/-- The two arguments. -/
def argP : Boxes F := V0 (Proc.devRef .tc main_arg0)
def argT : Boxes F := V0 (Proc.devRef .tc main_arg1)

theorem cx_p : res_main_v39 V0 = (argP V0).cx := rfl
theorem cy_p : res_main_v60 V0 = (argP V0).cy := rfl
theorem cx_t : res_main_v100 V0 = (argT V0).cx := rfl
theorem cy_t : res_main_v121 V0 = (argT V0).cy := rfl

/-- The states as printed. -/
def pst0 : RSt F := ⟨res_main_v133 V0, res_main_v134 V0, res_main_v135 V0, res_main_v136 V0⟩
def pst1 : RSt F := ⟨res_main_v233 V0, res_main_v236 V0, res_main_v239 V0, res_main_v243 V0⟩
def pst2 : RSt F := ⟨res_main_v339 V0, res_main_v342 V0, res_main_v345 V0, res_main_v349 V0⟩
def pst3 : RSt F := ⟨res_main_v445 V0, res_main_v448 V0, res_main_v451 V0, res_main_v455 V0⟩

/-- The lines as printed. -/
def pl0 : RLine F := ⟨res_main_v147 V0, res_main_v149 V0, res_main_v153 V0⟩
def pl1 : RLine F := ⟨res_main_v253 V0, res_main_v255 V0, res_main_v259 V0⟩
def pl2 : RLine F := ⟨res_main_v359 V0, res_main_v361 V0, res_main_v365 V0⟩
def pl3 : RLine F := ⟨res_main_v465 V0, res_main_v467 V0, res_main_v471 V0⟩

theorem pst0_eq : pst0 V0 = start (argP V0) := rfl
theorem pl0_eq : pl0 V0 = side (argT V0) 0 1 slices_S131072x4_S131072x1_0_0 slices_S131072x4_S131072x1_0_1 := rfl
theorem pl1_eq : pl1 V0 = side (argT V0) 1 2 slices_S131072x4_S131072x1_0_1 slices_S131072x4_S131072x1_0_2 := rfl
theorem pl2_eq : pl2 V0 = side (argT V0) 2 3 slices_S131072x4_S131072x1_0_2 slices_S131072x4_S131072x1_0_3 := rfl
theorem pl3_eq : pl3 V0 = side (argT V0) 3 0 slices_S131072x4_S131072x1_0_3 slices_S131072x4_S131072x1_0_0 := rfl

theorem pst1_eq : pst1 V0 = (pst0 V0).next (pl0 V0) := rfl
theorem pst2_eq : pst2 V0 = (pst1 V0).next (pl1 V0) := rfl
theorem pst3_eq : pst3 V0 = (pst2 V0).next (pl2 V0) := rfl
theorem area_eq : res_main_v580 V0 = ((pst3 V0).next (pl3 V0)).area := rfl

theorem step3_eq : pst3 V0 = step3 (argP V0) (argT V0) := by
  rw [pst3_eq, pst2_eq, pst1_eq, pst0_eq, pl0_eq, pl1_eq, pl2_eq]; rfl

theorem inter_eq : res_main_v580 V0 = inter (argP V0) (argT V0) := by
  rw [area_eq, step3_eq, pl3_eq]; rfl

theorem union_eq : res_main_v582 V0 = union (argP V0) (argT V0) := by
  unfold union; rw [← inter_eq]; rfl

theorem hull_eq : res_main_v633 V0 = hull (argP V0) (argT V0) := by
  unfold hull; rw [← cx_p, ← cy_p, ← cx_t, ← cy_t]; rfl

/-- The first result. -/
theorem iou_eq : Host.divf (res_main_v580 V0) (addf (res_main_v582 V0) (broadcastInDim S131072 ![] bcast_S_S131072 (constant S_ .f32 0x24E69595#32)))
    = iou (argP V0) (argT V0) := by
  unfold iou; rw [← inter_eq, ← union_eq]; rfl

/-- The second result. -/
theorem loss_eq : shapeCast _ (Host.reduceAdd (subf (broadcastInDim S131072 ![] bcast_S_S131072 (constant S_ .f32 0x3F800000#32)) (subf (Host.divf (res_main_v580 V0) (addf (res_main_v582 V0) (broadcastInDim S131072 ![] bcast_S_S131072 (constant S_ .f32 0x24E69595#32)))) (Host.divf (subf (res_main_v633 V0) (res_main_v582 V0)) (addf (res_main_v633 V0) (broadcastInDim S131072 ![] bcast_S_S131072 (constant S_ .f32 0x24E69595#32)))))) (constant S_ .f32 0x00000000#32) reducesTo_S131072_S_d0 h_S_) shapeCasts_S_S1
    = loss (argP V0) (argT V0) := by
  unfold loss giou; rw [← iou_eq, ← hull_eq, ← union_eq]; rfl

end Cert.RefM

end
-- ==== Proof.Ref.Run.lean ====
module

public import proofs.«01_k».proof.Proof.Ref.Eq

@[expose] public section

/-!
What the reference's run leaves in its two results.
-/

noncomputable section

namespace Cert.RefM

open Idealize.ShloMosaic Idealize.ShloMosaic.TcCoe Idealize.SL.Sem
open Cert.ReferenceIdeal

variable {F : FTy → Type} [FloatOps F]

/-- Every execution of the reference ends with the model's results on its own arguments. -/
theorem run (m : (ℓ : Loc nD τ sig) → Buf (Elt F) ℓ) (ρ : Dev nD → PrngReg) (A B : Dev nD → Boxes F)
    (hA : ∀ c : Dev nD, m ((c.tc : Thread nD τ).loc main_arg0) = A c) (hB : ∀ c : Dev nD, m ((c.tc : Thread nD τ).loc main_arg1) = B c) :
    θ_run defs (onTc (τ := τ) (main (F := F))) ⟨m, fun _ => 0, ρ⟩ fun r => ∀ c : Dev nD,
      r.2.mem ((c.tc : Thread nD τ).loc main_v585) = iou (A c) (B c)
      ∧ r.2.mem ((c.tc : Thread nD τ).loc main_v642) = loss (A c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    have ea : argP (StableHlo.launchContents m c) = A c := hA c
    have eb : argT (StableHlo.launchContents m c) = B c := hB c
    obtain ⟨h1, h2, h3⟩ := h c
    refine ⟨h1.trans ?_, h2.trans ?_, h3⟩
    · rw [iou_eq, ea, eb]
    · rw [loss_eq, ea, eb]) (Value.run m ρ)

end Cert.RefM

end
-- ==== Proof.Lane.Model.lean ====
module

public import proofs.«01_k».proof.Proof.Gen.KernelIdeal.Skeleton

@[expose] public section

/-!
The kernel's arithmetic on one block, said once. The printed body is one long list of vector operations; here the same
operations are written as short recursions over the vertex number: the corners of a box, one clipping step against a line,
the last step's area, and the hull. All operations are elementwise on vectors of one shape.
-/

noncomputable section

namespace Cert.Lane

open Idealize.ShloMosaic

variable {F : FTy → Type} [FloatOps F]

/-- The shape of a block of rows. -/
abbrev B : Shape := Cert.KernelIdeal.S32x128

/-- A vector of numbers over a block. -/
abbrev V (F : FTy → Type) : Type := FVec F B .f32

/-- The constant vector of the number with these bits. -/
def lit (b : BitVec 32) : V F := broadcast B (Scalar.ofBits .f32 b : F .f32)

/-- The bits of the numbers 0, 1, …, 8. -/
def natBits : ℕ → BitVec 32
  | 0 => 0x00000000#32 | 1 => 0x3F800000#32 | 2 => 0x40000000#32 | 3 => 0x40400000#32 | 4 => 0x40800000#32
  | 5 => 0x40A00000#32 | 6 => 0x40C00000#32 | 7 => 0x40E00000#32 | 8 => 0x41000000#32 | _ => 0x00000000#32

/-- The bits of the numbers 1/2, 3/2, …, 13/2. -/
def halfBits : ℕ → BitVec 32
  | 0 => 0x3F000000#32 | 1 => 0x3FC00000#32 | 2 => 0x40200000#32 | 3 => 0x40600000#32 | 4 => 0x40900000#32
  | 5 => 0x40B00000#32 | 6 => 0x40D00000#32 | _ => 0x00000000#32

/-- Zero. -/
def zr : V F := lit (natBits 0)
/-- One. -/
def on : V F := lit (natBits 1)

/-- A box: centre, extents and direction. -/
structure Box (F : FTy → Type) where
  x : V F
  y : V F
  w : V F
  l : V F
  im : V F
  re : V F

namespace Box
variable (b : Box F)

/-- The reciprocal length of the direction. -/
def inv : V F := rsqrt (addf (mulf b.im b.im) (mulf b.re b.re))
/-- The cosine. -/
def c : V F := mulf b.re b.inv
/-- The sine. -/
def s : V F := mulf b.im b.inv
def hw : V F := mulf b.w (lit (halfBits 0))
def hl : V F := mulf b.l (lit (halfBits 0))
def hwc : V F := mulf b.hw b.c
def hws : V F := mulf b.hw b.s
def hlc : V F := mulf b.hl b.c
def hls : V F := mulf b.hl b.s

/-- The corners' first coordinates. -/
def cx : ℕ → V F
  | 0 => subf (subf b.x b.hwc) b.hls
  | 1 => addf (subf b.x b.hwc) b.hls
  | 2 => addf (addf b.x b.hwc) b.hls
  | 3 => subf (addf b.x b.hwc) b.hls
  | _ => zr

/-- The corners' second coordinates. -/
def cy : ℕ → V F
  | 0 => addf (subf b.y b.hws) b.hlc
  | 1 => subf (subf b.y b.hws) b.hlc
  | 2 => subf (addf b.y b.hws) b.hlc
  | 3 => addf (addf b.y b.hws) b.hlc
  | _ => zr

end Box

/-- What a clipping step works on: the vertices, the marks of the slots in use, their number, whether clipping has
    ended. -/
structure St (F : FTy → Type) where
  px : ℕ → V F
  py : ℕ → V F
  mv : ℕ → V F
  m : V F
  fr : V F

/-- One clipping step: the state, the line's coefficients, how the next vertex is looked up, the marks used, the number of
    slots and whether this step is done. -/
structure Clip (F : FTy → Type) where
  st : St F
  a : V F
  b : V F
  c : V F
  nx : (ℕ → V F) → ℕ → V F
  us : ℕ → V F
  cap : ℕ
  go : V F

namespace Clip
variable (C : Clip F)

/-- The line's value at a vertex. -/
def vals (k : ℕ) : V F := addf (addf (mulf C.a (C.st.px k)) (mulf C.b (C.st.py k))) C.c
/-- The line is crossed between a vertex and the next. -/
def crossB (k : ℕ) : IVec B 1 := cmpf .olt (mulf (C.vals k) (C.nx C.vals k)) (zr (F := F))
/-- The vertex stays. -/
def keepB (k : ℕ) : IVec B 1 := cmpf .ole (C.vals k) (zr (F := F))
/-- The marks of the candidates: the vertices that stay and the crossings, in turn. -/
def kv (i : ℕ) : V F :=
  if i % 2 = 0 then select (C.keepB (i / 2)) (C.us (i / 2)) zr else select (C.crossB (i / 2)) (C.us (i / 2)) zr
/-- How far the crossing lies along the edge. -/
def tpar (k : ℕ) : V F := divf (C.vals k) (select (C.crossB k) (subf (C.vals k) (C.nx C.vals k)) on)
/-- The candidates' coordinate. -/
def cand (f : ℕ → V F) (i : ℕ) : V F :=
  if i % 2 = 0 then f (i / 2) else addf (f (i / 2)) (mulf (C.tpar (i / 2)) (subf (C.nx f (i / 2)) (f (i / 2))))
/-- How many of the first candidates are marked. -/
def run : ℕ → V F
  | 0 => zr
  | n + 1 => addf (run n) (C.kv n)
/-- How many are marked in all. -/
def tot : V F := C.run (2 * C.cap)
/-- The running number of a marked candidate. -/
def key (i : ℕ) : V F := mulf (C.run (i + 1)) (C.kv i)
/-- Of `n` candidates from the `j`-th on, the one with running number `j + 1`. -/
def pick (f : ℕ → V F) (j : ℕ) : ℕ → V F
  | 0 => zr
  | n + 1 => select (cmpf .oeq (C.key (j + n)) (lit (F := F) (natBits (j + 1)))) (C.cand f (j + n)) (pick f j n)
/-- The new polygon's coordinate. -/
def new (f : ℕ → V F) (j : ℕ) : V F := C.pick f j (2 * C.cap - j)
/-- The new polygon is taken. -/
def accB : IVec B 1 :=
  cmpf .ogt (select (cmpf .ogt C.tot (lit (F := F) (halfBits 0))) C.go zr) (lit (F := F) (halfBits 0))
/-- The state after the step. -/
def next : St F where
  px j := select C.accB (C.new C.st.px j) (C.st.px j)
  py j := select C.accB (C.new C.st.py j) (C.st.py j)
  mv j := select C.accB (select (cmpf .ogt C.tot (lit (F := F) (halfBits j))) on zr) (C.st.mv j)
  m := select C.accB (minimumf C.tot (lit (natBits (C.cap + 1)))) C.st.m
  fr := maximumf C.st.fr (select (cmpf .olt C.tot (lit (F := F) (halfBits 0))) C.go zr)

/-- A candidate is marked, as a truth value. -/
def kvB (i : ℕ) : IVec B 1 := cmpf .ogt (C.kv i) (lit (F := F) (halfBits 0))
/-- Going down from `x`: the last of `n` candidates ending at the last one that is marked. -/
def carry (f : ℕ → V F) (x : V F) : ℕ → V F
  | 0 => x
  | n + 1 => select (C.kvB (2 * C.cap - 1 - n)) (C.cand f (2 * C.cap - 1 - n)) (carry f x n)
/-- The first marked candidate. -/
def first (f : ℕ → V F) : V F := C.carry f zr (2 * C.cap)
/-- The sum of the cross products of marked candidates and the marked ones after them, from the last one down. -/
def cross : ℕ → V F
  | 0 => zr
  | n + 1 => addf (cross n) (select (C.kvB (2 * C.cap - 1 - n))
      (subf (mulf (C.cand C.st.px (2 * C.cap - 1 - n)) (C.carry C.st.py (C.first C.st.py) n))
        (mulf (C.cand C.st.py (2 * C.cap - 1 - n)) (C.carry C.st.px (C.first C.st.px) n))) zr)
/-- The new polygon's area. -/
def areaNew : V F := mulf (lit (halfBits 0)) (absf (C.cross (2 * C.cap)))
/-- The old polygon's coordinate, the first vertex in the slots not in use. -/
def full (f : ℕ → V F) (k : ℕ) : V F := select (cmpf .ogt (C.st.mv k) (lit (F := F) (halfBits 0))) (f k) (f 0)
/-- The sum of the cross products of the old polygon's slots and the next ones. -/
def ring : ℕ → V F
  | 0 => zr
  | n + 1 => addf (ring n) (subf (mulf (C.full C.st.px n) (C.full C.st.py ((n + 1) % C.cap)))
      (mulf (C.full C.st.py n) (C.full C.st.px ((n + 1) % C.cap))))
/-- The old polygon's area. -/
def areaOld : V F := mulf (lit (halfBits 0)) (absf (C.ring C.cap))
/-- The number of vertices after the last step. -/
def mLast : V F := select C.accB (minimumf C.tot (lit (natBits (C.cap + 1)))) C.st.m
/-- The area after the last step. -/
def area : V F := select (cmpf .ogt C.mLast (lit (F := F) (halfBits 2))) (select C.accB C.areaNew C.areaOld) zr

end Clip

/-- The first state: the box's own corners. -/
def start (p : Box F) : St F where
  px k := if k < 4 then p.cx k else zr
  py k := if k < 4 then p.cy k else zr
  mv k := if k < 4 then on else zr
  m := mulf on (lit (natBits 4))
  fr := zr

/-- The step against side `e` of the box `t`, with the next vertex looked up behind the last one in use. -/
def clip (t : Box F) (e : ℕ) (s : St F) : Clip F where
  st := s
  a := subf (t.cy ((e + 1) % 4)) (t.cy e)
  b := subf (t.cx e) (t.cx ((e + 1) % 4))
  c := subf (mulf (t.cx ((e + 1) % 4)) (t.cy e)) (mulf (t.cy ((e + 1) % 4)) (t.cx e))
  nx f k := if k + 1 < 4 + e then select (cmpf .ole s.m (lit (F := F) (natBits (k + 1)))) (f 0) (f (k + 1)) else f 0
  us := s.mv
  cap := 4 + e
  go := select (cmpf .ogt s.fr (lit (F := F) (halfBits 0))) zr (select (cmpf .ogt s.m (lit (F := F) (halfBits 2))) on zr)

/-- The step against the first side: all four vertices are in use. -/
def clip0 (t : Box F) (s : St F) : Clip F where
  st := s
  a := subf (t.cy 1) (t.cy 0)
  b := subf (t.cx 0) (t.cx 1)
  c := subf (mulf (t.cx 1) (t.cy 0)) (mulf (t.cy 1) (t.cx 0))
  nx f k := f ((k + 1) % 4)
  us _ := on
  cap := 4
  go := on

variable (p t : Box F)

/-- The states after the first three sides. -/
def st1 : St F := (clip0 t (start p)).next
def st2 : St F := (clip t 1 (st1 p t)).next
def st3 : St F := (clip t 2 (st2 p t)).next

/-- The area of the intersection. -/
def inter : V F := (clip t 3 (st3 p t)).area
/-- The area of the union. -/
def union : V F := subf (addf (mulf p.w p.l) (mulf t.w t.l)) (inter p t)
/-- The quotient of the two. -/
def iou : V F := divf (inter p t) (addf (union p t) (lit 0x24E69595#32))

/-- The eight corners. -/
def hx (k : ℕ) : V F := if k < 4 then p.cx k else t.cx (k - 4)
def hy (k : ℕ) : V F := if k < 4 then p.cy k else t.cy (k - 4)
/-- The cross product of two corners. -/
def cr (a b : ℕ) : V F := subf (mulf (hx p t a) (hy p t b)) (mulf (hy p t a) (hx p t b))
/-- The same, from the pair in increasing order. -/
def crs (a b : ℕ) : V F := if a < b then cr p t a b else subf zr (cr p t b a)
/-- Twice the signed area of the triangle `i`, `j`, `k`. -/
def tri (i j k : ℕ) : V F := addf (addf (cr p t i j) (crs p t j k)) (crs p t k i)
/-- The least and the greatest of a list of vectors. -/
def least : List (V F) → V F
  | [] => zr
  | x :: l => l.foldl minimumf x
def greatest : List (V F) → V F
  | [] => zr
  | x :: l => l.foldl maximumf x
/-- The bound below which a corner lies to the right. -/
def eps : V F := lit 0xB58637BD#32
/-- What the edge from `i` to `j` adds, the corners `ks` tested. -/
def fwd (i j : ℕ) (ks : List ℕ) : V F :=
  select (cmpf .oge (least (ks.map (tri p t i j))) (eps (F := F))) (cr p t i j) zr
/-- What the edge back from `j` to `i` takes away. -/
def bwd (i j : ℕ) (ks : List ℕ) : V F :=
  select (cmpf .oge (subf zr (greatest (ks.map (tri p t i j)))) (eps (F := F))) (cr p t i j) zr

/-- The corners tested for a pair: for two of the same box the other box's, else all but the pair. -/
def tested (i j : ℕ) : List ℕ :=
  if j < 4 then [4, 5, 6, 7] else if 4 ≤ i then [0, 1, 2, 3] else (List.range 8).filter fun k => k ≠ i ∧ k ≠ j
/-- A pair's part of the sum. -/
def pair (T : V F) (q : ℕ × ℕ) : V F :=
  if q.2 < 4 ∨ 4 ≤ q.1 then
    if q.2 = q.1 + 1 then addf T (fwd p t q.1 q.2 (tested q.1 q.2)) else subf T (bwd p t q.1 q.2 (tested q.1 q.2))
  else addf T (subf (fwd p t q.1 q.2 (tested q.1 q.2)) (bwd p t q.1 q.2 (tested q.1 q.2)))
/-- The pairs that count. -/
def pairs : List (ℕ × ℕ) :=
  [(0, 1), (0, 3), (0, 4), (0, 5), (0, 6), (0, 7), (1, 2), (1, 4), (1, 5), (1, 6), (1, 7), (2, 3), (2, 4), (2, 5), (2, 6),
    (2, 7), (3, 4), (3, 5), (3, 6), (3, 7), (4, 5), (4, 7), (5, 6), (6, 7)]
/-- The hull's area. -/
def hull : V F := mulf (lit (halfBits 0)) (absf (pairs.foldl (pair p t) zr))
/-- The loss at every pair of boxes. -/
def giou : V F :=
  subf on (subf (iou p t) (divf (subf (hull p t) (union p t)) (addf (hull p t) (lit 0x24E69595#32))))

end Cert.Lane

end
-- ==== Proof.Lane.States.lean ====
module

public import proofs.«01_k».proof.Proof.Lane.Model
public import proofs.«01_k».proof.Proof.KI.Run

@[expose] public section

/-!
The boxes of a block and the clipping states that the printed body's values hold after each of the first three sides.
-/

noncomputable section

namespace Cert.Lane

open Idealize.ShloMosaic Cert.KernelIdeal Cert.KernelIdeal.Hand Cert.KernelIdeal.Gen

variable {F : FTy → Type} [FloatOps F]
variable (c : Dev nD) (arg1 : Memref sig .tc .vmem S6x32x128 .f32) (harg1 : arg1.IsWhole) (arg2 : Memref sig .tc .vmem S6x32x128 .f32) (harg2 : arg2.IsWhole) (x0 x1 : Vec F S6x32x128 .f32)

/-- The first input's boxes in a block. -/
def boxP : Box F :=
  ⟨bodyRun.sl.v1 c arg1 harg1 x0, bodyRun.sl.v3 c arg1 harg1 x0, bodyRun.sl.v5 c arg1 harg1 x0,
    bodyRun.sl.v7 c arg1 harg1 x0, bodyRun.sl.v9 c arg1 harg1 x0, bodyRun.sl.v11 c arg1 harg1 x0⟩

/-- The second input's. -/
def boxT : Box F :=
  ⟨bodyRun.sl.v13 c arg2 harg2 x1, bodyRun.sl.v15 c arg2 harg2 x1, bodyRun.sl.v17 c arg2 harg2 x1,
    bodyRun.sl.v19 c arg2 harg2 x1, bodyRun.sl.v21 c arg2 harg2 x1, k0_pay15 (bodyRun.sl.r c arg2 harg2 x1)⟩

/-- The state after side 0. -/
def kst1 : St F where
  px := fun | 0 => bodyRun.sl.r_66 c arg1 harg1 arg2 harg2 x0 x1 | 1 => bodyRun.sl.r_70 c arg1 harg1 arg2 harg2 x0 x1 | 2 => bodyRun.sl.r_73 c arg1 harg1 arg2 harg2 x0 x1 | 3 => bodyRun.sl.r_76 c arg1 harg1 arg2 harg2 x0 x1 | 4 => bodyRun.sl.r_79 c arg1 harg1 arg2 harg2 x0 x1 | _ => zr
  py := fun | 0 => bodyRun.sl.r_67 c arg1 harg1 arg2 harg2 x0 x1 | 1 => bodyRun.sl.r_71 c arg1 harg1 arg2 harg2 x0 x1 | 2 => bodyRun.sl.r_74 c arg1 harg1 arg2 harg2 x0 x1 | 3 => bodyRun.sl.r_77 c arg1 harg1 arg2 harg2 x0 x1 | 4 => bodyRun.sl.r_80 c arg1 harg1 arg2 harg2 x0 x1 | _ => zr
  mv := fun | 0 => bodyRun.sl.r_69 c arg1 harg1 arg2 harg2 x0 x1 | 1 => bodyRun.sl.r_72 c arg1 harg1 arg2 harg2 x0 x1 | 2 => bodyRun.sl.r_75 c arg1 harg1 arg2 harg2 x0 x1 | 3 => bodyRun.sl.r_78 c arg1 harg1 arg2 harg2 x0 x1 | 4 => bodyRun.sl.r_81 c arg1 harg1 arg2 harg2 x0 x1 | _ => zr
  m := bodyRun.sl.r_82 c arg1 harg1 arg2 harg2 x0 x1
  fr := bodyRun.sl.r_83 c arg1 harg1 arg2 harg2 x0 x1

/-- The state after side 1. -/
def kst2 : St F where
  px := fun | 0 => bodyRun.sl.r_152 c arg1 harg1 arg2 harg2 x0 x1 | 1 => bodyRun.sl.r_155 c arg1 harg1 arg2 harg2 x0 x1 | 2 => bodyRun.sl.r_158 c arg1 harg1 arg2 harg2 x0 x1 | 3 => bodyRun.sl.r_161 c arg1 harg1 arg2 harg2 x0 x1 | 4 => bodyRun.sl.r_164 c arg1 harg1 arg2 harg2 x0 x1 | 5 => bodyRun.sl.r_167 c arg1 harg1 arg2 harg2 x0 x1 | _ => zr
  py := fun | 0 => bodyRun.sl.r_153 c arg1 harg1 arg2 harg2 x0 x1 | 1 => bodyRun.sl.r_156 c arg1 harg1 arg2 harg2 x0 x1 | 2 => bodyRun.sl.r_159 c arg1 harg1 arg2 harg2 x0 x1 | 3 => bodyRun.sl.r_162 c arg1 harg1 arg2 harg2 x0 x1 | 4 => bodyRun.sl.r_165 c arg1 harg1 arg2 harg2 x0 x1 | 5 => bodyRun.sl.r_168 c arg1 harg1 arg2 harg2 x0 x1 | _ => zr
  mv := fun | 0 => bodyRun.sl.r_154 c arg1 harg1 arg2 harg2 x0 x1 | 1 => bodyRun.sl.r_157 c arg1 harg1 arg2 harg2 x0 x1 | 2 => bodyRun.sl.r_160 c arg1 harg1 arg2 harg2 x0 x1 | 3 => bodyRun.sl.r_163 c arg1 harg1 arg2 harg2 x0 x1 | 4 => bodyRun.sl.r_166 c arg1 harg1 arg2 harg2 x0 x1 | 5 => bodyRun.sl.r_169 c arg1 harg1 arg2 harg2 x0 x1 | _ => zr
  m := bodyRun.sl.r_170 c arg1 harg1 arg2 harg2 x0 x1
  fr := bodyRun.sl.r_171 c arg1 harg1 arg2 harg2 x0 x1

/-- The state after side 2. -/
def kst3 : St F where
  px := fun | 0 => bodyRun.sl.r_250 c arg1 harg1 arg2 harg2 x0 x1 | 1 => bodyRun.sl.r_253 c arg1 harg1 arg2 harg2 x0 x1 | 2 => bodyRun.sl.r_256 c arg1 harg1 arg2 harg2 x0 x1 | 3 => bodyRun.sl.r_259 c arg1 harg1 arg2 harg2 x0 x1 | 4 => bodyRun.sl.r_263 c arg1 harg1 arg2 harg2 x0 x1 | 5 => bodyRun.sl.r_266 c arg1 harg1 arg2 harg2 x0 x1 | 6 => bodyRun.sl.r_269 c arg1 harg1 arg2 harg2 x0 x1 | _ => zr
  py := fun | 0 => bodyRun.sl.r_251 c arg1 harg1 arg2 harg2 x0 x1 | 1 => bodyRun.sl.r_254 c arg1 harg1 arg2 harg2 x0 x1 | 2 => bodyRun.sl.r_257 c arg1 harg1 arg2 harg2 x0 x1 | 3 => bodyRun.sl.r_260 c arg1 harg1 arg2 harg2 x0 x1 | 4 => bodyRun.sl.r_264 c arg1 harg1 arg2 harg2 x0 x1 | 5 => bodyRun.sl.r_267 c arg1 harg1 arg2 harg2 x0 x1 | 6 => bodyRun.sl.r_270 c arg1 harg1 arg2 harg2 x0 x1 | _ => zr
  mv := fun | 0 => bodyRun.sl.r_252 c arg1 harg1 arg2 harg2 x0 x1 | 1 => bodyRun.sl.r_255 c arg1 harg1 arg2 harg2 x0 x1 | 2 => bodyRun.sl.r_258 c arg1 harg1 arg2 harg2 x0 x1 | 3 => bodyRun.sl.r_262 c arg1 harg1 arg2 harg2 x0 x1 | 4 => bodyRun.sl.r_265 c arg1 harg1 arg2 harg2 x0 x1 | 5 => bodyRun.sl.r_268 c arg1 harg1 arg2 harg2 x0 x1 | 6 => bodyRun.sl.r_271 c arg1 harg1 arg2 harg2 x0 x1 | _ => zr
  m := bodyRun.sl.r_272 c arg1 harg1 arg2 harg2 x0 x1
  fr := bodyRun.sl.r_273 c arg1 harg1 arg2 harg2 x0 x1

/-- Two states agree on the slots below `n`. -/
structure Agree (n : ℕ) (s s' : St F) : Prop where
  px : ∀ k < n, s.px k = s'.px k
  py : ∀ k < n, s.py k = s'.py k
  mv : ∀ k < n, s.mv k = s'.mv k
  m : s.m = s'.m
  fr : s.fr = s'.fr

end Cert.Lane

end
-- ==== Proof.Val.Blocks.lean ====
module

public import proofs.«01_k».proof.Proof.KI.Frame
public import proofs.«01_k».proof.Proof.Lane.States
public import Idealize.ShloMosaic.Lib.Pipeline.ValueKit
public import Idealize.ShloMosaic.Lib.WholeRead
public import Idealize.ShloMosaic.Lib.Pointwise

@[expose] public section

/-!
Where the body's six planes of a box come from: an entry of a plane at a grid point is an entry of the argument array.
-/

set_option maxRecDepth 16384

noncomputable section

namespace Cert.Val

open Idealize.ShloMosaic Idealize.ShloMosaic.TcCoe Idealize.ShloMosaic.Tactic
open Cert.KernelIdeal Cert.KernelIdeal.Gen Cert.KernelIdeal.Hand Cert.Lane

section planes
variable {F : FTy → Type} [FloatOps F]
variable (c : Dev nD) (arg : Memref sig .tc .vmem S6x32x128 .f32) (h : arg.IsWhole) (x : Vec F S6x32x128 .f32) (a : Fin 32) (l : Fin 128)

theorem drop_at {α : Type} (y : S1x32x128.Idx → α) (hn : S1x32x128.ShapeCasts S32x128) : shapeCast S32x128 y hn (ix2 a l) = y (ix3 0 a l) := by
  pointwise

/-- A plane of a block. -/
theorem plane_at (k : ℕ) (hk : k < 6) (hi) (hn : S1x32x128.ShapeCasts S32x128) :
    shapeCast S32x128 (View.readAt (Elt F) arg.view (Rect.unit (s := S6x32x128) ![k, 0, 0] S1x32x128.size hi).toLoadRect (h.unread x)) hn (ix2 a l)
      = x (ix3 ⟨k, hk⟩ a l) := by
  refine ((drop_at a l _ hn).trans (h.readAt_unread x (Rect.unit (s := S6x32x128) ![k, 0, 0] S1x32x128.size hi).toLoadRect (ix3 0 a l))).trans (congrArg x ?_)
  · funext d; apply Fin.ext
    fin_cases d <;> simp

end planes

section entries
variable {F : FTy → Type} [FloatOps F] (m : (ℓ : Loc nD τ sig) → Buf (Elt F) ℓ) (c : Dev nD)

/-- The first array as the region finds it. -/
theorem whole_0 : V m c main_v1 = (shapeCast S6x1024x128 (transpose S6x131072 [1, 0] (m ((c : Thread nD τ).loc main_arg0) : S131072x6.Idx → Elt F .f32) transposes_S131072x6_S6x131072_1_0) shapeCasts_S6x131072_S6x1024x128 : S6x1024x128.Idx → Elt F .f32) := by
  rfl
/-- The second. -/
theorem whole_1 : V m c main_v3 = (shapeCast S6x1024x128 (transpose S6x131072 [1, 0] (m ((c : Thread nD τ).loc main_arg1) : S131072x6.Idx → Elt F .f32) transposes_S131072x6_S6x131072_1_0) shapeCasts_S6x131072_S6x1024x128 : S6x1024x128.Idx → Elt F .f32) := by
  rfl

/-- The pair that a row and a lane of the reshaped arrays hold. -/
def pairOf (r : Fin 1024) (l : Fin 128) : Fin 131072 := ⟨r * 128 + l, by omega⟩

theorem entry_0 (k : Fin 6) (r : Fin 1024) (l : Fin 128) :
    (V m c main_v1 : S6x1024x128.Idx → Elt F .f32) (ix3 k r l) = (m ((c : Thread nD τ).loc main_arg0) : S131072x6.Idx → Elt F .f32) (ix2 (pairOf r l) k) := by
  rw [whole_0]
  pointwise
  rfl
theorem entry_1 (k : Fin 6) (r : Fin 1024) (l : Fin 128) :
    (V m c main_v3 : S6x1024x128.Idx → Elt F .f32) (ix3 k r l) = (m ((c : Thread nD τ).loc main_arg1) : S131072x6.Idx → Elt F .f32) (ix2 (pairOf r l) k) := by
  rw [whole_1]
  pointwise
  rfl

theorem index_0 : ∀ t : Fin cfg0.N, win0_0.index t = ![0, (grid0.coords t 0).val, 0] := (by decide +kernel : ∀ t : Fin grid0.N, _)
theorem index_1 : ∀ t : Fin cfg0.N, win0_1.index t = ![0, (grid0.coords t 0).val, 0] := (by decide +kernel : ∀ t : Fin grid0.N, _)

/-- The row of the whole array at a point's row. -/
def rowAt (t : Fin cfg0.N) (a : Fin 32) : Fin 1024 := ⟨32 * t.val + a, by have : cfg0.N = 32 := N_0; omega⟩

theorem blk_0 (t : Fin cfg0.N) (k : Fin 6) (a : Fin 32) (l : Fin 128) :
    (iblk m c 0 t : S6x32x128.Idx → Elt F .f32) (ix3 k a l)
      = (m ((c : Thread nD τ).loc main_arg0) : S131072x6.Idx → Elt F .f32) (ix2 (pairOf (rowAt t a) l) k) := by
  refine Eq.trans ?_ (entry_0 m c k (rowAt t a) l)
  blk_simp [iblk]
  refine congrArg _ ?_
  blk_ext [index_0, coord_val, rowAt]
theorem blk_1 (t : Fin cfg0.N) (k : Fin 6) (a : Fin 32) (l : Fin 128) :
    (iblk m c 1 t : S6x32x128.Idx → Elt F .f32) (ix3 k a l)
      = (m ((c : Thread nD τ).loc main_arg1) : S131072x6.Idx → Elt F .f32) (ix2 (pairOf (rowAt t a) l) k) := by
  refine Eq.trans ?_ (entry_1 m c k (rowAt t a) l)
  blk_simp [iblk]
  refine congrArg _ ?_
  blk_ext [index_1, coord_val, rowAt]

end entries

end Cert.Val

end
-- ==== Proof.Pre.Model.lean ====
module

public import proofs.«01_k».proof.Pre_proper_boxes
public import proofs.«01_k».proof.Proof.Ref.Model

@[expose] public section

/-!
The precondition's shape facts, and its arithmetic said in the reference's words.
-/

noncomputable section

namespace Cert.PreM

open Idealize.ShloMosaic Cert.RefM

/-- The shape facts the precondition takes. -/
instance facts : Cert.Pre_proper_boxes.Facts where
  slices_S131072x6_S131072x1_0_0 := by decide
  shapeCasts_S131072x1_S131072 := by decide
  slices_S131072x6_S131072x1_0_1 := by decide
  slices_S131072x6_S131072x1_0_2 := by decide
  slices_S131072x6_S131072x1_0_3 := by decide
  slices_S131072x6_S131072x1_0_4 := by decide
  slices_S131072x6_S131072x1_0_5 := by decide
  bcast_S_S131072 := by decide
  bcast_S131072_S131072x1_0 := by decide
  concatenates_S131072x1_S131072x1_S131072x1_S131072x1_S131072x4_d1 := by decide
  bcast_S131072x4_S131072x4x1_0_1 := by decide
  bcast_S131072x4_S131072x1x4_0_2 := by decide
  bcast_S131072x4x1_S131072x4x4_0_1_2 := by decide
  bcast_S131072x1x4_S131072x4x4_0_1_2 := by decide
  bcast_S_S131072x4x4 := by decide
  reducesTo_S131072x4x4_S131072_d1_2 := by decide
  h_S_ := by decide
  bcast_S_S131072x6 := by decide
  reducesTo_S131072x6_S131072_d1 := by decide

open Cert.Pre_proper_boxes Cert.Pre_proper_boxes.Facts

variable {F : FTy → Type} [FloatOps F]

/-- Every entry of a row is finite. -/
def finite (b : Boxes F) : IVec S131072 1 :=
  Host.reduce IntOp.andi (cmpf .olt (Host.absf b) (broadcastInDim S131072x6 ![] bcast_S_S131072x6 (constant S_ .f32 0x7F800000#32)))
    (constantI S_ 1 1#1) reducesTo_S131072x6_S131072_d1 h_S_

/-- A row's box has an extent and a direction, and is finite. -/
def boxOk (b : Boxes F) : IVec S131072 1 :=
  andi (andi (andi (andi (cmpf .ogt (mulf (Boxes.w b) (Boxes.l b)) (num1 0x358637BD#32))
    (cmpf .ogt (mulf (Boxes.w b) (Boxes.w b)) (num1 0x2B8CBCCC#32)))
    (cmpf .ogt (mulf (Boxes.l b) (Boxes.l b)) (num1 0x2B8CBCCC#32)))
    (cmpf .ogt (addf (mulf (Boxes.im b) (Boxes.im b)) (mulf (Boxes.re b) (Boxes.re b))) (num1 0x00000000#32))) (finite b)

/-- Differences between the first box's corners and the second's. -/
def gap (x y : Four F) : FVec F S131072x4x4 .f32 :=
  subf (broadcastInDim S131072x4x4 ![0, 1, 2] bcast_S131072x4x1_S131072x4x4_0_1_2 (broadcastInDim S131072x4x1 ![0, 1] bcast_S131072x4_S131072x4x1_0_1 x))
    (broadcastInDim S131072x4x4 ![0, 1, 2] bcast_S131072x1x4_S131072x4x4_0_1_2 (broadcastInDim S131072x1x4 ![0, 2] bcast_S131072x4_S131072x1x4_0_2 y))

/-- Squared distances between them. -/
def gap2 (p t : Boxes F) : FVec F S131072x4x4 .f32 :=
  addf (mulf (gap p.cx t.cx) (gap p.cx t.cx)) (mulf (gap p.cy t.cy) (gap p.cy t.cy))

/-- No corner of the one is near a corner of the other unless it is that corner. -/
def apart (p t : Boxes F) : IVec S131072 1 :=
  Host.reduce IntOp.andi (ori (cmpf .ogt (gap2 p t) (broadcastInDim S131072x4x4 ![] bcast_S_S131072x4x4 (constant S_ .f32 0x2B8CBCCC#32)))
    (cmpf .oeq (gap2 p t) (broadcastInDim S131072x4x4 ![] bcast_S_S131072x4x4 (constant S_ .f32 0x00000000#32))))
    (constantI S_ 1 1#1) reducesTo_S131072x4x4_S131072_d1_2 h_S_

/-- The precondition is the conjunction of the three. -/
theorem fn_eq (p t : Boxes F) : fn (F := F) p t = andi (andi (boxOk p) (boxOk t)) (apart p t) := rfl

end Cert.PreM

end
-- ==== Proof.Ref.Read.lean ====
module

public import proofs.«01_k».proof.Proof.Ref.Model
public import Idealize.ShloMosaic.Lib.Pointwise
public import Idealize.ShloMosaic.Lib.IndicatorCount

@[expose] public section

/-!
The array operations read at one pair of boxes.
-/

noncomputable section

namespace Cert.RefM

open Cert.ReferenceIdeal Cert.ReferenceIdeal.Gen Cert.ReferenceIdeal.Value Idealize.ShloMosaic Idealize.ShloMosaic.TcCoe Idealize.SL.Sem

section
variable {α : Type} (n : Fin 131072)

theorem up_at (x : S131072.Idx → α) (k : Fin 1) : up x (ix2 n k) = x (ix1 n) := by pointwise [up]
theorem wide_at (x : S131072x1.Idx → α) (k : Fin 8) : wide x (ix2 n k) = x (ix2 n 0) := by pointwise [wide]
theorem head_at (x : S131072x8.Idx → α) (k : Fin 1) : head x (ix2 n k) = x (ix2 n 0) := by
  pointwise [head]
theorem all1_at (x : S_.Idx → α) : all1 x (ix1 n) = x ix0 := by pointwise [all1]
theorem all8_at (x : S_.Idx → α) (k : Fin 8) : all8 x (ix2 n k) = x ix0 := by pointwise [all8]
theorem roll_at (x : S131072x8.Idx → α) (k : Fin 8) :
    roll x (ix2 n k) = if h : (k : ℕ) < 7 then x (ix2 n ⟨k + 1, by omega⟩) else x (ix2 n 0) := by
  pointwise [roll, head]
  have hk := k.isLt
  split
  · exact congrArg x (congrArg (ix2 n) (Fin.ext (Nat.add_comm _ _)))
  · exact congrArg x (congrArg (ix2 n) (Fin.ext (show (k : ℕ) - 7 = 0 by omega)))
theorem pairUp_at (x y : S131072x8.Idx → α) (i : Fin 16) :
    pairUp x y (ix2 n i) = if (i : ℕ) % 2 = 0 then x (ix2 n ⟨i / 2, by omega⟩) else y (ix2 n ⟨i / 2, by omega⟩) := by
  pointwise [pairUp]
  split <;> split <;> first | rfl | omega
theorem both_at (x y : S131072x4.Idx → α) (k : Fin 8) :
    both x y (ix2 n k) = if h : (k : ℕ) < 4 then x (ix2 n ⟨k, h⟩) else y (ix2 n ⟨k - 4, by omega⟩) := by
  pointwise [both]
theorem four_at (x y z w : S131072.Idx → α) (k : Fin 4) :
    four x y z w (ix2 n k) = if (k : ℕ) = 0 then x (ix1 n) else if (k : ℕ) = 1 then y (ix1 n) else
      if (k : ℕ) = 2 then z (ix1 n) else w (ix1 n) := by
  pointwise [four, up]
  have hk := k.isLt
  split_ifs <;> first | rfl | omega
theorem along_at (j p : Fin 16) : (ix2 n j : S131072x16.Idx).along (⟨1, Nat.one_lt_two⟩ : Fin 2) p = ix2 n p := by
  funext a
  fin_cases a
  · rfl
  · rfl
/-- A sort of three arrays along the slots, read at a slot. -/
theorem sort_at {β γ : Type} (cmp : α × β × γ → α × β × γ → BitVec 1) (x : S131072x16.Idx → α) (y : S131072x16.Idx → β)
    (z : S131072x16.Idx → γ) (j : Fin 16) :
    (Host.sort3 S131072x16 1 cmp x y z).2.1 (ix2 n j) = y (ix2 n (sortedFrom (fun k k' : Fin 16 =>
      cmp (x (ix2 n k), y (ix2 n k), z (ix2 n k)) (x (ix2 n k'), y (ix2 n k'), z (ix2 n k')) == 1#1) j)) ∧
    (Host.sort3 S131072x16 1 cmp x y z).2.2 (ix2 n j) = z (ix2 n (sortedFrom (fun k k' : Fin 16 =>
      cmp (x (ix2 n k), y (ix2 n k), z (ix2 n k)) (x (ix2 n k'), y (ix2 n k'), z (ix2 n k')) == 1#1) j)) := by
  have e : (fun k k' : Fin 16 => cmp (x (ix2 n k), y (ix2 n k), z (ix2 n k)) (x (ix2 n k'), y (ix2 n k'), z (ix2 n k')) == 1#1) =
      fun k k' : Fin 16 => cmp (x ((ix2 n j : S131072x16.Idx).along (⟨1, Nat.one_lt_two⟩ : Fin 2) k),
        y ((ix2 n j : S131072x16.Idx).along (⟨1, Nat.one_lt_two⟩ : Fin 2) k), z ((ix2 n j : S131072x16.Idx).along (⟨1, Nat.one_lt_two⟩ : Fin 2) k))
        (x ((ix2 n j : S131072x16.Idx).along (⟨1, Nat.one_lt_two⟩ : Fin 2) k'), y ((ix2 n j : S131072x16.Idx).along (⟨1, Nat.one_lt_two⟩ : Fin 2) k'),
          z ((ix2 n j : S131072x16.Idx).along (⟨1, Nat.one_lt_two⟩ : Fin 2) k')) == 1#1 := by
    funext k k'; rw [along_at, along_at]
  rw [e]
  exact ⟨congrArg y (along_at n j _), congrArg z (along_at n j _)⟩
theorem slice_at (x : S131072x16.Idx → α) (k : Fin 8) (h) :
    extractStridedSlice S131072x8 ![0, 0] x h (ix2 n k) = x (ix2 n ⟨k, by omega⟩) := by
  pointwise
theorem col_at (x : S131072x6.Idx → α) (k : ℕ) (hk : k < 6) (h) : col x k h (ix1 n) = x (ix2 n ⟨k, hk⟩) := by
  pointwise [col]
theorem col4_at (x : S131072x4.Idx → α) (k : ℕ) (hk : k < 4) (h) : col4 x k h (ix1 n) = x (ix2 n ⟨k, hk⟩) := by
  pointwise [col4]
/-- A sum of marks, widened to 32 bits, is their number. -/
theorem count_at (x : IVec S131072x16 1) : Host.reduce IntOp.addi (extui 32 x natLt_1_32) (constantI S_ 32 0#32)
    reducesTo_S131072x16_S131072_d1 h_S_ (ix1 n) = BitVec.ofNat 32 (Finset.univ.filter fun k : Fin 16 => x (ix2 n k) = 1#1).card := by
  rw [Host.reduce_eq_fold, Shape.ReducesTo.fold_fiber_r2_a1]
  exact IndicatorCount.fold_addi_setWidth_eq_card (fun k : Fin 16 => x (ix2 n k)) Finset.univ
end

end Cert.RefM

end
-- ==== Proof.Geo.Poly.lean ====
module

public import Mathlib.Data.Nat.Count
public import Mathlib.Tactic.LinearCombination
public import Mathlib.Data.Real.Basic
public import Mathlib.Algebra.BigOperators.Group.Finset.Basic
public import Mathlib.Tactic.Linarith
public import Mathlib.Tactic.Positivity
public import Mathlib.Tactic.Ring
public import Mathlib.Tactic.FieldSimp

@[expose] public section

/-!
Clipping a polygon by a line, over the reals: the candidates, which of them stay, and the polygon that results.
-/

noncomputable section

namespace Cert.Geo

open Classical

/-- The vertex after vertex `k` of `m`. -/
def nxt (m k : ℕ) : ℕ := if k + 1 < m then k + 1 else 0

/-- Which candidates stay: a vertex with value at most zero, a crossing of an edge whose ends have opposite signs. -/
def flag (m : ℕ) (v : ℕ → ℝ) (i : ℕ) : Prop :=
  i / 2 < m ∧ if i % 2 = 0 then v (i / 2) ≤ 0 else v (i / 2) * v (nxt m (i / 2)) < 0

/-- A coordinate of the candidates: the vertices and the edges' crossings, in turn. -/
def cand (m : ℕ) (v f : ℕ → ℝ) (i : ℕ) : ℝ :=
  if i % 2 = 0 then f (i / 2)
  else f (i / 2) + v (i / 2) / (v (i / 2) - v (nxt m (i / 2))) * (f (nxt m (i / 2)) - f (i / 2))

/-- How many of the first `n` candidates stay. -/
def cnt (m : ℕ) (v : ℕ → ℝ) (n : ℕ) : ℕ := Nat.count (flag m v) n

/-- How many stay in all. -/
def tot (m : ℕ) (v : ℕ → ℝ) : ℕ := cnt m v (2 * m)

/-- The place of the `j`-th one that stays. -/
def place (m : ℕ) (v : ℕ → ℝ) (j : ℕ) : ℕ :=
  if h : ∃ i, flag m v i ∧ Nat.count (flag m v) i = j then h.choose else 0

/-- A coordinate of the new polygon. -/
def sel (m : ℕ) (v f : ℕ → ℝ) (j : ℕ) : ℝ := cand m v f (place m v j)

theorem cnt_succ (m : ℕ) (v : ℕ → ℝ) (n : ℕ) : cnt m v (n + 1) = cnt m v n + if flag m v n then 1 else 0 :=
  Nat.count_succ _ _

theorem cnt_mono {m : ℕ} {v : ℕ → ℝ} {a b : ℕ} (h : a ≤ b) : cnt m v a ≤ cnt m v b := Nat.count_monotone _ h

theorem flag_lt {m : ℕ} {v : ℕ → ℝ} {i : ℕ} (h : flag m v i) : i < 2 * m := by
  have := h.1; omega

/-- Past the last vertex nothing more stays. -/
theorem cnt_of_le {m : ℕ} {v : ℕ → ℝ} {n : ℕ} (h : 2 * m ≤ n) : cnt m v n = tot m v := by
  induction n, h using Nat.le_induction with
  | base => rfl
  | succ n hn ih =>
    rw [cnt_succ, ih, if_neg (fun h => absurd (flag_lt h) (by omega)), add_zero]

/-- A candidate that stays comes before the `2 m`-th. -/
theorem cnt_lt_tot {m : ℕ} {v : ℕ → ℝ} {i : ℕ} (h : flag m v i) : cnt m v i < tot m v := by
  have h1 : cnt m v (i + 1) ≤ tot m v := cnt_mono (flag_lt h)
  rw [cnt_succ, if_pos h] at h1; omega

/-- Every number below the total is that of a candidate that stays. -/
theorem exists_place (m : ℕ) (v : ℕ → ℝ) (n j : ℕ) (h : j < cnt m v n) : ∃ i, flag m v i ∧ cnt m v i = j := by
  induction n with
  | zero => simp [cnt] at h
  | succ n ih =>
    rw [cnt_succ] at h
    by_cases hj : j < cnt m v n
    · exact ih hj
    · by_cases hf : flag m v n
      · rw [if_pos hf] at h; exact ⟨n, hf, by omega⟩
      · rw [if_neg hf] at h; omega

theorem place_spec {m : ℕ} {v : ℕ → ℝ} {j : ℕ} (h : j < tot m v) :
    flag m v (place m v j) ∧ cnt m v (place m v j) = j ∧ place m v j < 2 * m := by
  have he : ∃ i, flag m v i ∧ Nat.count (flag m v) i = j := exists_place m v _ j h
  have e : place m v j = he.choose := dif_pos he
  rw [e]
  exact ⟨he.choose_spec.1, he.choose_spec.2, flag_lt he.choose_spec.1⟩

/-- Two candidates that stay with the same number before them are the same. -/
theorem cnt_inj {m : ℕ} {v : ℕ → ℝ} {i i' : ℕ} (h : flag m v i) (h' : flag m v i') (e : cnt m v i = cnt m v i') : i = i' := by
  have key : ∀ {p q : ℕ}, flag m v p → p < q → cnt m v p < cnt m v q := by
    intro p q hp hl
    have := cnt_mono (m := m) (v := v) (Nat.succ_le_of_lt hl)
    rw [Nat.succ_eq_add_one, cnt_succ, if_pos hp] at this; omega
  rcases lt_trichotomy i i' with hl | hl | hl
  · have := key h hl; omega
  · exact hl
  · have := key h' hl; omega

theorem place_cnt {m : ℕ} {v : ℕ → ℝ} {i : ℕ} (h : flag m v i) : place m v (cnt m v i) = i :=
  cnt_inj (place_spec (cnt_lt_tot h)).1 h (place_spec (cnt_lt_tot h)).2.1

theorem place_lt {m : ℕ} {v : ℕ → ℝ} {j j' : ℕ} (h : j < j') (h' : j' < tot m v) : place m v j < place m v j' := by
  by_contra hc
  have := cnt_mono (m := m) (v := v) (not_lt.mp hc)
  rw [(place_spec h').2.1, (place_spec (h.trans h')).2.1] at this
  omega

theorem le_place {m : ℕ} {v : ℕ → ℝ} {j : ℕ} (h : j < tot m v) : j ≤ place m v j := by
  have := Nat.count_le (p := flag m v) (n := place m v j)
  have h2 := (place_spec h).2.1
  unfold cnt at h2; omega

/-- A polygon being clipped: how many vertices, where they are, whether clipping has ended. -/
structure Poly where
  m : ℕ
  x : ℕ → ℝ
  y : ℕ → ℝ
  fr : Prop

namespace Poly
variable (P : Poly) (a b c : ℝ)

/-- The line's values at the vertices. -/
def val (k : ℕ) : ℝ := a * P.x k + b * P.y k + c
/-- The step is done. -/
def go : Prop := ¬ P.fr ∧ 2 < P.m
/-- The new polygon is taken. -/
def acc : Prop := P.go ∧ 0 < tot P.m (P.val a b c)
/-- The polygon after clipping by the line. -/
def next : Poly where
  m := if P.acc a b c then tot P.m (P.val a b c) else P.m
  x := if P.acc a b c then sel P.m (P.val a b c) P.x else P.x
  y := if P.acc a b c then sel P.m (P.val a b c) P.y else P.y
  fr := P.fr ∨ (P.go ∧ tot P.m (P.val a b c) = 0)

/-- Twice the signed area. -/
def twice : ℝ := ∑ k ∈ Finset.range P.m, (P.x k * P.y (nxt P.m k) - P.y k * P.x (nxt P.m k))
/-- The area; none with fewer than three vertices. -/
def area : ℝ := if 2 < P.m then 1 / 2 * |P.twice| else 0

/-- No line's values change strict sign three times along the vertices: what a convex polygon has. -/
def Good : Prop := ∀ a b c : ℝ, ∀ i j k l : ℕ, i < j → j < k → k < l → l < P.m →
  ¬ (0 < P.val a b c i ∧ P.val a b c j < 0 ∧ 0 < P.val a b c k ∧ P.val a b c l < 0)

variable {P}

theorem val_neg (k : ℕ) : P.val (-a) (-b) (-c) k = -P.val a b c k := by unfold val; ring

theorem Good.neg (h : P.Good) (a b c : ℝ) (i j k l : ℕ) (h1 : i < j) (h2 : j < k) (h3 : k < l) (h4 : l < P.m) :
    ¬ (P.val a b c i < 0 ∧ 0 < P.val a b c j ∧ P.val a b c k < 0 ∧ 0 < P.val a b c l) := by
  have := h (-a) (-b) (-c) i j k l h1 h2 h3 h4
  simpa only [val_neg, neg_pos, neg_lt_zero] using this

end Poly

/-- A parallelogram is good. -/
theorem good_of_parallelogram (P : Poly) (hm : P.m = 4) (hx : P.x 0 + P.x 2 = P.x 1 + P.x 3) (hy : P.y 0 + P.y 2 = P.y 1 + P.y 3) :
    P.Good := by
  intro a b c i j k l h1 h2 h3 h4 ⟨g0, g1, g2, g3⟩
  obtain ⟨rfl, rfl, rfl, rfl⟩ : i = 0 ∧ j = 1 ∧ k = 2 ∧ l = 3 := by omega
  have e : P.val a b c 0 + P.val a b c 2 = P.val a b c 1 + P.val a b c 3 := by
    unfold Poly.val; linear_combination a * hx + b * hy
  linarith

/-- How many vertices stay. -/
def keepCard (m : ℕ) (v : ℕ → ℝ) : ℕ := ((Finset.range m).filter fun k => v k ≤ 0).card
/-- How many edges are crossed. -/
def crossCard (m : ℕ) (v : ℕ → ℝ) : ℕ := ((Finset.range m).filter fun k => v k * v (nxt m k) < 0).card

/-- The candidates that stay are the vertices that stay and the crossings. -/
theorem cnt_two_mul (m : ℕ) (v : ℕ → ℝ) (n : ℕ) (h : n ≤ m) : cnt m v (2 * n) =
    ((Finset.range n).filter fun k => v k ≤ 0).card + ((Finset.range n).filter fun k => v k * v (nxt m k) < 0).card := by
  induction n with
  | zero => simp [cnt]
  | succ n ih =>
    have e0 : flag m v (2 * n) ↔ v n ≤ 0 := by
      unfold flag; rw [Nat.mul_div_cancel_left n (by norm_num), if_pos (by omega)]; exact and_iff_right (by omega)
    have e1 : flag m v (2 * n + 1) ↔ v n * v (nxt m n) < 0 := by
      unfold flag; rw [show (2 * n + 1) / 2 = n by omega, if_neg (by omega)]; exact and_iff_right (by omega)
    rw [show 2 * (n + 1) = 2 * n + 1 + 1 by ring, cnt_succ, cnt_succ, ih (by omega), Finset.range_add_one,
      Finset.filter_insert, Finset.filter_insert]
    simp only [e0, e1]
    split <;> split <;> simp <;> omega

/-- Three crossings are one too many. -/
theorem Poly.Good.no_three {P : Poly} (h : P.Good) (a b c : ℝ) (k₁ k₂ k₃ : ℕ) (h12 : k₁ < k₂) (h23 : k₂ < k₃) (h3 : k₃ < P.m)
    (c1 : P.val a b c k₁ * P.val a b c (nxt P.m k₁) < 0) (c2 : P.val a b c k₂ * P.val a b c (nxt P.m k₂) < 0)
    (c3 : P.val a b c k₃ * P.val a b c (nxt P.m k₃) < 0) : False := by
  rw [show nxt P.m k₁ = k₁ + 1 from if_pos (by omega)] at c1
  rw [show nxt P.m k₂ = k₂ + 1 from if_pos (by omega)] at c2
  have e3 : (k₃ + 1 < P.m ∧ nxt P.m k₃ = k₃ + 1) ∨ (nxt P.m k₃ = 0) := by
    by_cases hk : k₃ + 1 < P.m
    · exact .inl ⟨hk, if_pos hk⟩
    · exact .inr (if_neg hk)
  have ne : ∀ {i j : ℕ}, i ≤ j → (P.val a b c i < 0 ∧ 0 < P.val a b c j ∨ 0 < P.val a b c i ∧ P.val a b c j < 0) → i < j := by
    intro i j hij hs
    rcases hij.lt_or_eq with hl | rfl
    · exact hl
    · rcases hs with ⟨s, t⟩ | ⟨s, t⟩ <;> linarith
  rcases mul_neg_iff.mp c1 with ⟨p1, q1⟩ | ⟨p1, q1⟩ <;> rcases mul_neg_iff.mp c2 with ⟨p2, q2⟩ | ⟨p2, q2⟩
  · exact h a b c _ _ _ _ (Nat.lt_succ_self k₁) (ne (by omega) (.inl ⟨q1, p2⟩)) (Nat.lt_succ_self k₂) (by omega) ⟨p1, q1, p2, q2⟩
  · rcases mul_neg_iff.mp c3 with ⟨p3, q3⟩ | ⟨p3, q3⟩
    · rcases e3 with ⟨e, e3⟩ | e3
      · rw [e3] at q3
        exact h a b c _ _ _ _ h12 (Nat.lt_succ_self k₂) (by omega : k₂ + 1 < k₃ + 1) e ⟨p1, p2, q2, q3⟩
      · rw [e3] at q3
        exact h.neg a b c _ _ _ _ (ne (Nat.zero_le k₁) (.inl ⟨q3, p1⟩)) h12 h23 h3 ⟨q3, p1, p2, p3⟩
    · rcases e3 with ⟨e, e3⟩ | e3
      · rw [e3] at q3
        exact h.neg a b c _ _ _ _ (Nat.lt_succ_self k₂) (ne (by omega) (.inr ⟨q2, p3⟩)) (Nat.lt_succ_self k₃) e ⟨p2, q2, p3, q3⟩
      · rw [e3] at q3
        exact h a b c _ _ _ _ (by omega : 0 < k₂) (Nat.lt_succ_self k₂) (ne (by omega) (.inr ⟨q2, p3⟩)) h3 ⟨q3, p2, q2, p3⟩
  · rcases mul_neg_iff.mp c3 with ⟨p3, q3⟩ | ⟨p3, q3⟩
    · rcases e3 with ⟨e, e3⟩ | e3
      · rw [e3] at q3
        exact h a b c _ _ _ _ (Nat.lt_succ_self k₂) (ne (by omega) (.inl ⟨q2, p3⟩)) (Nat.lt_succ_self k₃) e ⟨p2, q2, p3, q3⟩
      · rw [e3] at q3
        exact h.neg a b c _ _ _ _ (by omega : 0 < k₂) (Nat.lt_succ_self k₂) (ne (by omega) (.inl ⟨q2, p3⟩)) h3 ⟨q3, p2, q2, p3⟩
    · rcases e3 with ⟨e, e3⟩ | e3
      · rw [e3] at q3
        exact h.neg a b c _ _ _ _ h12 (Nat.lt_succ_self k₂) (by omega : k₂ + 1 < k₃ + 1) e ⟨p1, p2, q2, q3⟩
      · rw [e3] at q3
        exact h a b c _ _ _ _ (ne (Nat.zero_le k₁) (.inr ⟨q3, p1⟩)) h12 h23 h3 ⟨q3, p1, p2, p3⟩
  · exact h.neg a b c _ _ _ _ (Nat.lt_succ_self k₁) (ne (by omega) (.inr ⟨q1, p2⟩)) (Nat.lt_succ_self k₂) (by omega) ⟨p1, q1, p2, q2⟩

/-- A step adds at most one vertex. -/
theorem Poly.Good.tot_le {P : Poly} (h : P.Good) (a b c : ℝ) : tot P.m (P.val a b c) ≤ P.m + 1 := by
  have e := cnt_two_mul P.m (P.val a b c) P.m le_rfl
  unfold tot; rw [e]
  set X := (Finset.range P.m).filter fun k => P.val a b c k * P.val a b c (nxt P.m k) < 0 with hX
  set Y := (Finset.range P.m).filter fun k => P.val a b c k ≤ 0 with hY
  have hY0 : Y.card ≤ P.m := by simpa using Finset.card_filter_le (Finset.range P.m) (fun k => P.val a b c k ≤ 0)
  have hX2 : X.card ≤ 2 := by
    by_contra hc
    obtain ⟨i, hi, j, hj, k, hk, n1, n2, n3⟩ := Finset.two_lt_card.mp (not_le.mp hc)
    rw [hX, Finset.mem_filter, Finset.mem_range] at hi hj hk
    rcases lt_or_gt_of_ne n1 with s1 | s1 <;> rcases lt_or_gt_of_ne n2 with s2 | s2 <;> rcases lt_or_gt_of_ne n3 with s3 | s3
    · exact h.no_three a b c i j k s1 s3 hk.1 hi.2 hj.2 hk.2
    · exact h.no_three a b c i k j s2 s3 hj.1 hi.2 hk.2 hj.2
    · omega
    · exact h.no_three a b c k i j s2 s1 hj.1 hk.2 hi.2 hj.2
    · exact h.no_three a b c j i k s1 s2 hk.1 hj.2 hi.2 hk.2
    · omega
    · exact h.no_three a b c j k i s3 s2 hi.1 hj.2 hk.2 hi.2
    · exact h.no_three a b c k j i s3 s1 hi.1 hk.2 hj.2 hi.2
  rcases Finset.eq_empty_or_nonempty X with hx | ⟨k, hk⟩
  · rw [hx]; simp; omega
  · rw [hX, Finset.mem_filter, Finset.mem_range] at hk
    have hlt : Y.card < P.m := by
      rw [show P.m = (Finset.range P.m).card by simp]
      refine Finset.card_lt_card (Finset.filter_ssubset.mpr ?_)
      rcases mul_neg_iff.mp hk.2 with ⟨p, _⟩ | ⟨_, p⟩
      · exact ⟨k, Finset.mem_range.mpr hk.1, not_le.mpr p⟩
      · refine ⟨nxt P.m k, Finset.mem_range.mpr ?_, not_le.mpr p⟩
        unfold nxt; split <;> omega
    omega

/-- A candidate that stays lies on an edge, so a line's value there has the sign of the value at one of its ends. -/
theorem lift_sign {m : ℕ} {v : ℕ → ℝ} {i : ℕ} (hi : flag m v i) (x y : ℕ → ℝ) (a b c : ℝ)
    (hp : 0 < a * cand m v x i + b * cand m v y i + c) :
    ∃ r, i / 2 ≤ r ∧ r ≤ (i + 1) / 2 ∧ r ≤ m ∧
      0 < a * x (if r < m then r else 0) + b * y (if r < m then r else 0) + c := by
  obtain ⟨hk, hf⟩ := hi
  unfold cand at hp
  by_cases h0 : i % 2 = 0
  · rw [if_pos h0, if_pos h0] at hp
    exact ⟨i / 2, le_rfl, by omega, hk.le, by rw [if_pos hk]; exact hp⟩
  · rw [if_neg h0] at hf
    rw [if_neg h0, if_neg h0] at hp
    set k := i / 2 with hkd
    set t := v k / (v k - v (nxt m k)) with ht
    have h01 : 0 ≤ t ∧ 0 ≤ 1 - t := by
      rcases mul_neg_iff.mp hf with ⟨p, q⟩ | ⟨p, q⟩
      · have hd : 0 < v k - v (nxt m k) := by linarith
        refine ⟨div_nonneg p.le hd.le, ?_⟩
        have : 1 - t = -v (nxt m k) / (v k - v (nxt m k)) := by rw [ht]; field_simp; ring
        rw [this]; exact div_nonneg (by linarith) hd.le
      · have hd : v k - v (nxt m k) < 0 := by linarith
        refine ⟨div_nonneg_of_nonpos p.le hd.le, ?_⟩
        have hd' := hd.ne
        have : 1 - t = -v (nxt m k) / (v k - v (nxt m k)) := by rw [ht]; field_simp; ring
        rw [this]; exact div_nonneg_of_nonpos (by linarith) hd.le
    have e : (1 - t) * (a * x k + b * y k + c) + t * (a * x (nxt m k) + b * y (nxt m k) + c) =
        a * (x k + t * (x (nxt m k) - x k)) + b * (y k + t * (y (nxt m k) - y k)) + c := by ring
    by_cases hs : 0 < a * x k + b * y k + c
    · exact ⟨k, le_rfl, by omega, hk.le, by rw [if_pos hk]; exact hs⟩
    · refine ⟨k + 1, by omega, by omega, by omega, ?_⟩
      have hn : nxt m k = if k + 1 < m then k + 1 else 0 := rfl
      rw [← hn]
      by_contra hc
      have h1 := mul_nonneg h01.2 (neg_nonneg.mpr (not_lt.mp hs))
      have h2 := mul_nonneg h01.1 (neg_nonneg.mpr (not_lt.mp hc))
      nlinarith

/-- Clipping keeps a polygon good. -/
theorem Poly.Good.next {P : Poly} (h : P.Good) (a b c : ℝ) : (P.next a b c).Good := by
  by_cases hacc : P.acc a b c
  · intro a' b' c' i j k l h1 h2 h3 h4 ⟨g1, g2, g3, g4⟩
    simp only [Poly.next, Poly.val, if_pos hacc] at g1 g2 g3 g4 h4
    have neg : ∀ {s t : ℝ}, a' * s + b' * t + c' < 0 → 0 < (-a') * s + (-b') * t + (-c') := by intro s t; intro h; linarith
    have hkt := h3.trans h4; have hjt := h2.trans hkt; have hit := h1.trans hjt
    obtain ⟨r1, l1, u1, m1, s1⟩ := lift_sign (place_spec hit).1 P.x P.y a' b' c' g1
    obtain ⟨r2, l2, u2, m2, s2⟩ := lift_sign (place_spec hjt).1 P.x P.y (-a') (-b') (-c') (neg g2)
    obtain ⟨r3, l3, u3, m3, s3⟩ := lift_sign (place_spec hkt).1 P.x P.y a' b' c' g3
    obtain ⟨r4, l4, u4, m4, s4⟩ := lift_sign (place_spec h4).1 P.x P.y (-a') (-b') (-c') (neg g4)
    have p1 := place_lt h1 hjt; have p2 := place_lt h2 hkt; have p3 := place_lt h3 h4
    have n1 : r1 ≠ r2 := by rintro rfl; linarith
    have n2 : r2 ≠ r3 := by rintro rfl; linarith
    have n3 : r3 ≠ r4 := by rintro rfl; linarith
    have q1 : r1 < r2 := by omega
    have q2 : r2 < r3 := by omega
    have q3 : r3 < r4 := by omega
    rw [if_pos (by omega)] at s1 s2 s3
    by_cases hr : r4 < P.m
    · rw [if_pos hr] at s4
      refine h a' b' c' r1 r2 r3 r4 q1 q2 q3 hr ⟨s1, ?_, s3, ?_⟩ <;> unfold Poly.val <;> linarith
    · rw [if_neg hr] at s4
      have hz : 0 < r1 := by
        rcases Nat.eq_zero_or_pos r1 with rfl | hp
        · linarith
        · exact hp
      refine h.neg a' b' c' 0 r1 r2 r3 hz q1 q2 (by omega) ⟨?_, s1, ?_, s3⟩ <;> unfold Poly.val <;> linarith
  · intro a' b' c' i j k l h1 h2 h3 h4
    simp only [Poly.next, Poly.val, if_neg hacc] at h4 ⊢
    exact h a' b' c' i j k l h1 h2 h3 h4

/-- After a step there is at most one vertex more. -/
theorem Poly.Good.next_m {P : Poly} (h : P.Good) (a b c : ℝ) : (P.next a b c).m ≤ P.m + 1 := by
  unfold Poly.next; dsimp only; split
  · exact h.tot_le a b c
  · omega

end Cert.Geo

end
-- ==== Proof.Geo.Sort.lean ====
module

public import proofs.«01_k».proof.Proof.Geo.Poly
public import Idealize.ShloMosaic.Lib.SortFacts

@[expose] public section

/-!
A stable sort that puts the candidates that stay before the others: its first places are the places of the candidates that
stay, in order.
-/

noncomputable section

namespace Cert.Geo

open Classical Idealize.ShloMosaic

/-- Inserting an element that goes first. -/
theorem insert_front {ι : Type} (B : ι → ι → Bool) (a : ι) (l : List ι) (h : ∀ b, B b a = false) : insertBefore B a l = a :: l := by
  cases l with
  | nil => rfl
  | cons b l => unfold insertBefore; rw [h b]; rfl

/-- Inserting an element that goes after the first group, at the front of the second. -/
theorem insert_mid {ι : Type} (B : ι → ι → Bool) (a : ι) (l r : List ι) (hl : ∀ b ∈ l, B b a = true) (hr : ∀ b ∈ r, B b a = false) :
    insertBefore B a (l ++ r) = l ++ a :: r := by
  induction l with
  | nil =>
    cases r with
    | nil => rfl
    | cons b r => rw [List.nil_append, List.nil_append]; unfold insertBefore; rw [hr b List.mem_cons_self]; rfl
  | cons b l ih =>
    rw [List.cons_append, List.cons_append]; unfold insertBefore
    rw [hl b List.mem_cons_self, if_pos rfl, ih fun c hc => hl c (List.mem_cons_of_mem b hc)]

/-- A stable sort by one mark: the marked ones, then the others, each in their order. -/
theorem stableSort_mark {ι : Type} (f : ι → Bool) (B : ι → ι → Bool) (hB : ∀ a b, B a b = (f a && !f b)) (l : List ι) :
    stableSort B l = l.filter f ++ l.filter (fun a => !f a) := by
  induction l with
  | nil => rfl
  | cons a l ih =>
    unfold stableSort; rw [ih]
    cases ha : f a
    · rw [insert_mid, List.filter_cons_of_neg (by simp [ha]), List.filter_cons_of_pos (by simp [ha])]
      · intro b hb; rw [hB, ha, (List.mem_filter.mp hb).2]; rfl
      · intro b hb
        have := (List.mem_filter.mp hb).2
        rw [hB, ha]; simpa using this
    · rw [insert_front B a _ fun b => by rw [hB, ha]; simp, List.filter_cons_of_pos (by simp [ha]),
        List.filter_cons_of_neg (by simp [ha])]
      rfl

/-- Of the numbers below `n` that are marked, in order, the `j`-th is the place of the `j`-th candidate that stays. -/
theorem filter_range_get (m : ℕ) (v : ℕ → ℝ) (n j : ℕ) (h : j < cnt m v n) :
    ((List.range n).filter fun i => decide (flag m v i))[j]? = some (place m v j) := by
  have hlen : ∀ n, ((List.range n).filter fun i => decide (flag m v i)).length = cnt m v n := by
    intro n
    unfold cnt; rw [Nat.count_eq_card_filter_range, Finset.card_def, Finset.filter_val, Finset.range_val]
    rfl
  induction n with
  | zero => simp [cnt] at h
  | succ n ih =>
    rw [List.range_succ, List.filter_append]
    by_cases hj : j < cnt m v n
    · rw [List.getElem?_append_left (by rw [hlen]; exact hj)]; exact ih hj
    · rw [cnt_succ] at h
      by_cases hf : flag m v n
      · rw [if_pos hf] at h
        have e : j = cnt m v n := by omega
        rw [List.getElem?_append_right (by rw [hlen]; omega), hlen, e, Nat.sub_self, place_cnt hf]
        simp [hf]
      · rw [if_neg hf] at h; omega

/-- What a stable sort by the marks has at a place below their number. -/
theorem sortedFrom_mark {n : ℕ} (m : ℕ) (v : ℕ → ℝ) (B : Fin n → Fin n → Bool)
    (hB : ∀ a b, B a b = true ↔ flag m v a ∧ ¬ flag m v b) (j : Fin n) (hj : (j : ℕ) < cnt m v n) :
    ((sortedFrom B j : Fin n) : ℕ) = place m v j := by
  have e : sortPositions n B = (List.finRange n).filter (fun a : Fin n => decide (flag m v a)) ++
      (List.finRange n).filter (fun a : Fin n => !decide (flag m v a)) := by
    refine stableSort_mark _ _ (fun a b => ?_) _
    rw [Bool.eq_iff_iff, hB]; simp
  have hm : ((List.finRange n).filter (fun a : Fin n => decide (flag m v a))).map Fin.val =
      (List.range n).filter fun i => decide (flag m v i) := by
    rw [← List.map_coe_finRange_eq_range, List.filter_map]; rfl
  have h1 := filter_range_get m v n j hj
  rw [← hm] at h1
  have h2 : ((sortPositions n B).map Fin.val)[(j : ℕ)]? = some (place m v j) := by
    rw [e, List.map_append, List.getElem?_append_left, h1]
    by_contra hc
    rw [List.getElem?_eq_none (not_lt.mp hc)] at h1
    exact absurd h1 (by simp)
  unfold sortedFrom
  rw [List.getElem?_map] at h2
  obtain ⟨p, hp, hq⟩ := Option.map_eq_some_iff.mp h2
  rw [← hq]
  obtain ⟨hl, hg⟩ := List.getElem?_eq_some_iff.mp hp
  rw [← hg]; rfl

end Cert.Geo

end
-- ==== Proof.Lane.Num.lean ====
module

public import proofs.«01_k».proof.Proof.Lane.Model
public import Idealize.ShloMosaic.PureOps.Ideal.Laws
public import Idealize.ShloMosaic.Lib.IdealHost
public import Mathlib.Tactic.IntervalCases
public import Mathlib.Tactic.NormNum

@[expose] public section

/-!
The numbers the programs name by their bits, and the elementwise operations on numbers that are real.
-/

noncomputable section

namespace Cert.Lane

open Idealize.ShloMosaic

/-- The whole numbers' bits. -/
theorem natBits_val (n : ℕ) (h : n ≤ 8) : Ideal.ofBits .f32 (natBits n) = ((n : ℝ) : EReal) := by
  interval_cases n <;> simp [natBits, Ideal.ofBits, Ideal.ieee, -EReal.coe_mul] <;> norm_num

/-- The halves' bits. -/
theorem halfBits_val (n : ℕ) (h : n ≤ 6) : Ideal.ofBits .f32 (halfBits n) = (((n : ℝ) + 1 / 2 : ℝ) : EReal) := by
  interval_cases n <;> simp [halfBits, Ideal.ofBits, Ideal.ieee, -EReal.coe_mul, -EReal.coe_add] <;> norm_num

/-- The bound a millionth, as the number nearest to it. -/
def e6 : ℝ := 8796093 / 8796093022208
/-- The bound for squared lengths. -/
def e12 : ℝ := 2305843 / 2305843009213693952

theorem e6_val : Ideal.ofBits .f32 0x358637BD#32 = ((e6 : ℝ) : EReal) := by
  simp [e6, Ideal.ofBits, Ideal.ieee, -EReal.coe_mul] <;> norm_num
theorem neg_e6_val : Ideal.ofBits .f32 0xB58637BD#32 = ((-e6 : ℝ) : EReal) := by
  simp [e6, Ideal.ofBits, Ideal.ieee, -EReal.coe_mul] <;> norm_num
theorem e12_val : Ideal.ofBits .f32 0x2B8CBCCC#32 = ((e12 : ℝ) : EReal) := by
  simp [e12, Ideal.ofBits, Ideal.ieee, -EReal.coe_mul] <;> norm_num
theorem inf_val : Ideal.ofBits .f32 0x7F800000#32 = (⊤ : EReal) := by
  simp [Ideal.ofBits, Ideal.ieee]

/-! ## The operations at an index -/

section At
variable {s : Shape} {x y z : FVec Ideal s .f32} {q : s.Idx} {a b : ℝ}

theorem addf_at (hx : x q = (a : EReal)) (hy : y q = (b : EReal)) : addf x y q = ((a + b : ℝ) : EReal) := by
  show (x q : EReal) + y q = _
  rw [hx, hy, EReal.coe_add]
theorem subf_at (hx : x q = (a : EReal)) (hy : y q = (b : EReal)) : subf x y q = ((a - b : ℝ) : EReal) := by
  show (x q : EReal) - y q = _
  rw [hx, hy, EReal.coe_sub]
theorem mulf_at (hx : x q = (a : EReal)) (hy : y q = (b : EReal)) : mulf x y q = ((a * b : ℝ) : EReal) := by
  show (x q : EReal) * y q = _
  rw [hx, hy, EReal.coe_mul]
theorem divf_at (hx : x q = (a : EReal)) (hy : y q = (b : EReal)) (hb : b ≠ 0) : divf x y q = ((a / b : ℝ) : EReal) := by
  show Ideal.div (x q) (y q) = _
  rw [hx, hy, Ideal.div_coe hb, ← EReal.coe_mul, mul_one_div]
theorem hostDivf_at (hx : x q = (a : EReal)) (hy : y q = (b : EReal)) (hb : b ≠ 0) :
    Host.divf x y q = ((a / b : ℝ) : EReal) := by
  show Ideal.div (x q) (y q) = _
  rw [hx, hy, Ideal.div_coe hb, ← EReal.coe_mul, mul_one_div]
theorem minimumf_at (hx : x q = (a : EReal)) (hy : y q = (b : EReal)) : minimumf x y q = ((min a b : ℝ) : EReal) := by
  show min (x q : EReal) (y q) = _
  rw [hx, hy]; exact (EReal.coe_strictMono.monotone.map_min).symm
theorem maximumf_at (hx : x q = (a : EReal)) (hy : y q = (b : EReal)) : maximumf x y q = ((max a b : ℝ) : EReal) := by
  show max (x q : EReal) (y q) = _
  rw [hx, hy]; exact (EReal.coe_strictMono.monotone.map_max).symm
theorem absf_at (hx : x q = (a : EReal)) : absf x q = ((|a| : ℝ) : EReal) := by
  show max (x q : EReal) (-(x q : EReal)) = _
  rw [hx, ← EReal.coe_neg, abs_eq_max_neg]; exact (EReal.coe_strictMono.monotone.map_max).symm
theorem hostAbsf_at (hx : x q = (a : EReal)) : Host.absf x q = ((|a| : ℝ) : EReal) := by
  show max (x q : EReal) (-(x q : EReal)) = _
  rw [hx, ← EReal.coe_neg, abs_eq_max_neg]; exact (EReal.coe_strictMono.monotone.map_max).symm
theorem ofBool_iff (p : Prop) [Decidable p] : BitVec.ofBool (decide p) = 1#1 ↔ p := by
  by_cases h : p <;> simp [h]
theorem olt_at (hx : x q = (a : EReal)) (hy : y q = (b : EReal)) : cmpf .olt x y q = 1#1 ↔ a < b := by
  show BitVec.ofBool (decide ((x q : EReal) < y q)) = 1#1 ↔ _
  rw [ofBool_iff, hx, hy, EReal.coe_lt_coe_iff]
theorem ole_at (hx : x q = (a : EReal)) (hy : y q = (b : EReal)) : cmpf .ole x y q = 1#1 ↔ a ≤ b := by
  show BitVec.ofBool (decide ((x q : EReal) ≤ y q)) = 1#1 ↔ _
  rw [ofBool_iff, hx, hy, EReal.coe_le_coe_iff]
theorem ogt_at (hx : x q = (a : EReal)) (hy : y q = (b : EReal)) : cmpf .ogt x y q = 1#1 ↔ b < a := by
  show BitVec.ofBool (decide ((y q : EReal) < x q)) = 1#1 ↔ _
  rw [ofBool_iff, hx, hy, EReal.coe_lt_coe_iff]
theorem oge_at (hx : x q = (a : EReal)) (hy : y q = (b : EReal)) : cmpf .oge x y q = 1#1 ↔ b ≤ a := by
  show BitVec.ofBool (decide ((y q : EReal) ≤ x q)) = 1#1 ↔ _
  rw [ofBool_iff, hx, hy, EReal.coe_le_coe_iff]
theorem oeq_at (hx : x q = (a : EReal)) (hy : y q = (b : EReal)) : cmpf .oeq x y q = 1#1 ↔ a = b := by
  show BitVec.ofBool (decide ((x q : EReal) = y q)) = 1#1 ↔ _
  rw [ofBool_iff, hx, hy, EReal.coe_eq_coe_iff]

open Classical in
/-- A selection by a mark with a known meaning. -/
theorem select_at {α : Type} {c : IVec s 1} {u v : s.Idx → α} {p : Prop} (h : c q = 1#1 ↔ p) :
    select c u v q = if p then u q else v q := by
  show (if c q = 1 then u q else v q) = _
  by_cases hp : p
  · rw [if_pos hp]; exact if_pos (h.mpr hp)
  · rw [if_neg hp]; exact if_neg (fun e => hp (h.mp e))
open Classical in
theorem select_real {c : IVec s 1} {p : Prop} (h : c q = 1#1 ↔ p) (hx : x q = (a : EReal)) (hy : y q = (b : EReal)) :
    select c x y q = ((if p then a else b : ℝ) : EReal) := by
  rw [select_at h, hx, hy]; split <;> rfl
end At

theorem lit_at (b : BitVec 32) (q : B.Idx) : (lit b : V Ideal) q = Ideal.ofBits .f32 b := rfl
theorem nat_at {n : ℕ} (h : n ≤ 8) (q : B.Idx) : (lit (natBits n) : V Ideal) q = ((n : ℝ) : EReal) := natBits_val n h
theorem half_at {n : ℕ} (h : n ≤ 6) (q : B.Idx) : (lit (halfBits n) : V Ideal) q = (((n : ℝ) + 1 / 2 : ℝ) : EReal) :=
  halfBits_val n h
theorem zr_at (q : B.Idx) : (zr : V Ideal) q = ((0 : ℝ) : EReal) := by
  show (lit (natBits 0) : V Ideal) q = _
  rw [nat_at (n := 0) (by norm_num) q, Nat.cast_zero]
theorem on_at (q : B.Idx) : (on : V Ideal) q = ((1 : ℝ) : EReal) := by
  show (lit (natBits 1) : V Ideal) q = _
  rw [nat_at (n := 1) (by norm_num) q, Nat.cast_one]

end Cert.Lane

end
-- ==== Proof.Ref.Step.lean ====
module

public import proofs.«01_k».proof.Proof.Ref.Read
public import proofs.«01_k».proof.Proof.Geo.Sort
public import proofs.«01_k».proof.Proof.Lane.Num

@[expose] public section

/-!
One clipping step of the reference at one pair of boxes: its entries follow the polygon's clipping over the reals.
-/

noncomputable section

namespace Cert.RefM

open Cert.ReferenceIdeal Cert.ReferenceIdeal.Gen Idealize.ShloMosaic Cert.Geo Cert.Lane Classical

section marks
variable {s : Shape} {x y : IVec s 1} {q : s.Idx} {p r : Prop}

theorem andi_at (hx : x q = 1#1 ↔ p) (hy : y q = 1#1 ↔ r) : andi x y q = 1#1 ↔ p ∧ r := by
  rw [← hx, ← hy]
  show x q &&& y q = 1#1 ↔ _
  generalize x q = u; generalize y q = v; revert u v; decide
theorem ori_at (hx : x q = 1#1 ↔ p) (hy : y q = 1#1 ↔ r) : ori x y q = 1#1 ↔ p ∨ r := by
  rw [← hx, ← hy]
  show x q ||| y q = 1#1 ↔ _
  generalize x q = u; generalize y q = v; revert u v; decide
theorem noti_at (hx : x q = 1#1 ↔ p) : noti x q = 1#1 ↔ ¬ p := by
  rw [← hx]
  show ~~~(x q) = 1#1 ↔ _
  generalize x q = u; revert u; decide
end marks

theorem toInt_nat {k : ℕ} (h : k < 1000) : (BitVec.ofNat 32 k).toInt = (k : ℤ) := by
  have e : (BitVec.ofNat 32 k).toNat = k := by rw [BitVec.toNat_ofNat]; exact Nat.mod_eq_of_lt (by omega)
  rw [BitVec.toInt_eq_toNat_of_lt (by rw [e]; omega), e]

section ints
variable {s : Shape} {x y : IVec s 32} {q : s.Idx} {a b : ℕ}

theorem slt_at (hx : x q = BitVec.ofNat 32 a) (hy : y q = BitVec.ofNat 32 b) (ha : a < 1000) (hb : b < 1000) :
    cmpi .slt x y q = 1#1 ↔ a < b := by
  show BitVec.ofBool ((x q).slt (y q)) = 1#1 ↔ _
  rw [hx, hy, BitVec.slt, ofBool_iff, toInt_nat ha, toInt_nat hb]; exact Int.ofNat_lt
theorem sgt_at (hx : x q = BitVec.ofNat 32 a) (hy : y q = BitVec.ofNat 32 b) (ha : a < 1000) (hb : b < 1000) :
    cmpi .sgt x y q = 1#1 ↔ b < a := by
  show BitVec.ofBool ((y q).slt (x q)) = 1#1 ↔ _
  rw [hx, hy, BitVec.slt, ofBool_iff, toInt_nat ha, toInt_nat hb]; exact Int.ofNat_lt
theorem sge_at (hx : x q = BitVec.ofNat 32 a) (hy : y q = BitVec.ofNat 32 b) (ha : a < 1000) (hb : b < 1000) :
    cmpi .sge x y q = 1#1 ↔ b ≤ a := by
  show BitVec.ofBool ((y q).sle (x q)) = 1#1 ↔ _
  rw [hx, hy, BitVec.sle, ofBool_iff, toInt_nat ha, toInt_nat hb]; exact Int.ofNat_le
theorem eq_at (hx : x q = BitVec.ofNat 32 a) (hy : y q = BitVec.ofNat 32 b) (ha : a < 1000) (hb : b < 1000) :
    cmpi .eq x y q = 1#1 ↔ a = b := by
  show BitVec.ofBool (x q == y q) = 1#1 ↔ _
  rw [hx, hy]
  have e : (BitVec.ofNat 32 a == BitVec.ofNat 32 b) = decide (a = b) := by
    rw [Bool.eq_iff_iff, beq_iff_eq, decide_eq_true_eq]
    constructor
    · intro h
      have := congrArg BitVec.toInt h
      rw [toInt_nat ha, toInt_nat hb] at this; exact_mod_cast this
    · rintro rfl; rfl
  rw [e, ofBool_iff]
theorem minsi_le (hx : x q = BitVec.ofNat 32 a) (hy : y q = BitVec.ofNat 32 b) (hb : b < 1000) (h : a ≤ b) :
    minsi x y q = BitVec.ofNat 32 a := by
  show (if (x q).slt (y q) then x q else y q) = _
  rw [hx, hy]
  split
  · rfl
  · rename_i hn
    have : ¬ a < b := by
      intro hl; apply hn
      rw [BitVec.slt, toInt_nat (by omega), toInt_nat hb]; exact decide_eq_true (Int.ofNat_lt.mpr hl)
    rw [show b = a by omega]
theorem addi_at (hx : x q = BitVec.ofNat 32 a) (hy : y q = BitVec.ofNat 32 b) : addi x y q = BitVec.ofNat 32 (a + b) := by
  show x q + y q = _
  rw [hx, hy, ← BitVec.ofNat_add]
end ints

variable (n : Fin 131072)

theorem int1_at (b : BitVec 32) : int1 b (ix1 n) = b := by unfold int1; rw [all1_at]; rfl
theorem num1_at (b : BitVec 32) : (num1 b : One Ideal) (ix1 n) = Ideal.ofBits .f32 b := by unfold num1; rw [all1_at]; rfl
theorem num8_at (b : BitVec 32) (k : Fin 8) : (num8 b : Eight Ideal) (ix2 n k) = Ideal.ofBits .f32 b := by
  unfold num8; rw [all8_at]; rfl
theorem zero_val : Ideal.ofBits .f32 0x00000000#32 = ((0 : ℝ) : EReal) := by
  have h := natBits_val 0 (by norm_num)
  rw [Nat.cast_zero] at h; exact h
theorem one_val : Ideal.ofBits .f32 0x3F800000#32 = ((1 : ℝ) : EReal) := by
  have h := natBits_val 1 (by norm_num)
  rw [Nat.cast_one] at h; exact h
theorem half_val : Ideal.ofBits .f32 0x3F000000#32 = ((1 / 2 : ℝ) : EReal) := by
  have h := halfBits_val 0 (by norm_num)
  rw [Nat.cast_zero, zero_add] at h; exact h

/-- The state's entries at a pair of boxes are the polygon's numbers. -/
structure RRep (S : RSt Ideal) (P : Poly) : Prop where
  px : ∀ k : Fin 8, (k : ℕ) < P.m → S.px (ix2 n k) = ((P.x k : ℝ) : EReal)
  py : ∀ k : Fin 8, (k : ℕ) < P.m → S.py (ix2 n k) = ((P.y k : ℝ) : EReal)
  m : S.m (ix1 n) = BitVec.ofNat 32 P.m
  fr : S.fr (ix1 n) = 1#1 ↔ P.fr
  le : P.m ≤ 8
  pos : 0 < P.m

/-- The step clips the polygon by a line. -/
structure RDoes (S : RSt Ideal) (L : RLine Ideal) (P : Poly) (a b c : ℝ) : Prop extends RRep n S P where
  a : L.a (ix2 n 0) = (a : EReal)
  b : L.b (ix2 n 0) = (b : EReal)
  c : L.c (ix2 n 0) = (c : EReal)

namespace RRep
variable {n} {S : RSt Ideal} {P : Poly} (R : RRep n S P)
include R

theorem wideM (k : Fin 8) : wide (up S.m) (ix2 n k) = BitVec.ofNat 32 P.m := by rw [wide_at, up_at, R.m]

theorem used (k : Fin 8) : S.used (ix2 n k) = 1#1 ↔ (k : ℕ) < P.m :=
  slt_at (x := slot) rfl (R.wideM k) (by omega) (by have := R.le; omega)

theorem last (k : Fin 8) : S.last (ix2 n k) = 1#1 ↔ P.m ≤ k + 1 := by
  have h1 : all8 (constantI S_ 32 1#32) (ix2 n k) = BitVec.ofNat 32 1 := all8_at n _ k
  exact sge_at (addi_at (x := slot) rfl h1) (R.wideM k) (by omega) (by have := R.le; omega)

/-- What is looked up at the next vertex. -/
theorem after (f : Eight Ideal) (g : ℕ → ℝ) (hf : ∀ k : Fin 8, (k : ℕ) < P.m → f (ix2 n k) = ((g k : ℝ) : EReal)) (k : Fin 8)
    (hk : (k : ℕ) < P.m) : RefM.after S.last f (ix2 n k) = ((g (nxt P.m k) : ℝ) : EReal) := by
  unfold RefM.after nxt
  rw [select_at (R.last k)]
  have hle := R.le
  by_cases hl : P.m ≤ k + 1
  · rw [if_pos hl, if_neg (by omega), wide_at, head_at]; exact hf 0 R.pos
  · rw [if_neg hl, if_pos (by omega), roll_at, dif_pos (by omega)]; exact hf ⟨k + 1, by omega⟩ (by show (k : ℕ) + 1 < _; omega)

theorem go : S.go (ix1 n) = 1#1 ↔ P.go :=
  andi_at (noti_at R.fr) (sgt_at R.m (int1_at n 2#32) (by have := R.le; omega) (by norm_num))

end RRep

namespace RDoes
variable {n} {S : RSt Ideal} {L : RLine Ideal} {P : Poly} {a b c : ℝ} (D : RDoes n S L P a b c)
include D

theorem wa (k : Fin 8) : wide L.a (ix2 n k) = (a : EReal) := by rw [wide_at, D.a]
theorem wb (k : Fin 8) : wide L.b (ix2 n k) = (b : EReal) := by rw [wide_at, D.b]
theorem wc (k : Fin 8) : wide L.c (ix2 n k) = (c : EReal) := by rw [wide_at, D.c]

theorem vals (k : Fin 8) (h : (k : ℕ) < P.m) : S.vals L (ix2 n k) = ((P.val a b c k : ℝ) : EReal) :=
  addf_at (addf_at (mulf_at (D.wa k) (D.px k h)) (mulf_at (D.wb k) (D.py k h))) (D.wc k)

theorem keep (k : Fin 8) : S.keep L (ix2 n k) = 1#1 ↔ (k : ℕ) < P.m ∧ P.val a b c k ≤ 0 := by
  have hz : (num8 0x00000000#32 : Eight Ideal) (ix2 n k) = ((0 : ℝ) : EReal) := (num8_at n _ k).trans zero_val
  by_cases h : (k : ℕ) < P.m
  · exact andi_at (D.used k) (ole_at (D.vals k h) hz)
  · have := andi_at (y := cmpf .ole (S.vals L) (num8 0x00000000#32)) (D.used k) Iff.rfl
    exact this.trans ⟨fun hh => absurd hh.1 h, fun hh => absurd hh.1 h⟩

theorem crossing (k : Fin 8) :
    S.crossing L (ix2 n k) = 1#1 ↔ (k : ℕ) < P.m ∧ P.val a b c k * P.val a b c (nxt P.m k) < 0 := by
  have hz : (num8 0x00000000#32 : Eight Ideal) (ix2 n k) = ((0 : ℝ) : EReal) := (num8_at n _ k).trans zero_val
  by_cases h : (k : ℕ) < P.m
  · exact andi_at (D.used k) (olt_at (mulf_at (D.vals k h) (D.after _ _ D.vals k h)) hz)
  · have := andi_at (y := cmpf .olt (mulf (S.vals L) (RefM.after S.last (S.vals L))) (num8 0x00000000#32)) (D.used k) Iff.rfl
    exact this.trans ⟨fun hh => absurd hh.1 h, fun hh => absurd hh.1 h⟩

/-- The candidates' marks. -/
theorem mark (i : Fin 16) : S.mark L (ix2 n i) = 1#1 ↔ flag P.m (P.val a b c) i := by
  unfold RSt.mark flag
  rw [pairUp_at]
  by_cases h0 : (i : ℕ) % 2 = 0
  · rw [if_pos h0, if_pos h0]; exact D.keep _
  · rw [if_neg h0, if_neg h0]; exact D.crossing _

/-- The crossing of an edge. -/
theorem cross (k : Fin 8) (h : (k : ℕ) < P.m) (hx : P.val a b c k * P.val a b c (nxt P.m k) < 0) :
    S.ix L (ix2 n k) = ((P.x k + P.val a b c k / (P.val a b c k - P.val a b c (nxt P.m k)) * (P.x (nxt P.m k) - P.x k) : ℝ) : EReal) ∧
    S.iy L (ix2 n k) = ((P.y k + P.val a b c k / (P.val a b c k - P.val a b c (nxt P.m k)) * (P.y (nxt P.m k) - P.y k) : ℝ) : EReal) := by
  have htx := D.after _ _ D.px k h
  have hty := D.after _ _ D.py k h
  have ha2 : S.a2 (ix2 n k) = _ := subf_at hty (D.py k h)
  have hb2 : S.b2 (ix2 n k) = _ := subf_at (D.px k h) htx
  have hc2 : S.c2 (ix2 n k) = _ := subf_at (mulf_at htx (D.py k h)) (mulf_at hty (D.px k h))
  have hdet : S.det L (ix2 n k) = _ := (select_at (D.crossing k)).trans ((if_pos ⟨h, hx⟩).trans
    (subf_at (mulf_at (D.wa k) hb2) (mulf_at (D.wb k) ha2)))
  have e : a * (P.x k - P.x (nxt P.m k)) - b * (P.y (nxt P.m k) - P.y k) = P.val a b c k - P.val a b c (nxt P.m k) := by
    unfold Poly.val; ring
  rw [e] at hdet
  have hd : P.val a b c k - P.val a b c (nxt P.m k) ≠ 0 := by
    intro he
    rw [sub_eq_zero.mp he] at hx
    exact absurd hx (not_lt.mpr (mul_self_nonneg _))
  have h1 : S.ix L (ix2 n k) = _ := hostDivf_at (subf_at (mulf_at (D.wb k) hc2) (mulf_at (D.wc k) hb2)) hdet hd
  have h2 : S.iy L (ix2 n k) = _ := hostDivf_at (subf_at (mulf_at (D.wc k) ha2) (mulf_at (D.wa k) hc2)) hdet hd
  rw [h1, h2]
  constructor
  · congr 1; field_simp; unfold Poly.val; ring
  · congr 1; field_simp; unfold Poly.val; ring

theorem candX (i : Fin 16) (h : flag P.m (P.val a b c) i) :
    S.candX L (ix2 n i) = ((Geo.cand P.m (P.val a b c) P.x i : ℝ) : EReal) := by
  unfold RSt.candX Geo.cand
  rw [pairUp_at]
  have hk := h.1
  have hx := h.2
  by_cases h0 : (i : ℕ) % 2 = 0
  · rw [if_pos h0, if_pos h0]; exact D.px _ hk
  · rw [if_neg h0] at hx
    rw [if_neg h0, if_neg h0]; exact (D.cross ⟨i / 2, by omega⟩ hk hx).1

theorem candY (i : Fin 16) (h : flag P.m (P.val a b c) i) :
    S.candY L (ix2 n i) = ((Geo.cand P.m (P.val a b c) P.y i : ℝ) : EReal) := by
  unfold RSt.candY Geo.cand
  rw [pairUp_at]
  have hk := h.1
  have hx := h.2
  by_cases h0 : (i : ℕ) % 2 = 0
  · rw [if_pos h0, if_pos h0]; exact D.py _ hk
  · rw [if_neg h0] at hx
    rw [if_neg h0, if_neg h0]; exact (D.cross ⟨i / 2, by omega⟩ hk hx).2

theorem cnt16 : cnt P.m (P.val a b c) 16 = Geo.tot P.m (P.val a b c) := cnt_of_le (by have := D.le; omega)

/-- How many candidates stay. -/
theorem count : S.count L (ix1 n) = BitVec.ofNat 32 (Geo.tot P.m (P.val a b c)) := by
  unfold RSt.count
  rw [count_at, ← D.cnt16]
  congr 1
  unfold cnt
  rw [Nat.count_eq_card_filter_range]
  refine Finset.card_bij (fun k _ => (k : ℕ)) (fun k hk => ?_) (fun k _ k' _ e => Fin.ext e) (fun i hi => ?_)
  · rw [Finset.mem_filter] at hk ⊢
    exact ⟨Finset.mem_range.mpr k.isLt, (D.mark k).mp hk.2⟩
  · rw [Finset.mem_filter, Finset.mem_range] at hi
    exact ⟨⟨i, hi.1⟩, Finset.mem_filter.mpr ⟨Finset.mem_univ _, (D.mark ⟨i, hi.1⟩).mpr hi.2⟩, rfl⟩

theorem tot_small : Geo.tot P.m (P.val a b c) < 1000 := by
  rw [← D.cnt16]
  have : cnt P.m (P.val a b c) 16 ≤ 16 := Nat.count_le _
  omega

theorem acc : S.acc L (ix1 n) = 1#1 ↔ P.acc a b c :=
  andi_at D.go (sgt_at D.count (int1_at n 0#32) D.tot_small (by norm_num))

/-- Where the sort takes its first places from. -/
theorem sortedPlace (j : Fin 16) (hj : (j : ℕ) < Geo.tot P.m (P.val a b c)) :
    (((sortedFrom (fun k k' : Fin 16 => comparator_i1_f32_f32_d1 (F := Ideal)
      (noti (S.mark L) (ix2 n k), S.candX L (ix2 n k), S.candY L (ix2 n k))
      (noti (S.mark L) (ix2 n k'), S.candX L (ix2 n k'), S.candY L (ix2 n k')) == 1#1) j : Fin 16)) : ℕ) =
    place P.m (P.val a b c) j := by
  refine sortedFrom_mark P.m (P.val a b c) _ (fun k k' => ?_) j (by rw [D.cnt16]; exact hj)
  rw [← D.mark k, ← D.mark k', beq_iff_eq]
  show BitVec.ofBool ((~~~(S.mark L (ix2 n k))).ult (~~~(S.mark L (ix2 n k')))) = 1#1 ↔ _
  generalize S.mark L (ix2 n k) = u; generalize S.mark L (ix2 n k') = v; revert u v; decide

theorem sortedX (j : Fin 16) (hj : (j : ℕ) < Geo.tot P.m (P.val a b c)) :
    (S.sorted L).2.1 (ix2 n j) = ((sel P.m (P.val a b c) P.x j : ℝ) : EReal) := by
  have hp := D.sortedPlace j hj
  have e := (sort_at n (comparator_i1_f32_f32_d1 (F := Ideal)) (noti (S.mark L)) (S.candX L) (S.candY L) j).1
  unfold RSt.sorted
  rw [e, D.candX _ (by rw [hp]; exact (place_spec hj).1), hp]; rfl

theorem sortedY (j : Fin 16) (hj : (j : ℕ) < Geo.tot P.m (P.val a b c)) :
    (S.sorted L).2.2 (ix2 n j) = ((sel P.m (P.val a b c) P.y j : ℝ) : EReal) := by
  have hp := D.sortedPlace j hj
  have e := (sort_at n (comparator_i1_f32_f32_d1 (F := Ideal)) (noti (S.mark L)) (S.candX L) (S.candY L) j).2
  unfold RSt.sorted
  rw [e, D.candY _ (by rw [hp]; exact (place_spec hj).1), hp]; rfl

theorem wacc (k : Fin 8) : wide (up (S.acc L)) (ix2 n k) = 1#1 ↔ P.acc a b c := by rw [wide_at, up_at]; exact D.acc

/-- The state after the step is the clipped polygon's. -/
theorem next (ht : Geo.tot P.m (P.val a b c) ≤ 8) : RRep n (S.next L) (P.next a b c) where
  px k hk := by
    unfold Poly.next at hk ⊢; dsimp only at hk ⊢
    show select (wide (up (S.acc L))) _ S.px (ix2 n k) = _
    rw [select_at (D.wacc k)]
    by_cases ha : P.acc a b c
    · rw [if_pos ha] at hk ⊢
      rw [if_pos ha, slice_at]; exact D.sortedX ⟨k, by omega⟩ hk
    · rw [if_neg ha] at hk ⊢
      rw [if_neg ha]; exact D.px k hk
  py k hk := by
    unfold Poly.next at hk ⊢; dsimp only at hk ⊢
    show select (wide (up (S.acc L))) _ S.py (ix2 n k) = _
    rw [select_at (D.wacc k)]
    by_cases ha : P.acc a b c
    · rw [if_pos ha] at hk ⊢
      rw [if_pos ha, slice_at]; exact D.sortedY ⟨k, by omega⟩ hk
    · rw [if_neg ha] at hk ⊢
      rw [if_neg ha]; exact D.py k hk
  m := by
    unfold Poly.next; dsimp only
    show select (S.acc L) (minsi (S.count L) (int1 8#32)) S.m (ix1 n) = _
    rw [select_at D.acc]
    by_cases ha : P.acc a b c
    · rw [if_pos ha, if_pos ha]; exact minsi_le D.count (int1_at n 8#32) (by norm_num) ht
    · rw [if_neg ha, if_neg ha]; exact D.m
  fr := ori_at D.fr (andi_at D.go (eq_at D.count (int1_at n 0#32) D.tot_small (by norm_num)))
  le := by
    unfold Poly.next; dsimp only
    split
    · exact ht
    · exact D.le
  pos := by
    unfold Poly.next; dsimp only
    split
    · rename_i ha; exact ha.2
    · exact D.pos

end RDoes

end Cert.RefM

end
-- ==== Proof.Geo.Ring.lean ====
module

public import proofs.«01_k».proof.Proof.Geo.Poly
public import Mathlib.Algebra.BigOperators.Intervals

@[expose] public section

/-!
The sum of a polygon's cross products over a ring of slots, of which the first ones hold the vertices.
-/

noncomputable section

namespace Cert.Geo

/-- The cross product of the points with numbers `i` and `j`. -/
def crossOf (x y : ℕ → ℝ) (i j : ℕ) : ℝ := x i * y j - y i * x j

/-- The slot's coordinate: the vertex's, or the first one's in a slot not in use. -/
def padTo (m : ℕ) (f : ℕ → ℝ) (k : ℕ) : ℝ := if k < m then f k else f 0

/-- Slots not in use add nothing: the ring's sum is the polygon's. -/
theorem ring_eq (m n : ℕ) (x y : ℕ → ℝ) (h0 : 0 < m) (hn : m ≤ n) :
    ∑ k ∈ Finset.range n, (padTo m x k * padTo m y ((k + 1) % n) - padTo m y k * padTo m x ((k + 1) % n)) =
      ∑ k ∈ Finset.range m, (x k * y (nxt m k) - y k * x (nxt m k)) := by
  rw [← Finset.sum_subset (Finset.range_subset_range.mpr hn)]
  · refine Finset.sum_congr rfl fun k hk => ?_
    rw [Finset.mem_range] at hk
    have e : ∀ f : ℕ → ℝ, padTo m f ((k + 1) % n) = f (nxt m k) := by
      intro f
      unfold padTo nxt
      by_cases h : k + 1 < m
      · rw [Nat.mod_eq_of_lt (by omega), if_pos h, if_pos h]
      · rw [if_neg h]
        by_cases h' : k + 1 < n
        · rw [Nat.mod_eq_of_lt h', if_neg h]
        · rw [show k + 1 = n by omega, Nat.mod_self, if_pos h0]
    rw [e, e, show padTo m x k = x k from if_pos hk, show padTo m y k = y k from if_pos hk]
  · intro k hk hk'
    rw [Finset.mem_range] at hk hk'
    have e : ∀ f : ℕ → ℝ, padTo m f ((k + 1) % n) = f 0 := by
      intro f
      unfold padTo
      by_cases h' : k + 1 < n
      · rw [Nat.mod_eq_of_lt h', if_neg (by omega)]
      · rw [show k + 1 = n by omega, Nat.mod_self, if_pos h0]
    rw [e, e, show padTo m x k = x 0 from if_neg hk', show padTo m y k = y 0 from if_neg hk']
    ring

end Cert.Geo

end
-- ==== Proof.Geo.Box.lean ====
module

public import proofs.«01_k».proof.Proof.Geo.Poly
public import Mathlib.Analysis.SpecialFunctions.Trigonometric.Arctan

@[expose] public section

/-!
A box over the reals: its direction, its corners, the lines of its sides, and the clipping of one box by another.
-/

noncomputable section

namespace Cert.Geo

/-- The angle of the direction `(re, im)`. -/
def angle (im re : ℝ) : ℝ :=
  if 0 < re then Real.arctan (im / re)
  else if re < 0 then (if 0 ≤ im then Real.arctan (im / re) + Real.pi else Real.arctan (im / re) - Real.pi)
  else if 0 < im then Real.pi / 2 else if im < 0 then -(Real.pi / 2) else 0

theorem sqrt_ratio {im re : ℝ} (h : re ≠ 0) : Real.sqrt (1 + (im / re) ^ 2) = Real.sqrt (im * im + re * re) / |re| := by
  rw [← Real.sqrt_mul_self_eq_abs, ← Real.sqrt_div' _ (mul_self_nonneg re)]
  congr 1
  field_simp
  ring

theorem sqrt_pos' {im re : ℝ} (h : 0 < im * im + re * re) : Real.sqrt (im * im + re * re) ≠ 0 := (Real.sqrt_pos.mpr h).ne'

/-- The cosine of the angle. -/
theorem cos_angle {im re : ℝ} (h : 0 < im * im + re * re) :
    Real.cos (angle im re) = re * (Real.sqrt (im * im + re * re))⁻¹ := by
  have hs := sqrt_pos' h
  unfold angle
  by_cases h1 : 0 < re
  · rw [if_pos h1, Real.cos_arctan, sqrt_ratio h1.ne', abs_of_pos h1]; field_simp
  · rw [if_neg h1]
    by_cases h2 : re < 0
    · rw [if_pos h2]
      have e : Real.cos (Real.arctan (im / re)) = -(re * (Real.sqrt (im * im + re * re))⁻¹) := by
        rw [Real.cos_arctan, sqrt_ratio h2.ne, abs_of_neg h2]; field_simp
      split
      · rw [Real.cos_add_pi, e, neg_neg]
      · rw [Real.cos_sub_pi, e, neg_neg]
    · rw [if_neg h2]
      have h0 : re = 0 := by linarith
      have hne : im ≠ 0 := by rintro rfl; rw [h0] at h; norm_num at h
      rw [h0, zero_mul]
      rcases lt_or_gt_of_ne hne with hl | hl
      · rw [if_neg (by linarith), if_pos hl, Real.cos_neg, Real.cos_pi_div_two]
      · rw [if_pos hl, Real.cos_pi_div_two]

/-- The sine of the angle. -/
theorem sin_angle {im re : ℝ} (h : 0 < im * im + re * re) :
    Real.sin (angle im re) = im * (Real.sqrt (im * im + re * re))⁻¹ := by
  have hs := sqrt_pos' h
  unfold angle
  by_cases h1 : 0 < re
  · rw [if_pos h1, Real.sin_arctan, sqrt_ratio h1.ne', abs_of_pos h1]; field_simp
  · rw [if_neg h1]
    by_cases h2 : re < 0
    · rw [if_pos h2]
      have e : Real.sin (Real.arctan (im / re)) = -(im * (Real.sqrt (im * im + re * re))⁻¹) := by
        have h2' := h2.ne
        rw [Real.sin_arctan, sqrt_ratio h2.ne, abs_of_neg h2]; field_simp
      split
      · rw [Real.sin_add_pi, e, neg_neg]
      · rw [Real.sin_sub_pi, e, neg_neg]
    · rw [if_neg h2]
      have h0 : re = 0 := by linarith
      have hne : im ≠ 0 := by rintro rfl; rw [h0] at h; norm_num at h
      rcases lt_or_gt_of_ne hne with hl | hl
      · rw [if_neg (by linarith), if_pos hl, Real.sin_neg, Real.sin_pi_div_two, h0, mul_zero, add_zero,
          Real.sqrt_mul_self_eq_abs, abs_of_neg hl, inv_neg, mul_neg, mul_inv_cancel₀ hne]
      · rw [if_pos hl, Real.sin_pi_div_two, h0, mul_zero, add_zero, Real.sqrt_mul_self_eq_abs, abs_of_pos hl, mul_inv_cancel₀ hne]

/-- A box: centre, extents, direction. -/
structure RBox where
  x : ℝ
  y : ℝ
  w : ℝ
  l : ℝ
  im : ℝ
  re : ℝ

namespace RBox
variable (r : RBox)

def c : ℝ := r.re * (Real.sqrt (r.im * r.im + r.re * r.re))⁻¹
def s : ℝ := r.im * (Real.sqrt (r.im * r.im + r.re * r.re))⁻¹

/-- The box has a direction. -/
def Dir : Prop := 0 < r.im * r.im + r.re * r.re

theorem unit (h : r.Dir) : r.c * r.c + r.s * r.s = 1 := by
  have hs := sqrt_pos' h
  have e := Real.mul_self_sqrt (le_of_lt h)
  have : r.c * r.c + r.s * r.s = (r.im * r.im + r.re * r.re) * ((Real.sqrt (r.im * r.im + r.re * r.re))⁻¹ * (Real.sqrt (r.im * r.im + r.re * r.re))⁻¹) := by
    unfold c s; ring
  rw [this, ← mul_inv, e, mul_inv_cancel₀ (ne_of_gt h)]

/-- The corners' coordinates. -/
def cx : ℕ → ℝ
  | 0 => r.x - r.w * (1 / 2) * r.c - r.l * (1 / 2) * r.s
  | 1 => r.x - r.w * (1 / 2) * r.c + r.l * (1 / 2) * r.s
  | 2 => r.x + r.w * (1 / 2) * r.c + r.l * (1 / 2) * r.s
  | 3 => r.x + r.w * (1 / 2) * r.c - r.l * (1 / 2) * r.s
  | _ => 0
def cy : ℕ → ℝ
  | 0 => r.y - r.w * (1 / 2) * r.s + r.l * (1 / 2) * r.c
  | 1 => r.y - r.w * (1 / 2) * r.s - r.l * (1 / 2) * r.c
  | 2 => r.y + r.w * (1 / 2) * r.s - r.l * (1 / 2) * r.c
  | 3 => r.y + r.w * (1 / 2) * r.s + r.l * (1 / 2) * r.c
  | _ => 0

/-- The coefficients of the line through side `e`. -/
def la (e : ℕ) : ℝ := r.cy ((e + 1) % 4) - r.cy e
def lb (e : ℕ) : ℝ := r.cx e - r.cx ((e + 1) % 4)
def lc (e : ℕ) : ℝ := r.cx ((e + 1) % 4) * r.cy e - r.cy ((e + 1) % 4) * r.cx e

/-- The box as a polygon. -/
def poly : Poly := ⟨4, r.cx, r.cy, False⟩

end RBox

/-- The first box clipped by the first sides of the second. -/
def steps (p t : RBox) : ℕ → Poly
  | 0 => p.poly
  | e + 1 => (steps p t e).next (t.la e) (t.lb e) (t.lc e)

theorem steps_good (p t : RBox) (e : ℕ) : (steps p t e).Good := by
  induction e with
  | zero =>
    refine good_of_parallelogram _ rfl ?_ ?_
    · show p.cx 0 + p.cx 2 = p.cx 1 + p.cx 3
      simp only [RBox.cx]; ring
    · show p.cy 0 + p.cy 2 = p.cy 1 + p.cy 3
      simp only [RBox.cy]; ring
  | succ e ih => exact ih.next _ _ _

theorem steps_le (p t : RBox) (e : ℕ) : (steps p t e).m ≤ 4 + e := by
  induction e with
  | zero => exact le_rfl
  | succ e ih => exact ((steps_good p t e).next_m _ _ _).trans (by omega)

theorem steps_pos (p t : RBox) (e : ℕ) : 0 < (steps p t e).m := by
  induction e with
  | zero => exact Nat.zero_lt_succ 3
  | succ e ih =>
    show 0 < (Poly.next _ _ _ _).m
    unfold Poly.next; dsimp only; split
    · rename_i h; exact h.2
    · exact ih

/-- The area of the two boxes' intersection. -/
def interOf (p t : RBox) : ℝ := (steps p t 4).area

end Cert.Geo

end
-- ==== Proof.Geo.Hull.lean ====
module

public import proofs.«01_k».proof.Proof.Geo.Box
public import Mathlib.Tactic.IntervalCases

@[expose] public section

/-!
The hull of the eight corners over the reals: the edges found by testing every ordered pair against every corner, and the
same sum with the tests of two corners of the same box left out.
-/

noncomputable section

namespace Cert.Geo

open Classical

/-- Twice the signed area of a triangle. -/
def tri (x y : ℕ → ℝ) (i j k : ℕ) : ℝ :=
  (x i * y j - y i * x j) + (x j * y k - y j * x k) + (x k * y i - y k * x i)

theorem tri_left (x y : ℕ → ℝ) (i j : ℕ) : tri x y i j i = 0 := by unfold tri; ring
theorem tri_right (x y : ℕ → ℝ) (i j : ℕ) : tri x y i j j = 0 := by unfold tri; ring
theorem tri_swap (x y : ℕ → ℝ) (i j k : ℕ) : tri x y j i k = -tri x y i j k := by unfold tri; ring
theorem tri_turn (x y : ℕ → ℝ) (i j k : ℕ) : tri x y i k j = -tri x y i j k := by unfold tri; ring

/-- The square of a distance. -/
def dist2 (x y : ℕ → ℝ) (i j : ℕ) : ℝ := (x j - x i) * (x j - x i) + (y j - y i) * (y j - y i)

/-- What an ordered pair adds when the corners in `ks` are tested against the bound `ε`. -/
def edge (ε : ℝ) (x y : ℕ → ℝ) (ks : List ℕ) (i j : ℕ) : ℝ := if ∀ k ∈ ks, -ε ≤ tri x y i j k then x i * y j - y i * x j else 0

/-- What an ordered pair adds when every corner is tested, and the distance. -/
def edgeAll (ε δ : ℝ) (x y : ℕ → ℝ) (i j : ℕ) : ℝ :=
  if (∀ k < 8, -ε ≤ tri x y i j k) ∧ δ < dist2 x y i j then x i * y j - y i * x j else 0

/-- The four points from the `o`-th on are a box's corners. -/
def Quad (x y : ℕ → ℝ) (o : ℕ) (r : RBox) : Prop := ∀ k < 4, x (o + k) = r.cx k ∧ y (o + k) = r.cy k

/-- A box is large enough. -/
structure Sized (ε δ : ℝ) (r : RBox) : Prop where
  dir : r.Dir
  wl : ε < r.w * r.l
  w : δ < r.w * r.w
  l : δ < r.l * r.l

/-- Conditionals on equivalent conditions. -/
theorem ite_of_iff {α : Type} {p q : Prop} {dp : Decidable p} {dq : Decidable q} (h : p ↔ q) (u v : α) :
    @ite α p dp u v = @ite α q dq u v := if_congr h rfl rfl

section
variable {ε δ : ℝ} {x y : ℕ → ℝ} {o : ℕ} {r : RBox}

/-- A box's corners are in counter-clockwise order. -/
theorem quad_tri (h : Quad x y o r) (hr : r.Dir) (i k : ℕ) (hi : i < 4) (hk : k < 4) (h1 : k ≠ i) (h2 : k ≠ (i + 1) % 4) :
    tri x y (o + i) (o + (i + 1) % 4) (o + k) = r.w * r.l := by
  have hu := r.unit hr
  unfold tri
  rw [(h i hi).1, (h i hi).2, (h k hk).1, (h k hk).2, (h _ (Nat.mod_lt _ (by norm_num))).1, (h _ (Nat.mod_lt _ (by norm_num))).2]
  interval_cases i <;> interval_cases k <;> first
    | exact absurd rfl h1
    | exact absurd rfl h2
    | (simp only [RBox.cx, RBox.cy, Nat.zero_add, Nat.reduceAdd, Nat.reduceMod]; linear_combination (r.w * r.l) * hu)

theorem quad_dist (h : Quad x y o r) (hr : Sized ε δ r) (i : ℕ) (hi : i < 4) : δ < dist2 x y (o + i) (o + (i + 1) % 4) := by
  have hu := r.unit hr.dir
  unfold dist2
  rw [(h i hi).1, (h i hi).2, (h _ (Nat.mod_lt _ (by norm_num))).1, (h _ (Nat.mod_lt _ (by norm_num))).2]
  have hw : r.w * r.w = r.w * r.w * (r.c * r.c + r.s * r.s) := by rw [hu, mul_one]
  have hl : r.l * r.l = r.l * r.l * (r.c * r.c + r.s * r.s) := by rw [hu, mul_one]
  have h1 := hr.w
  have h2 := hr.l
  rw [hw] at h1
  rw [hl] at h2
  interval_cases i <;> simp only [RBox.cx, RBox.cy, Nat.zero_add, Nat.reduceAdd, Nat.reduceMod]
  · refine lt_of_lt_of_eq h2 ?_; ring
  · refine lt_of_lt_of_eq h1 ?_; ring
  · refine lt_of_lt_of_eq h2 ?_; ring
  · refine lt_of_lt_of_eq h1 ?_; ring

/-- An edge of a box: only the other box's corners matter. -/
theorem edge_side (hε : 0 ≤ ε) (h : Quad x y o r) (hr : Sized ε δ r) (i : ℕ) (hi : i < 4) (ks : List ℕ)
    (hks : ∀ k < 8, k ∈ ks ∨ ∃ k' < 4, k = o + k') (hk8 : ∀ k ∈ ks, k < 8) :
    edgeAll ε δ x y (o + i) (o + (i + 1) % 4) = edge ε x y ks (o + i) (o + (i + 1) % 4) := by
  unfold edgeAll edge
  refine ite_of_iff ⟨fun hh k hk => hh.1 k (hk8 k hk), fun hh => ⟨fun k hk => ?_, quad_dist h hr i hi⟩⟩ _ _
  rcases hks k hk with hk | ⟨k', hk', rfl⟩
  · exact hh k hk
  · by_cases h1 : k' = i
    · rw [h1, tri_left]; linarith
    · by_cases h2 : k' = (i + 1) % 4
      · rw [h2, tri_right]; linarith
      · rw [quad_tri h hr.dir i k' hi hk' h1 h2]; linarith [hr.wl]

/-- No other pair of a box's corners is an edge. -/
theorem edge_none (hε : 0 ≤ ε) (hδ : 0 ≤ δ) (h : Quad x y o r) (hr : Sized ε δ r) (ho : o ≤ 4) (i j : ℕ) (hi : i < 4) (hj : j < 4)
    (hn : j ≠ (i + 1) % 4) : edgeAll ε δ x y (o + i) (o + j) = 0 := by
  refine if_neg fun hh => ?_
  by_cases hij : j = i
  · have := hh.2
    rw [hij] at this
    unfold dist2 at this
    simp only [sub_self, mul_zero, add_zero] at this
    linarith
  · have := hh.1 (o + (i + 1) % 4) (by omega)
    rw [tri_turn, quad_tri h hr.dir i j hi hj hij hn] at this
    linarith [hr.wl]

end

/-- A pair of corners of different boxes: the two themselves need no test. -/
theorem edge_cross {ε δ : ℝ} {x y : ℕ → ℝ} (hε : 0 ≤ ε) (i j : ℕ) (ks : List ℕ) (hks : ∀ k < 8, k ∈ ks ∨ k = i ∨ k = j)
    (hk8 : ∀ k ∈ ks, k < 8) (hd : δ < dist2 x y i j ∨ dist2 x y i j = 0) :
    edgeAll ε δ x y i j = edge ε x y ks i j := by
  unfold edgeAll edge
  rcases hd with hd | hd
  · refine ite_of_iff ⟨fun hh k hk => hh.1 k (hk8 k hk), fun hh => ⟨fun k hk => ?_, hd⟩⟩ _ _
    rcases hks k hk with hk | rfl | rfl
    · exact hh k hk
    · rw [tri_left]; linarith
    · rw [tri_right]; linarith
  · have m1 := mul_self_nonneg (x j - x i)
    have m2 := mul_self_nonneg (y j - y i)
    unfold dist2 at hd
    have h1 : x j - x i = 0 := mul_self_eq_zero.mp (by linarith)
    have h2 : y j - y i = 0 := mul_self_eq_zero.mp (by linarith)
    have hc : x i * y j - y i * x j = 0 := by rw [sub_eq_zero.mp h1, sub_eq_zero.mp h2]; ring
    rw [hc, ite_self, ite_self]

/-- The corners tested for a pair. -/
def tested (i j : ℕ) : List ℕ :=
  if i < 4 ∧ j < 4 then [4, 5, 6, 7] else if 4 ≤ i ∧ 4 ≤ j then [0, 1, 2, 3] else (List.range 8).filter fun k => k ≠ i ∧ k ≠ j

/-- The next corner of the same box. -/
def Side (i j : ℕ) : Prop := (i < 4 ∧ j = (i + 1) % 4) ∨ (4 ≤ i ∧ j = 4 + (i - 4 + 1) % 4)

instance (i j : ℕ) : Decidable (Side i j) := by unfold Side; infer_instance

/-- The sum with the tests left out. -/
def edgeFew (ε : ℝ) (x y : ℕ → ℝ) (i j : ℕ) : ℝ :=
  if (i < 4 ↔ j < 4) ∧ ¬ Side i j then 0 else edge ε x y (tested i j) i j

theorem edgeAll_eq {ε δ : ℝ} {x y : ℕ → ℝ} {p t : RBox} (hε : 0 ≤ ε) (hδ : 0 ≤ δ) (hp : Quad x y 0 p) (ht : Quad x y 4 t)
    (sp : Sized ε δ p) (st : Sized ε δ t) (hd : ∀ i < 4, ∀ j < 4, δ < dist2 x y i (4 + j) ∨ dist2 x y i (4 + j) = 0)
    (i j : ℕ) (hi : i < 8) (hj : j < 8) : edgeAll ε δ x y i j = edgeFew ε x y i j := by
  unfold edgeFew
  by_cases hi4 : i < 4 <;> by_cases hj4 : j < 4
  · by_cases hs : j = (i + 1) % 4
    · rw [if_neg (fun h => h.2 (.inl ⟨hi4, hs⟩))]
      have := edge_side hε hp sp i hi4 (tested i j) (fun k hk => ?_) (fun k hk => ?_)
      · rw [Nat.zero_add, Nat.zero_add, ← hs] at this; exact this
      · unfold tested; rw [if_pos ⟨hi4, hj4⟩]
        by_cases h : k < 4
        · exact .inr ⟨k, h, by omega⟩
        · left; simp; omega
      · unfold tested at hk; rw [if_pos ⟨hi4, hj4⟩] at hk; simp at hk; omega
    · rw [if_pos ⟨by simp [hi4, hj4], fun h => by rcases h with h | h <;> omega⟩]
      have := edge_none hε hδ hp sp (by norm_num) i j hi4 hj4 hs
      rwa [Nat.zero_add, Nat.zero_add] at this
  · rw [if_neg (fun h => hj4 (h.1.mp hi4))]
    refine edge_cross hε i j _ (fun k hk => ?_) (fun k hk => ?_) ?_
    · unfold tested; rw [if_neg (by omega), if_neg (by omega)]; simp; omega
    · unfold tested at hk; rw [if_neg (by omega), if_neg (by omega)] at hk; simp at hk; omega
    · have := hd i hi4 (j - 4) (by omega)
      rwa [show 4 + (j - 4) = j by omega] at this
  · rw [if_neg (fun h => hi4 (h.1.mpr hj4))]
    refine edge_cross hε i j _ (fun k hk => ?_) (fun k hk => ?_) ?_
    · unfold tested; rw [if_neg (by omega), if_neg (by omega)]; simp; omega
    · unfold tested at hk; rw [if_neg (by omega), if_neg (by omega)] at hk; simp at hk; omega
    · have := hd j hj4 (i - 4) (by omega)
      rw [show 4 + (i - 4) = i by omega] at this
      have e : dist2 x y i j = dist2 x y j i := by unfold dist2; ring
      rwa [e]
  · obtain ⟨i', rfl⟩ : ∃ i', i = 4 + i' := ⟨i - 4, by omega⟩
    obtain ⟨j', rfl⟩ : ∃ j', j = 4 + j' := ⟨j - 4, by omega⟩
    by_cases hs : j' = (i' + 1) % 4
    · rw [if_neg (fun h => h.2 (.inr ⟨by omega, by omega⟩))]
      have := edge_side hε ht st i' (by omega) (tested (4 + i') (4 + j')) (fun k hk => ?_) (fun k hk => ?_)
      · rw [← hs] at this; exact this
      · unfold tested; rw [if_neg (by omega), if_pos (by omega)]
        by_cases h : k < 4
        · left; simp; omega
        · exact .inr ⟨k - 4, by omega, by omega⟩
      · unfold tested at hk; rw [if_neg (by omega), if_pos (by omega)] at hk; simp at hk; omega
    · rw [if_pos ⟨by omega, fun h => by rcases h with h | h <;> omega⟩]
      exact edge_none hε hδ ht st le_rfl i' j' (by omega) (by omega) hs

/-- Twice the hull's signed area, every pair tested. -/
def hullTwice (ε δ : ℝ) (x y : ℕ → ℝ) : ℝ := ∑ i ∈ Finset.range 8, ∑ j ∈ Finset.range 8, edgeAll ε δ x y i j

end Cert.Geo

end
-- ==== Proof.Ref.Inter.lean ====
module

public import proofs.«01_k».proof.Proof.Ref.Step
public import proofs.«01_k».proof.Proof.Geo.Ring
public import proofs.«01_k».proof.Proof.Geo.Box
public import proofs.«01_k».proof.Proof.Geo.Hull

@[expose] public section

/-!
The reference's corners at one pair of boxes, the four steps in turn and the area.
-/

noncomputable section

namespace Cert.RefM

open Cert.ReferenceIdeal Cert.ReferenceIdeal.Gen Idealize.ShloMosaic Cert.Geo Cert.Lane Classical

/-- The row's six entries are a box's real numbers, and the box has a direction. -/
structure RowAt (b : Boxes Ideal) (n : Fin 131072) (r : RBox) : Prop where
  x : b (ix2 n 0) = (r.x : EReal)
  y : b (ix2 n 1) = (r.y : EReal)
  w : b (ix2 n 2) = (r.w : EReal)
  l : b (ix2 n 3) = (r.l : EReal)
  im : b (ix2 n 4) = (r.im : EReal)
  re : b (ix2 n 5) = (r.re : EReal)
  dir : r.Dir

namespace RowAt
variable {b : Boxes Ideal} {n : Fin 131072} {r : RBox} (h : RowAt b n r)
include h

theorem xv : Boxes.x b (ix1 n) = (r.x : EReal) := (col_at n b 0 (by norm_num) _).trans h.x
theorem yv : Boxes.y b (ix1 n) = (r.y : EReal) := (col_at n b 1 (by norm_num) _).trans h.y
theorem wv : Boxes.w b (ix1 n) = (r.w : EReal) := (col_at n b 2 (by norm_num) _).trans h.w
theorem lv : Boxes.l b (ix1 n) = (r.l : EReal) := (col_at n b 3 (by norm_num) _).trans h.l
theorem imv : Boxes.im b (ix1 n) = (r.im : EReal) := (col_at n b 4 (by norm_num) _).trans h.im
theorem rev : Boxes.re b (ix1 n) = (r.re : EReal) := (col_at n b 5 (by norm_num) _).trans h.re

theorem angv : Boxes.ang b (ix1 n) = ((angle r.im r.re : ℝ) : EReal) := by
  show Ideal.atan2 (Boxes.im b (ix1 n)) (Boxes.re b (ix1 n)) = _
  rw [h.imv, h.rev]; rfl
theorem cv : Boxes.c b (ix1 n) = (r.c : EReal) := by
  show Ideal.cos (Boxes.ang b (ix1 n)) = _
  rw [h.angv, Ideal.cos_coe, cos_angle h.dir]; rfl
theorem sv : Boxes.s b (ix1 n) = (r.s : EReal) := by
  show Ideal.sin (Boxes.ang b (ix1 n)) = _
  rw [h.angv, Ideal.sin_coe, sin_angle h.dir]; rfl

theorem half : (num1 0x3F000000#32 : One Ideal) (ix1 n) = ((1 / 2 : ℝ) : EReal) := (num1_at n _).trans half_val
theorem hwc : mulf (Boxes.hw b) (Boxes.c b) (ix1 n) = ((r.w * (1 / 2) * r.c : ℝ) : EReal) := mulf_at (mulf_at h.wv h.half) h.cv
theorem hws : mulf (Boxes.hw b) (Boxes.s b) (ix1 n) = ((r.w * (1 / 2) * r.s : ℝ) : EReal) := mulf_at (mulf_at h.wv h.half) h.sv
theorem hlc : mulf (Boxes.hl b) (Boxes.c b) (ix1 n) = ((r.l * (1 / 2) * r.c : ℝ) : EReal) := mulf_at (mulf_at h.lv h.half) h.cv
theorem hls : mulf (Boxes.hl b) (Boxes.s b) (ix1 n) = ((r.l * (1 / 2) * r.s : ℝ) : EReal) := mulf_at (mulf_at h.lv h.half) h.sv

theorem cx (k : Fin 4) : Boxes.cx b (ix2 n k) = ((r.cx k : ℝ) : EReal) := by
  unfold Boxes.cx
  rw [four_at]
  have hk := k.isLt
  split
  · rename_i e; rw [e]; exact subf_at (subf_at h.xv h.hwc) h.hls
  split
  · rename_i e; rw [e]; exact addf_at (subf_at h.xv h.hwc) h.hls
  split
  · rename_i e; rw [e]; exact addf_at (addf_at h.xv h.hwc) h.hls
  · rw [show (k : ℕ) = 3 by omega]; exact subf_at (addf_at h.xv h.hwc) h.hls

theorem cy (k : Fin 4) : Boxes.cy b (ix2 n k) = ((r.cy k : ℝ) : EReal) := by
  unfold Boxes.cy
  rw [four_at]
  have hk := k.isLt
  split
  · rename_i e; rw [e]; exact addf_at (subf_at h.yv h.hws) h.hlc
  split
  · rename_i e; rw [e]; exact subf_at (subf_at h.yv h.hws) h.hlc
  split
  · rename_i e; rw [e]; exact subf_at (addf_at h.yv h.hws) h.hlc
  · rw [show (k : ℕ) = 3 by omega]; exact addf_at (addf_at h.yv h.hws) h.hlc

/-- The first state is the box. -/
theorem start : RRep n (start b) r.poly where
  px k hk := by
    have h4 : (k : ℕ) < 4 := hk
    show both (Boxes.cx b) _ (ix2 n k) = _
    rw [both_at, dif_pos h4]; exact h.cx ⟨k, h4⟩
  py k hk := by
    have h4 : (k : ℕ) < 4 := hk
    show both (Boxes.cy b) _ (ix2 n k) = _
    rw [both_at, dif_pos h4]; exact h.cy ⟨k, h4⟩
  m := int1_at n 4#32
  fr := by
    have e : (RefM.start b).fr (ix1 n) = 0#1 := all1_at n (constantI S_ 1 0#1)
    rw [e]; exact ⟨fun hh => absurd hh (by decide), fun hh => hh.elim⟩
  le := by show 4 ≤ 8; norm_num
  pos := by show 0 < 4; norm_num

/-- A step against a side of the box. -/
theorem does {S : RSt Ideal} {P : Poly} (R : RRep n S P) (i j : ℕ) (hi4 : i < 4) (hj : j = (i + 1) % 4) (hi) (hj') :
    RDoes n S (side b i j hi hj') P (r.la i) (r.lb i) (r.lc i) := by
  have j4 : j < 4 := by omega
  have pX : col4 (Boxes.cx b) i hi (ix1 n) = _ := (col4_at n _ i hi4 hi).trans (h.cx ⟨i, hi4⟩)
  have pY : col4 (Boxes.cy b) i hi (ix1 n) = _ := (col4_at n _ i hi4 hi).trans (h.cy ⟨i, hi4⟩)
  have qX : col4 (Boxes.cx b) j hj' (ix1 n) = _ := (col4_at n _ j j4 hj').trans (h.cx ⟨j, j4⟩)
  have qY : col4 (Boxes.cy b) j hj' (ix1 n) = _ := (col4_at n _ j j4 hj').trans (h.cy ⟨j, j4⟩)
  refine { toRRep := R, a := ?_, b := ?_, c := ?_ } <;> unfold side lineOf <;> dsimp only <;> rw [up_at]
  · unfold RBox.la; rw [← hj]; exact subf_at qY pY
  · unfold RBox.lb; rw [← hj]; exact subf_at pX qX
  · unfold RBox.lc; rw [← hj]; exact subf_at (mulf_at qX pY) (mulf_at qY pX)

end RowAt

/-- A sum of eight real numbers. -/
theorem sum_coe {g : ℕ → ℝ} {v : Fin 8 → EReal} (h : ∀ k : Fin 8, v k = ((g k : ℝ) : EReal)) :
    ∑ k : Fin 8, v k = ((∑ k ∈ Finset.range 8, g k : ℝ) : EReal) := by
  rw [Finset.sum_range]
  simp only [h, Fin.sum_univ_eight, EReal.coe_add]

theorem sum8_at (n : Fin 131072) (v : Eight Ideal) :
    Host.reduceAdd v (constant S_ .f32 0x00000000#32) reducesTo_S131072x8_S131072_d1 h_S_ (ix1 n) = ∑ k : Fin 8, v (ix2 n k) := by
  pointwise

/-- The area of a state's polygon. -/
theorem RRep.area {n : Fin 131072} {S : RSt Ideal} {P : Poly} (R : RRep n S P) : S.area (ix1 n) = ((P.area : ℝ) : EReal) := by
  have full : ∀ (f : Eight Ideal) (g : ℕ → ℝ), (∀ k : Fin 8, (k : ℕ) < P.m → f (ix2 n k) = ((g k : ℝ) : EReal)) →
      ∀ k : Fin 8, S.full f (ix2 n k) = ((padTo P.m g k : ℝ) : EReal) := by
    intro f g hf k
    unfold RSt.full padTo
    rw [select_at (R.used k), wide_at, head_at]
    split
    · rename_i hk; exact hf k hk
    · exact hf 0 R.pos
  have rolled : ∀ (f : Eight Ideal) (g : ℕ → ℝ), (∀ k : Fin 8, f (ix2 n k) = ((g k : ℝ) : EReal)) →
      ∀ k : Fin 8, roll f (ix2 n k) = ((g ((k + 1) % 8) : ℝ) : EReal) := by
    intro f g hf k
    rw [roll_at]
    have hk := k.isLt
    split
    · rw [hf]; congr 2; show (k : ℕ) + 1 = (k + 1) % 8; omega
    · rw [hf]; congr 2; show 0 = ((k : ℕ) + 1) % 8; omega
  have hx := full _ _ R.px
  have hy := full _ _ R.py
  have hs := sum_coe (v := fun k => subf (mulf (S.full S.px) (roll (S.full S.py))) (mulf (S.full S.py) (roll (S.full S.px))) (ix2 n k))
    (g := fun k => padTo P.m P.x k * padTo P.m P.y ((k + 1) % 8) - padTo P.m P.y k * padTo P.m P.x ((k + 1) % 8))
    (fun k => subf_at (mulf_at (hx k) (rolled _ _ hy k)) (mulf_at (hy k) (rolled _ _ hx k)))
  rw [ring_eq P.m 8 P.x P.y R.pos R.le, ← sum8_at] at hs
  have hz : (all1 (id (constant S_ .f32 0x00000000#32)) : One Ideal) (ix1 n) = ((0 : ℝ) : EReal) := (num1_at n _).trans zero_val
  have hh : (num1 0x3F000000#32 : One Ideal) (ix1 n) = ((1 / 2 : ℝ) : EReal) := (num1_at n _).trans half_val
  have hm : cmpi .sgt S.m (int1 2#32) (ix1 n) = 1#1 ↔ 2 < P.m := sgt_at R.m (int1_at n 2#32) (by have := R.le; omega) (by norm_num)
  refine (select_real hm (mulf_at hh (hostAbsf_at hs)) hz).trans (congrArg _ ?_)
  exact ite_of_iff Iff.rfl _ _

/-- The four steps give the area of the intersection. -/
theorem inter_at {b b' : Boxes Ideal} {n : Fin 131072} {p t : RBox} (hp : RowAt b n p) (ht : RowAt b' n t) :
    inter b b' (ix1 n) = ((interOf p t : ℝ) : EReal) := by
  have tl : ∀ e ≤ 3, Geo.tot (steps p t e).m ((steps p t e).val (t.la e) (t.lb e) (t.lc e)) ≤ 8 := fun e he =>
    ((steps_good p t e).tot_le _ _ _).trans (by have := steps_le p t e; omega)
  have r1 : RRep n (step1 b b') (steps p t 1) := (ht.does hp.start 0 1 (by norm_num) rfl _ _).next (tl 0 (by norm_num))
  have r2 : RRep n (step2 b b') (steps p t 2) := (ht.does r1 1 2 (by norm_num) rfl _ _).next (tl 1 (by norm_num))
  have r3 : RRep n (step3 b b') (steps p t 3) := (ht.does r2 2 3 (by norm_num) rfl _ _).next (tl 2 (by norm_num))
  have r4 : RRep n (step4 b b') (steps p t 4) := (ht.does r3 3 0 (by norm_num) rfl _ _).next (tl 3 (by norm_num))
  exact r4.area

end Cert.RefM

end
-- ==== Proof.Lane.Step.lean ====
module

public import proofs.«01_k».proof.Proof.Lane.Num
public import proofs.«01_k».proof.Proof.Geo.Poly

@[expose] public section

/-!
One clipping step at an index: the vectors' entries there follow the polygon's clipping over the reals.
-/

noncomputable section

namespace Cert.Lane

open Idealize.ShloMosaic Cert.Geo Classical

/-- The state's entries at `q` are the polygon's numbers; the marks of the first `n` slots say which are in use. -/
structure Rep (n : ℕ) (s : St Ideal) (q : B.Idx) (P : Poly) : Prop where
  px : ∀ k < P.m, s.px k q = ((P.x k : ℝ) : EReal)
  py : ∀ k < P.m, s.py k q = ((P.y k : ℝ) : EReal)
  mv : ∀ k < n, s.mv k q = ((if k < P.m then 1 else 0 : ℝ) : EReal)
  m : s.m q = ((P.m : ℝ) : EReal)
  fr : s.fr q = ((if P.fr then 1 else 0 : ℝ) : EReal)

/-- A step at `q` clips the polygon by the line `a x + b y + c ≤ 0`. -/
structure Does (C : Clip Ideal) (q : B.Idx) (P : Poly) (a b c : ℝ) : Prop where
  rep : Rep (C.cap + 1) C.st q P
  a : C.a q = (a : EReal)
  b : C.b q = (b : EReal)
  c : C.c q = (c : EReal)
  nx : ∀ (f : ℕ → V Ideal) (g : ℕ → ℝ), (∀ k < P.m, f k q = ((g k : ℝ) : EReal)) →
    ∀ k < P.m, C.nx f k q = ((g (nxt P.m k) : ℝ) : EReal)
  us : ∀ k < C.cap, C.us k q = ((if k < P.m then 1 else 0 : ℝ) : EReal)
  go : C.go q = ((if P.go then 1 else 0 : ℝ) : EReal)
  le : P.m ≤ C.cap
  pos : 0 < P.m

theorem nxt_lt {m k : ℕ} (h : 0 < m) : nxt m k < m := by unfold nxt; split <;> omega

theorem half_iff (j n : ℕ) : ((j : ℝ) + 1 / 2 < (n : ℝ)) ↔ j < n := by
  constructor
  · intro h
    have : (j : ℝ) < n := by linarith
    exact_mod_cast this
  · intro h
    have : ((j + 1 : ℕ) : ℝ) ≤ (n : ℝ) := by exact_mod_cast h
    push_cast at this; linarith

namespace Does
variable {C : Clip Ideal} {q : B.Idx} {P : Poly} {a b c : ℝ} (D : Does C q P a b c)
include D

theorem vals (k : ℕ) (h : k < P.m) : C.vals k q = ((P.val a b c k : ℝ) : EReal) :=
  addf_at (addf_at (mulf_at D.a (D.rep.px k h)) (mulf_at D.b (D.rep.py k h))) D.c

theorem crossB (k : ℕ) (h : k < P.m) : C.crossB k q = 1#1 ↔ P.val a b c k * P.val a b c (nxt P.m k) < 0 :=
  olt_at (mulf_at (D.vals k h) (D.nx _ _ D.vals k h)) (zr_at q)

theorem keepB (k : ℕ) (h : k < P.m) : C.keepB k q = 1#1 ↔ P.val a b c k ≤ 0 := ole_at (D.vals k h) (zr_at q)

theorem kv (i : ℕ) (h : i < 2 * C.cap) : C.kv i q = ((if flag P.m (P.val a b c) i then 1 else 0 : ℝ) : EReal) := by
  have hu := D.us (i / 2) (by omega)
  have key : ∀ (d : IVec B 1) (p : Prop), (i / 2 < P.m → (d q = 1#1 ↔ p)) → (flag P.m (P.val a b c) i ↔ i / 2 < P.m ∧ p) →
      select d (C.us (i / 2)) zr q = ((if flag P.m (P.val a b c) i then 1 else 0 : ℝ) : EReal) := by
    intro d p hd hf
    by_cases hm : i / 2 < P.m
    · rw [select_real (hd hm) hu (zr_at q)]
      simp only [hf, hm, if_true, true_and]
    · rw [if_neg hm] at hu
      rw [select_real Iff.rfl hu (zr_at q), ite_self, if_neg (fun hh => hm (hf.mp hh).1)]
  unfold Clip.kv
  by_cases h0 : i % 2 = 0
  · rw [if_pos h0]
    exact key _ _ (fun hm => D.keepB _ hm) (by unfold flag; rw [if_pos h0])
  · rw [if_neg h0]
    exact key _ _ (fun hm => D.crossB _ hm) (by unfold flag; rw [if_neg h0])

theorem run (n : ℕ) (h : n ≤ 2 * C.cap) : C.run n q = ((cnt P.m (P.val a b c) n : ℝ) : EReal) := by
  induction n with
  | zero => rw [show cnt P.m (P.val a b c) 0 = 0 by simp [cnt], Nat.cast_zero]; exact zr_at q
  | succ n ih =>
    rw [cnt_succ, show C.run (n + 1) = addf (C.run n) (C.kv n) from rfl, addf_at (ih (by omega)) (D.kv n (by omega))]
    push_cast; rfl

theorem tot : C.tot q = ((Geo.tot P.m (P.val a b c) : ℝ) : EReal) := by
  rw [← cnt_of_le (show 2 * P.m ≤ 2 * C.cap by have := D.le; omega)]; exact D.run _ le_rfl

theorem key (i : ℕ) (h : i < 2 * C.cap) :
    C.key i q = ((if flag P.m (P.val a b c) i then (cnt P.m (P.val a b c) i : ℝ) + 1 else 0 : ℝ) : EReal) := by
  rw [show C.key i = mulf (C.run (i + 1)) (C.kv i) from rfl, mulf_at (D.run (i + 1) h) (D.kv i h), cnt_succ]
  split <;> simp

theorem cand (f : ℕ → V Ideal) (g : ℕ → ℝ) (hf : ∀ k < P.m, f k q = ((g k : ℝ) : EReal)) (i : ℕ)
    (h : flag P.m (P.val a b c) i) : C.cand f i q = ((Geo.cand P.m (P.val a b c) g i : ℝ) : EReal) := by
  have hk := h.1
  unfold Clip.cand Geo.cand
  by_cases h0 : i % 2 = 0
  · rw [if_pos h0, if_pos h0]; exact hf _ hk
  · have hx := h.2
    rw [if_neg h0] at hx
    rw [if_neg h0, if_neg h0]
    have hd : P.val a b c (i / 2) - P.val a b c (nxt P.m (i / 2)) ≠ 0 := by
      intro he
      rw [sub_eq_zero.mp he] at hx
      exact absurd hx (not_lt.mpr (mul_self_nonneg _))
    have ht : C.tpar (i / 2) q = ((P.val a b c (i / 2) / (P.val a b c (i / 2) - P.val a b c (nxt P.m (i / 2))) : ℝ) : EReal) := by
      refine divf_at (D.vals _ hk) ?_ hd
      rw [select_at (D.crossB _ hk), if_pos hx]
      exact subf_at (D.vals _ hk) (D.nx _ _ D.vals _ hk)
    exact addf_at (hf _ hk) (mulf_at ht (subf_at (D.nx f g hf _ hk) (hf _ hk)))

theorem pick (f : ℕ → V Ideal) (g : ℕ → ℝ) (hf : ∀ k < P.m, f k q = ((g k : ℝ) : EReal)) (j : ℕ)
    (hj : j < Geo.tot P.m (P.val a b c)) (hj8 : j + 1 ≤ 8) (n : ℕ) (h : j + n ≤ 2 * C.cap) :
    C.pick f j n q = ((if place P.m (P.val a b c) j < j + n then sel P.m (P.val a b c) g j else 0 : ℝ) : EReal) := by
  have hp := place_spec hj
  induction n with
  | zero =>
    rw [if_neg (by have := le_place hj; omega)]; exact zr_at q
  | succ n ih =>
    have e : (cmpf .oeq (C.key (j + n)) (lit (F := Ideal) (natBits (j + 1)))) q = 1#1 ↔ j + n = place P.m (P.val a b c) j := by
      rw [oeq_at (D.key (j + n) (by omega)) (nat_at hj8 q)]
      constructor
      · intro he
        by_cases hf : flag P.m (P.val a b c) (j + n)
        · rw [if_pos hf] at he
          have : cnt P.m (P.val a b c) (j + n) = j := by
            have : ((cnt P.m (P.val a b c) (j + n) + 1 : ℕ) : ℝ) = ((j + 1 : ℕ) : ℝ) := by push_cast at he ⊢; exact he
            have := Nat.cast_injective this; omega
          rw [← place_cnt hf, this]
        · rw [if_neg hf] at he
          have : (0 : ℝ) < ((j + 1 : ℕ) : ℝ) := by positivity
          exact absurd he this.ne
      · intro he
        rw [he, if_pos hp.1, hp.2.1]; push_cast; rfl
    rw [show C.pick f j (n + 1) = select (cmpf .oeq (C.key (j + n)) (lit (F := Ideal) (natBits (j + 1)))) (C.cand f (j + n))
      (C.pick f j n) from rfl, select_at e]
    by_cases he : j + n = place P.m (P.val a b c) j
    · rw [if_pos he, if_pos (by omega), he, D.cand f g hf _ hp.1]; rfl
    · rw [if_neg he, ih (by omega)]
      by_cases hl : place P.m (P.val a b c) j < j + n
      · rw [if_pos hl, if_pos (by omega)]
      · rw [if_neg hl, if_neg (by omega)]

theorem new (f : ℕ → V Ideal) (g : ℕ → ℝ) (hf : ∀ k < P.m, f k q = ((g k : ℝ) : EReal)) (j : ℕ)
    (hj : j < Geo.tot P.m (P.val a b c)) (hj8 : j + 1 ≤ 8) : C.new f j q = ((sel P.m (P.val a b c) g j : ℝ) : EReal) := by
  have hp := place_spec hj
  have hl := le_place hj
  have hc := D.le
  rw [show C.new f j = C.pick f j (2 * C.cap - j) from rfl, D.pick f g hf j hj hj8 _ (by omega), if_pos (by omega)]

theorem accB : C.accB q = 1#1 ↔ P.acc a b c := by
  have h1 := select_real (x := C.go) (y := zr) (ogt_at D.tot (half_at (n := 0) (by norm_num) q)) D.go (zr_at q)
  rw [show C.accB = cmpf .ogt (select (cmpf .ogt C.tot (lit (F := Ideal) (halfBits 0))) C.go zr) (lit (F := Ideal) (halfBits 0)) from rfl,
    ogt_at h1 (half_at (n := 0) (by norm_num) q)]
  unfold Poly.acc
  rw [if_congr (half_iff 0 _) rfl rfl]
  by_cases hg : P.go <;> by_cases ht : 0 < Geo.tot P.m (P.val a b c) <;> simp [hg, ht] <;> norm_num

/-- The number of vertices after the step. -/
theorem mNext (h : Geo.tot P.m (P.val a b c) ≤ C.cap + 1) (h7 : C.cap ≤ 7) :
    (select C.accB (minimumf C.tot (lit (natBits (C.cap + 1)))) C.st.m) q = (((P.next a b c).m : ℝ) : EReal) := by
  rw [select_real D.accB (minimumf_at D.tot (nat_at (by omega) q)) D.rep.m]
  unfold Poly.next; dsimp only
  rw [min_eq_left (by exact_mod_cast h), apply_ite (Nat.cast (R := ℝ))]

/-- The state after the step is the clipped polygon's. -/
theorem next (h : Geo.tot P.m (P.val a b c) ≤ C.cap + 1) (h6 : C.cap ≤ 6) : Rep (C.cap + 1) C.next q (P.next a b c) := by
  have hle := D.le
  have coord : ∀ (f : ℕ → V Ideal) (g : ℕ → ℝ), (∀ k < P.m, f k q = ((g k : ℝ) : EReal)) → ∀ k < (P.next a b c).m,
      select C.accB (C.new f k) (f k) q = (((if P.acc a b c then sel P.m (P.val a b c) g else g) k : ℝ) : EReal) := by
    intro f g hf k hk
    unfold Poly.next at hk; dsimp only at hk
    rw [select_at D.accB]
    by_cases ha : P.acc a b c
    · rw [if_pos ha] at hk ⊢
      rw [if_pos ha]
      exact D.new f g hf k hk (by omega)
    · rw [if_neg ha] at hk ⊢
      rw [if_neg ha]
      exact hf k hk
  refine ⟨coord _ _ D.rep.px, coord _ _ D.rep.py, fun k hk => ?_, D.mNext h (by omega), ?_⟩
  · have h1 := select_real (x := on) (y := zr) (ogt_at D.tot (half_at (n := k) (by omega) q)) (on_at q) (zr_at q)
    show select C.accB (select (cmpf .ogt C.tot (lit (F := Ideal) (halfBits k))) on zr) (C.st.mv k) q = _
    rw [select_real D.accB h1 (D.rep.mv k hk), if_congr (half_iff k _) rfl rfl]
    unfold Poly.next; dsimp only
    by_cases ha : P.acc a b c
    · rw [if_pos ha, if_pos ha]
    · rw [if_neg ha, if_neg ha]
  · have h1 := select_real (x := C.go) (y := zr) (olt_at D.tot (half_at (n := 0) (by norm_num) q)) D.go (zr_at q)
    show maximumf C.st.fr (select (cmpf .olt C.tot (lit (F := Ideal) (halfBits 0))) C.go zr) q = _
    rw [maximumf_at D.rep.fr h1]
    have e : ((Geo.tot P.m (P.val a b c) : ℝ) < ((0 : ℕ) : ℝ) + 1 / 2) ↔ Geo.tot P.m (P.val a b c) = 0 := by
      constructor
      · intro hlt
        by_contra hc
        have := (half_iff 0 _).mpr (Nat.pos_of_ne_zero hc)
        linarith
      · intro he; rw [he]; norm_num
    rw [if_congr e rfl rfl]
    unfold Poly.next; dsimp only
    by_cases hf : P.fr <;> by_cases hg : P.go <;> by_cases ht : Geo.tot P.m (P.val a b c) = 0 <;> simp [hf, hg, ht]

end Does

end Cert.Lane

end
-- ==== Proof.Lane.Last.lean ====
module

public import proofs.«01_k».proof.Proof.Lane.Step
public import proofs.«01_k».proof.Proof.Geo.Ring

@[expose] public section

/-!
The last step at an index: the area is that of the clipped polygon.
-/

noncomputable section

namespace Cert.Lane

open Idealize.ShloMosaic Cert.Geo Classical

namespace Does
variable {C : Clip Ideal} {q : B.Idx} {P : Poly} {a b c : ℝ} (D : Does C q P a b c)
include D

theorem kvB (i : ℕ) (h : i < 2 * C.cap) : C.kvB i q = 1#1 ↔ flag P.m (P.val a b c) i := by
  rw [show C.kvB i = cmpf .ogt (C.kv i) (lit (F := Ideal) (halfBits 0)) from rfl,
    ogt_at (D.kv i h) (half_at (n := 0) (by norm_num) q)]
  split <;> rename_i hf <;> simp [hf] <;> norm_num

theorem carry (f : ℕ → V Ideal) (g : ℕ → ℝ) (hf : ∀ k < P.m, f k q = ((g k : ℝ) : EReal)) (x : V Ideal) (r : ℝ)
    (hx : x q = (r : EReal)) (n : ℕ) (h : n ≤ 2 * C.cap) :
    C.carry f x n q = ((if cnt P.m (P.val a b c) (2 * C.cap - n) < Geo.tot P.m (P.val a b c)
      then sel P.m (P.val a b c) g (cnt P.m (P.val a b c) (2 * C.cap - n)) else r : ℝ) : EReal) := by
  induction n with
  | zero =>
    rw [Nat.sub_zero, cnt_of_le (by have := D.le; omega), if_neg (lt_irrefl _)]; exact hx
  | succ n ih =>
    have e1 : 2 * C.cap - n = 2 * C.cap - 1 - n + 1 := by omega
    rw [show C.carry f x (n + 1) = select (C.kvB (2 * C.cap - 1 - n)) (C.cand f (2 * C.cap - 1 - n)) (C.carry f x n) from rfl,
      select_at (D.kvB (2 * C.cap - 1 - n) (by omega)), show 2 * C.cap - (n + 1) = 2 * C.cap - 1 - n by omega]
    have ih := ih (by omega)
    rw [e1, cnt_succ] at ih
    by_cases hfl : flag P.m (P.val a b c) (2 * C.cap - 1 - n)
    · rw [if_pos hfl, D.cand f g hf _ hfl, if_pos (cnt_lt_tot hfl)]
      unfold sel; rw [place_cnt hfl]
    · rw [if_neg hfl, ih]; simp only [if_neg hfl, add_zero]

theorem first (f : ℕ → V Ideal) (g : ℕ → ℝ) (hf : ∀ k < P.m, f k q = ((g k : ℝ) : EReal))
    (ht : 0 < Geo.tot P.m (P.val a b c)) : C.first f q = ((sel P.m (P.val a b c) g 0 : ℝ) : EReal) := by
  rw [show C.first f = C.carry f zr (2 * C.cap) from rfl, D.carry f g hf zr 0 (zr_at q) _ le_rfl, Nat.sub_self,
    show cnt P.m (P.val a b c) 0 = 0 by simp [cnt], if_pos ht]

theorem cross (ht : 0 < Geo.tot P.m (P.val a b c)) (n : ℕ) (h : n ≤ 2 * C.cap) :
    C.cross n q = ((∑ j ∈ Finset.Ico (cnt P.m (P.val a b c) (2 * C.cap - n)) (Geo.tot P.m (P.val a b c)),
      (sel P.m (P.val a b c) P.x j * sel P.m (P.val a b c) P.y (nxt (Geo.tot P.m (P.val a b c)) j)
        - sel P.m (P.val a b c) P.y j * sel P.m (P.val a b c) P.x (nxt (Geo.tot P.m (P.val a b c)) j)) : ℝ) : EReal) := by
  induction n with
  | zero =>
    rw [Nat.sub_zero, cnt_of_le (by have := D.le; omega), Finset.Ico_self, Finset.sum_empty]; exact zr_at q
  | succ n ih =>
    have e1 : 2 * C.cap - n = 2 * C.cap - 1 - n + 1 := by omega
    have ih := ih (by omega)
    have hx := D.carry _ _ D.rep.px _ _ (D.first _ _ D.rep.px ht) n (by omega)
    have hy := D.carry _ _ D.rep.py _ _ (D.first _ _ D.rep.py ht) n (by omega)
    rw [e1, cnt_succ] at ih hx hy
    rw [show 2 * C.cap - (n + 1) = 2 * C.cap - 1 - n by omega]
    show addf (C.cross n) (select (C.kvB (2 * C.cap - 1 - n))
      (subf (mulf (C.cand C.st.px (2 * C.cap - 1 - n)) (C.carry C.st.py (C.first C.st.py) n))
        (mulf (C.cand C.st.py (2 * C.cap - 1 - n)) (C.carry C.st.px (C.first C.st.px) n))) zr) q = _
    by_cases hfl : flag P.m (P.val a b c) (2 * C.cap - 1 - n)
    · rw [if_pos hfl] at ih hx hy
      have hs := (select_at (v := zr) (D.kvB (2 * C.cap - 1 - n) (by omega))).trans ((if_pos hfl).trans
        (subf_at (mulf_at (D.cand _ _ D.rep.px _ hfl) hy) (mulf_at (D.cand _ _ D.rep.py _ hfl) hx)))
      rw [addf_at ih hs, Finset.sum_eq_sum_Ico_succ_bot (cnt_lt_tot hfl), add_comm]
      have e : ∀ g : ℕ → ℝ, (if cnt P.m (P.val a b c) (2 * C.cap - 1 - n) + 1 < Geo.tot P.m (P.val a b c) then
          sel P.m (P.val a b c) g (cnt P.m (P.val a b c) (2 * C.cap - 1 - n) + 1) else sel P.m (P.val a b c) g 0) =
          sel P.m (P.val a b c) g (nxt (Geo.tot P.m (P.val a b c)) (cnt P.m (P.val a b c) (2 * C.cap - 1 - n))) := by
        intro g; unfold nxt; split <;> rfl
      have e2 : ∀ g : ℕ → ℝ, Geo.cand P.m (P.val a b c) g (2 * C.cap - 1 - n) =
          sel P.m (P.val a b c) g (cnt P.m (P.val a b c) (2 * C.cap - 1 - n)) := by
        intro g; unfold sel; rw [place_cnt hfl]
      rw [e, e, e2, e2]
    · rw [if_neg hfl, add_zero] at ih
      have hs : select (C.kvB (2 * C.cap - 1 - n))
          (subf (mulf (C.cand C.st.px (2 * C.cap - 1 - n)) (C.carry C.st.py (C.first C.st.py) n))
            (mulf (C.cand C.st.py (2 * C.cap - 1 - n)) (C.carry C.st.px (C.first C.st.px) n))) zr q = ((0 : ℝ) : EReal) := by
        rw [select_at (D.kvB (2 * C.cap - 1 - n) (by omega)), if_neg hfl]; exact zr_at q
      rw [addf_at ih hs, add_zero]

theorem full (f : ℕ → V Ideal) (g : ℕ → ℝ) (hf : ∀ k < P.m, f k q = ((g k : ℝ) : EReal)) (k : ℕ) (h : k < C.cap) :
    C.full f k q = ((padTo P.m g k : ℝ) : EReal) := by
  rw [show C.full f k = select (cmpf .ogt (C.st.mv k) (lit (F := Ideal) (halfBits 0))) (f k) (f 0) from rfl,
    select_at (ogt_at (D.rep.mv k (by omega)) (half_at (n := 0) (by norm_num) q))]
  unfold padTo
  by_cases hk : k < P.m
  · rw [if_pos hk, if_pos hk, if_pos (by norm_num), hf k hk]
  · rw [if_neg hk, if_neg hk, if_neg (by norm_num), hf 0 D.pos]

theorem ring (n : ℕ) (h : n ≤ C.cap) : C.ring n q = ((∑ k ∈ Finset.range n,
    (padTo P.m P.x k * padTo P.m P.y ((k + 1) % C.cap) - padTo P.m P.y k * padTo P.m P.x ((k + 1) % C.cap)) : ℝ) : EReal) := by
  induction n with
  | zero => rw [Finset.sum_range_zero]; exact zr_at q
  | succ n ih =>
    rw [Finset.sum_range_succ]
    have hl : (n + 1) % C.cap < C.cap := Nat.mod_lt _ (by omega)
    exact addf_at (ih (by omega)) (subf_at (mulf_at (D.full _ _ D.rep.px n (by omega)) (D.full _ _ D.rep.py _ hl))
      (mulf_at (D.full _ _ D.rep.py n (by omega)) (D.full _ _ D.rep.px _ hl)))

/-- The area after the last step. -/
theorem area (h : Geo.tot P.m (P.val a b c) ≤ C.cap + 1) (h7 : C.cap ≤ 7) :
    C.area q = (((P.next a b c).area : ℝ) : EReal) := by
  have hm : C.mLast q = _ := D.mNext h h7
  have hn : C.areaOld q = ((1 / 2 * |P.twice| : ℝ) : EReal) := by
    have := mulf_at (half_at (n := 0) (by norm_num) q) (absf_at (D.ring C.cap le_rfl))
    rw [Geo.ring_eq _ _ _ _ D.pos D.le] at this
    rw [show C.areaOld = mulf (lit (halfBits 0)) (absf (C.ring C.cap)) from rfl, this, Nat.cast_zero, zero_add]; rfl
  rw [show C.area = select (cmpf .ogt C.mLast (lit (F := Ideal) (halfBits 2))) (select C.accB C.areaNew C.areaOld) zr from rfl,
    select_at (ogt_at (half_at (n := 2) (by norm_num) q |> fun h2 => hm) (half_at (n := 2) (by norm_num) q)),
    if_congr (half_iff 2 _) rfl rfl, select_at D.accB, zr_at, hn]
  unfold Poly.area
  by_cases hm2 : 2 < (P.next a b c).m
  · rw [if_pos hm2, if_pos hm2]
    unfold Poly.twice Poly.next; dsimp only
    by_cases ha : P.acc a b c
    · simp only [if_pos ha]
      have hc := D.cross ha.2 (2 * C.cap) le_rfl
      rw [Nat.sub_self, show cnt P.m (P.val a b c) 0 = 0 by simp [cnt], ← Finset.range_eq_Ico] at hc
      have := mulf_at (half_at (n := 0) (by norm_num) q) (absf_at hc)
      rw [show C.areaNew = mulf (lit (halfBits 0)) (absf (C.cross (2 * C.cap))) from rfl, this, Nat.cast_zero, zero_add]
    · simp only [if_neg ha]
  · rw [if_neg hm2, if_neg hm2]

end Does

end Cert.Lane

end
-- ==== Proof.Lane.Inter.lean ====
module

public import proofs.«01_k».proof.Proof.Lane.Last
public import proofs.«01_k».proof.Proof.Lane.States
public import proofs.«01_k».proof.Proof.Geo.Box

@[expose] public section

/-!
The box's corners at an index, and the four steps in turn.
-/

noncomputable section

namespace Cert.Lane

open Idealize.ShloMosaic Cert.Geo Classical

/-- The box's entries at an index are these real numbers. -/
structure BoxAt (b : Box Ideal) (q : B.Idx) (r : RBox) : Prop where
  x : b.x q = (r.x : EReal)
  y : b.y q = (r.y : EReal)
  w : b.w q = (r.w : EReal)
  l : b.l q = (r.l : EReal)
  im : b.im q = (r.im : EReal)
  re : b.re q = (r.re : EReal)
  dir : r.Dir

namespace BoxAt
variable {b : Box Ideal} {q : B.Idx} {r : RBox} (h : BoxAt b q r)
include h

theorem inv : b.inv q = (((Real.sqrt (r.im * r.im + r.re * r.re))⁻¹ : ℝ) : EReal) := by
  have e := addf_at (mulf_at h.im h.im) (mulf_at h.re h.re)
  show Ideal.rsqrt (addf (mulf b.im b.im) (mulf b.re b.re) q) = _
  have hd : 0 < r.im * r.im + r.re * r.re := h.dir
  rw [e, Ideal.rsqrt_coe, if_neg (not_lt.mpr hd.le), if_neg hd.ne']

theorem c : b.c q = (r.c : EReal) := mulf_at h.re h.inv
theorem s : b.s q = (r.s : EReal) := mulf_at h.im h.inv

theorem half : (lit (halfBits 0) : V Ideal) q = ((1 / 2 : ℝ) : EReal) := by
  rw [half_at (n := 0) (by norm_num) q, Nat.cast_zero, zero_add]

theorem hwc : b.hwc q = ((r.w * (1 / 2) * r.c : ℝ) : EReal) := mulf_at (mulf_at h.w h.half) h.c
theorem hws : b.hws q = ((r.w * (1 / 2) * r.s : ℝ) : EReal) := mulf_at (mulf_at h.w h.half) h.s
theorem hlc : b.hlc q = ((r.l * (1 / 2) * r.c : ℝ) : EReal) := mulf_at (mulf_at h.l h.half) h.c
theorem hls : b.hls q = ((r.l * (1 / 2) * r.s : ℝ) : EReal) := mulf_at (mulf_at h.l h.half) h.s

theorem cx (k : ℕ) : b.cx k q = ((r.cx k : ℝ) : EReal) :=
  match k with
  | 0 => subf_at (subf_at h.x h.hwc) h.hls
  | 1 => addf_at (subf_at h.x h.hwc) h.hls
  | 2 => addf_at (addf_at h.x h.hwc) h.hls
  | 3 => subf_at (addf_at h.x h.hwc) h.hls
  | _ + 4 => zr_at q

theorem cy (k : ℕ) : b.cy k q = ((r.cy k : ℝ) : EReal) :=
  match k with
  | 0 => addf_at (subf_at h.y h.hws) h.hlc
  | 1 => subf_at (subf_at h.y h.hws) h.hlc
  | 2 => subf_at (addf_at h.y h.hws) h.hlc
  | 3 => addf_at (addf_at h.y h.hws) h.hlc
  | _ + 4 => zr_at q

/-- The first state at an index is the box. -/
theorem start : Rep 5 (start b) q r.poly where
  px k hk := by
    show (if k < 4 then b.cx k else zr) q = _
    rw [if_pos (show k < 4 from hk)]; exact h.cx k
  py k hk := by
    show (if k < 4 then b.cy k else zr) q = _
    rw [if_pos (show k < 4 from hk)]; exact h.cy k
  mv k hk := by
    show (if k < 4 then on else zr : V Ideal) q = ((if k < 4 then 1 else 0 : ℝ) : EReal)
    split
    · exact on_at q
    · exact zr_at q
  m := by
    have := mulf_at (on_at q) (nat_at (n := 4) (by norm_num) q)
    rw [one_mul] at this; exact this
  fr := by
    rw [show (if r.poly.fr then 1 else 0 : ℝ) = 0 from if_neg id]; exact zr_at q

/-- The step against the first side. -/
theorem does0 {s : St Ideal} {P : Poly} (hr : Rep 5 s q P) (hm : P.m = 4) (hf : ¬ P.fr) :
    Does (clip0 b s) q P (r.la 0) (r.lb 0) (r.lc 0) where
  rep := hr
  a := subf_at (h.cy 1) (h.cy 0)
  b := subf_at (h.cx 0) (h.cx 1)
  c := subf_at (mulf_at (h.cx 1) (h.cy 0)) (mulf_at (h.cy 1) (h.cx 0))
  nx f g hg k hk := by
    show f ((k + 1) % 4) q = _
    rw [hg _ (by omega), show (k + 1) % 4 = nxt P.m k by unfold nxt; split <;> omega]
  us k hk := by
    have hk' : k < 4 := hk
    rw [if_pos (by omega)]; exact on_at q
  go := by
    rw [if_pos (show P.go from ⟨hf, by omega⟩)]; exact on_at q
  le := hm.le
  pos := by omega

/-- The step against another side. -/
theorem does {s : St Ideal} {P : Poly} (e : ℕ) (he : e ≤ 3) (hr : Rep (5 + e) s q P) (hle : P.m ≤ 4 + e) (hp : 0 < P.m) :
    Does (clip b e s) q P (r.la e) (r.lb e) (r.lc e) where
  rep := by rw [show (clip b e s).cap + 1 = 5 + e by show 4 + e + 1 = _; omega]; exact hr
  a := subf_at (h.cy _) (h.cy e)
  b := subf_at (h.cx e) (h.cx _)
  c := subf_at (mulf_at (h.cx _) (h.cy e)) (mulf_at (h.cy _) (h.cx e))
  nx f g hg k hk := by
    show (if k + 1 < 4 + e then select (cmpf .ole s.m (lit (F := Ideal) (natBits (k + 1)))) (f 0) (f (k + 1)) else f 0) q = _
    unfold nxt
    by_cases hc : k + 1 < 4 + e
    · rw [if_pos hc, select_at (ole_at hr.m (nat_at (by omega) q))]
      by_cases hm : k + 1 < P.m
      · rw [if_pos hm, if_neg (by rw [Nat.cast_le]; omega), hg _ hm]
      · rw [if_neg hm, if_pos (by rw [Nat.cast_le]; omega), hg _ hp]
    · rw [if_neg hc, if_neg (by omega), hg _ hp]
  us k hk := hr.mv k (by have : k < 4 + e := hk; omega)
  go := by
    have h1 := select_real (x := on) (y := zr) (ogt_at hr.m (half_at (n := 2) (by norm_num) q)) (on_at q) (zr_at q)
    have h2 := select_real (x := zr) (ogt_at hr.fr (half_at (n := 0) (by norm_num) q)) (zr_at q) h1
    show select (cmpf .ogt s.fr (lit (F := Ideal) (halfBits 0))) zr (select (cmpf .ogt s.m (lit (F := Ideal) (halfBits 2))) on zr) q = _
    rw [h2, if_congr (half_iff 2 _) rfl rfl]
    unfold Poly.go
    by_cases hf : P.fr <;> by_cases hm : 2 < P.m <;> simp [hf, hm] <;> norm_num
  le := hle
  pos := hp

end BoxAt

/-- A state that agrees on its slots and is zero in the next one. -/
theorem Rep.of_agree {n : ℕ} {s s' : St Ideal} {q : B.Idx} {P : Poly} (h : Rep n s' q P) (ha : Agree n s s')
    (hz : s.mv n = zr) (hm : P.m ≤ n) : Rep (n + 1) s q P where
  px k hk := by rw [ha.px k (by omega)]; exact h.px k hk
  py k hk := by rw [ha.py k (by omega)]; exact h.py k hk
  mv k hk := by
    rcases Nat.lt_succ_iff_lt_or_eq.mp hk with hl | rfl
    · rw [ha.mv k hl]; exact h.mv k hl
    · rw [hz, if_neg (by omega)]; exact zr_at q
  m := by rw [ha.m]; exact h.m
  fr := by rw [ha.fr]; exact h.fr

/-- The four steps give the area of the intersection. -/
theorem inter_at {bp bt : Box Ideal} {q : B.Idx} {p t : RBox} (hp : BoxAt bp q p) (ht : BoxAt bt q t) {s1 s2 s3 : St Ideal}
    (h1 : Agree 5 s1 (clip0 bt (start bp)).next) (z1 : s1.mv 5 = zr)
    (h2 : Agree 6 s2 (clip bt 1 s1).next) (z2 : s2.mv 6 = zr)
    (h3 : Agree 7 s3 (clip bt 2 s2).next) (z3 : s3.mv 7 = zr) :
    (clip bt 3 s3).area q = ((interOf p t : ℝ) : EReal) := by
  have tl : ∀ e, Geo.tot (steps p t e).m ((steps p t e).val (t.la e) (t.lb e) (t.lc e)) ≤ 4 + e + 1 := fun e =>
    ((steps_good p t e).tot_le _ _ _).trans (by have := steps_le p t e; omega)
  have r1 : Rep 6 s1 q (steps p t 1) :=
    Rep.of_agree ((ht.does0 hp.start rfl id).next (tl 0) (by show 4 ≤ 6; norm_num)) h1 z1 (steps_le p t 1)
  have r2 : Rep 7 s2 q (steps p t 2) :=
    Rep.of_agree ((ht.does 1 (by norm_num) r1 (steps_le p t 1) (steps_pos p t 1)).next (tl 1) (by show 4 + 1 ≤ 6; norm_num)) h2 z2 (steps_le p t 2)
  have r3 : Rep 8 s3 q (steps p t 3) :=
    Rep.of_agree ((ht.does 2 (by norm_num) r2 (steps_le p t 2) (steps_pos p t 2)).next (tl 2) (by show 4 + 2 ≤ 6; norm_num)) h3 z3 (steps_le p t 3)
  exact (ht.does 3 (by norm_num) r3 (steps_le p t 3) (steps_pos p t 3)).area (tl 3) (by show 4 + 3 ≤ 7; norm_num)

end Cert.Lane

end
-- ==== Proof.Lane.HullAt.lean ====
module

public import proofs.«01_k».proof.Proof.Lane.Inter
public import proofs.«01_k».proof.Proof.Geo.Hull

@[expose] public section

/-!
The hull's area at an index is that of the reals.
-/

noncomputable section

namespace Cert.Lane

open Idealize.ShloMosaic Cert.Geo Classical

/-- The eight corners of two boxes. -/
def px8 (p t : RBox) (k : ℕ) : ℝ := if k < 4 then p.cx k else t.cx (k - 4)
def py8 (p t : RBox) (k : ℕ) : ℝ := if k < 4 then p.cy k else t.cy (k - 4)

theorem quad_first (p t : RBox) : Quad (px8 p t) (py8 p t) 0 p := by
  intro k hk; unfold px8 py8; simp [hk]
theorem quad_second (p t : RBox) : Quad (px8 p t) (py8 p t) 4 t := by
  intro k hk; unfold px8 py8; simp

/-- The least of a list is at least a bound if all are. -/
theorem least_at {q : B.Idx} (f : ℕ → V Ideal) (g : ℕ → ℝ) (h : ∀ k, f k q = ((g k : ℝ) : EReal)) (k₀ : ℕ) (ks : List ℕ) :
    ∃ r : ℝ, least ((k₀ :: ks).map f) q = (r : EReal) ∧ ∀ e : ℝ, e ≤ r ↔ ∀ k ∈ k₀ :: ks, e ≤ g k := by
  have key : ∀ (ks : List ℕ) (v : V Ideal) (r₀ : ℝ), v q = (r₀ : EReal) →
      ∃ r : ℝ, (ks.map f).foldl minimumf v q = (r : EReal) ∧ ∀ e : ℝ, e ≤ r ↔ e ≤ r₀ ∧ ∀ k ∈ ks, e ≤ g k := by
    intro ks
    induction ks with
    | nil => intro v r₀ hv; exact ⟨r₀, hv, fun e => by simp⟩
    | cons k ks ih =>
      intro v r₀ hv
      obtain ⟨r, hr, he⟩ := ih (minimumf v (f k)) _ (minimumf_at hv (h k))
      exact ⟨r, hr, fun e => by rw [he, le_min_iff, and_assoc]; simp⟩
  obtain ⟨r, hr, he⟩ := key ks (f k₀) _ (h k₀)
  exact ⟨r, hr, fun e => by rw [he]; simp⟩

/-- The greatest of a list is at most a bound if all are. -/
theorem greatest_at {q : B.Idx} (f : ℕ → V Ideal) (g : ℕ → ℝ) (h : ∀ k, f k q = ((g k : ℝ) : EReal)) (k₀ : ℕ) (ks : List ℕ) :
    ∃ r : ℝ, greatest ((k₀ :: ks).map f) q = (r : EReal) ∧ ∀ e : ℝ, r ≤ e ↔ ∀ k ∈ k₀ :: ks, g k ≤ e := by
  have key : ∀ (ks : List ℕ) (v : V Ideal) (r₀ : ℝ), v q = (r₀ : EReal) →
      ∃ r : ℝ, (ks.map f).foldl maximumf v q = (r : EReal) ∧ ∀ e : ℝ, r ≤ e ↔ r₀ ≤ e ∧ ∀ k ∈ ks, g k ≤ e := by
    intro ks
    induction ks with
    | nil => intro v r₀ hv; exact ⟨r₀, hv, fun e => by simp⟩
    | cons k ks ih =>
      intro v r₀ hv
      obtain ⟨r, hr, he⟩ := ih (maximumf v (f k)) _ (maximumf_at hv (h k))
      exact ⟨r, hr, fun e => by rw [he, max_le_iff, and_assoc]; simp⟩
  obtain ⟨r, hr, he⟩ := key ks (f k₀) _ (h k₀)
  exact ⟨r, hr, fun e => by rw [he]; simp⟩

section
variable {bp bt : Box Ideal} {q : B.Idx} {p t : RBox} (hp : BoxAt bp q p) (ht : BoxAt bt q t)
include hp ht

theorem hx_at (k : ℕ) : hx bp bt k q = ((px8 p t k : ℝ) : EReal) := by
  unfold hx px8; split
  · exact hp.cx k
  · exact ht.cx _
theorem hy_at (k : ℕ) : hy bp bt k q = ((py8 p t k : ℝ) : EReal) := by
  unfold hy py8; split
  · exact hp.cy k
  · exact ht.cy _

theorem cr_at (i j : ℕ) : cr bp bt i j q = ((px8 p t i * py8 p t j - py8 p t i * px8 p t j : ℝ) : EReal) :=
  subf_at (mulf_at (hx_at hp ht i) (hy_at hp ht j)) (mulf_at (hy_at hp ht i) (hx_at hp ht j))

theorem crs_at (i j : ℕ) : crs bp bt i j q = ((px8 p t i * py8 p t j - py8 p t i * px8 p t j : ℝ) : EReal) := by
  unfold crs; split
  · exact cr_at hp ht i j
  · rw [subf_at (zr_at q) (cr_at hp ht j i)]; congr 1; ring

theorem tri_at (i j k : ℕ) : Lane.tri bp bt i j k q = ((Geo.tri (px8 p t) (py8 p t) i j k : ℝ) : EReal) :=
  addf_at (addf_at (cr_at hp ht i j) (crs_at hp ht j k)) (crs_at hp ht k i)

theorem fwd_at (i j k₀ : ℕ) (ks : List ℕ) :
    fwd bp bt i j (k₀ :: ks) q = ((edge e6 (px8 p t) (py8 p t) (k₀ :: ks) i j : ℝ) : EReal) := by
  obtain ⟨r, hr, he⟩ := least_at (q := q) (Lane.tri bp bt i j) _ (tri_at hp ht i j) k₀ ks
  show select (cmpf .oge (least ((k₀ :: ks).map (Lane.tri bp bt i j))) (eps (F := Ideal))) (cr bp bt i j) zr q = _
  rw [select_real ((oge_at hr (neg_e6_val : (eps : V Ideal) q = _)).trans (he _)) (cr_at hp ht i j) (zr_at q)]
  exact congrArg _ (ite_of_iff Iff.rfl _ _)

theorem bwd_at (i j k₀ : ℕ) (ks : List ℕ) :
    bwd bp bt i j (k₀ :: ks) q = ((-edge e6 (px8 p t) (py8 p t) (k₀ :: ks) j i : ℝ) : EReal) := by
  obtain ⟨r, hr, he⟩ := greatest_at (q := q) (Lane.tri bp bt i j) _ (tri_at hp ht i j) k₀ ks
  show select (cmpf .oge (subf zr (greatest ((k₀ :: ks).map (Lane.tri bp bt i j)))) (eps (F := Ideal))) (cr bp bt i j) zr q = _
  have h1 : (-e6 ≤ 0 - r) ↔ ∀ k ∈ k₀ :: ks, -e6 ≤ Geo.tri (px8 p t) (py8 p t) j i k := by
    rw [show (-e6 ≤ 0 - r) ↔ r ≤ e6 by constructor <;> intro h <;> linarith, he]
    refine forall_congr' fun k => forall_congr' fun _ => ?_
    rw [tri_swap]; constructor <;> intro h <;> linarith
  rw [select_real ((oge_at (subf_at (zr_at q) hr) (neg_e6_val : (eps : V Ideal) q = _)).trans h1) (cr_at hp ht i j) (zr_at q)]
  unfold edge
  congr 1
  split
  · ring
  · ring

/-- What a pair adds. -/
def part (p t : RBox) (ij : ℕ × ℕ) : ℝ :=
  if ij.2 < 4 ∨ 4 ≤ ij.1 then
    if ij.2 = ij.1 + 1 then edge e6 (px8 p t) (py8 p t) (Lane.tested ij.1 ij.2) ij.1 ij.2
    else edge e6 (px8 p t) (py8 p t) (Lane.tested ij.1 ij.2) ij.2 ij.1
  else edge e6 (px8 p t) (py8 p t) (Lane.tested ij.1 ij.2) ij.1 ij.2 + edge e6 (px8 p t) (py8 p t) (Lane.tested ij.1 ij.2) ij.2 ij.1

theorem pair_at (T : V Ideal) (τ : ℝ) (hT : T q = (τ : EReal)) (ij : ℕ × ℕ) (h : ∃ k₀ ks, Lane.tested ij.1 ij.2 = k₀ :: ks) :
    pair bp bt T ij q = ((τ + part p t ij : ℝ) : EReal) := by
  obtain ⟨k₀, ks, e⟩ := h
  have hf := fwd_at hp ht ij.1 ij.2 k₀ ks
  have hb := bwd_at hp ht ij.1 ij.2 k₀ ks
  unfold pair part
  rw [e]
  split
  · split
    · exact addf_at hT hf
    · rw [subf_at hT hb, sub_neg_eq_add]
  · rw [addf_at hT (subf_at hf hb), sub_neg_eq_add]

theorem fold_at (l : List (ℕ × ℕ)) (hl : ∀ ij ∈ l, ∃ k₀ ks, Lane.tested ij.1 ij.2 = k₀ :: ks) (T : V Ideal) (τ : ℝ)
    (hT : T q = (τ : EReal)) : l.foldl (pair bp bt) T q = ((τ + (l.map (part p t)).sum : ℝ) : EReal) := by
  induction l generalizing T τ with
  | nil => simpa using hT
  | cons ij l ih =>
    rw [List.foldl_cons, ih (fun x hx => hl x (List.mem_cons_of_mem _ hx)) _ _ (pair_at hp ht T τ hT ij (hl ij (List.mem_cons_self ..)))]
    rw [List.map_cons, List.sum_cons, add_assoc]

end

/-- The pairs' parts are the sum over all ordered pairs. -/
theorem parts_eq (p t : RBox) : (pairs.map (part p t)).sum =
    ∑ i ∈ Finset.range 8, ∑ j ∈ Finset.range 8, edgeFew e6 (px8 p t) (py8 p t) i j := by
  have mem : ∀ ks ks' : List ℕ, (∀ k, k ∈ ks ↔ k ∈ ks') → ∀ i j, edge e6 (px8 p t) (py8 p t) ks i j = edge e6 (px8 p t) (py8 p t) ks' i j := by
    intro ks ks' h i j
    exact ite_of_iff (forall_congr' fun k => by rw [h k]) _ _
  have few : ∀ i j, Geo.edgeFew e6 (px8 p t) (py8 p t) i j = if (i < 4 ↔ j < 4) ∧ ¬ Side i j then 0 else
      edge e6 (px8 p t) (py8 p t) (Lane.tested (min i j) (max i j)) i j := by
    intro i j
    unfold edgeFew
    refine if_congr Iff.rfl rfl (mem _ _ (fun k => ?_) i j)
    unfold Geo.tested Lane.tested
    rcases le_total i j with hl | hl
    · rw [min_eq_left hl, max_eq_right hl]
      by_cases h1 : i < 4 <;> by_cases h2 : j < 4
      · rw [if_pos ⟨h1, h2⟩, if_pos h2]
      · rw [if_neg (by omega), if_neg (by omega), if_neg (by omega), if_neg (by omega)]
      · omega
      · rw [if_neg (by omega), if_pos (by omega), if_neg (by omega), if_pos (by omega)]
    · rw [min_eq_right hl, max_eq_left hl]
      by_cases h1 : i < 4 <;> by_cases h2 : j < 4
      · rw [if_pos ⟨h1, h2⟩, if_pos h1]
      · omega
      · rw [if_neg (by omega), if_neg (by omega), if_neg (by omega), if_neg (by omega)]
        simp only [List.mem_filter, decide_eq_true_eq]; rw [and_comm (a := k ≠ i)]
      · rw [if_neg (by omega), if_pos (by omega), if_neg (by omega), if_pos (by omega)]
  simp only [few, pairs, part, List.map_cons, List.map_nil, List.sum_cons, List.sum_nil, Finset.sum_range_succ, Finset.sum_range_zero, Side]
  norm_num
  ring

/-- The hull's area at an index. -/
theorem hull_at {bp bt : Box Ideal} {q : B.Idx} {p t : RBox} (hp : BoxAt bp q p) (ht : BoxAt bt q t)
    (sp : Sized e6 e12 p) (st : Sized e6 e12 t)
    (hd : ∀ i < 4, ∀ j < 4, e12 < dist2 (px8 p t) (py8 p t) i (4 + j) ∨ dist2 (px8 p t) (py8 p t) i (4 + j) = 0) :
    hull bp bt q = ((1 / 2 * |hullTwice e6 e12 (px8 p t) (py8 p t)| : ℝ) : EReal) := by
  have h := fold_at hp ht pairs (by
    intro ij hij
    simp only [pairs, List.mem_cons, List.not_mem_nil, or_false] at hij
    rcases hij with rfl | rfl | rfl | rfl | rfl | rfl | rfl | rfl | rfl | rfl | rfl | rfl | rfl | rfl | rfl | rfl | rfl | rfl |
      rfl | rfl | rfl | rfl | rfl | rfl <;> exact ⟨_, _, rfl⟩) zr 0 (zr_at q)
  have e : ∑ i ∈ Finset.range 8, ∑ j ∈ Finset.range 8, edgeFew e6 (px8 p t) (py8 p t) i j = hullTwice e6 e12 (px8 p t) (py8 p t) :=
    Finset.sum_congr rfl fun i hi => Finset.sum_congr rfl fun j hj =>
      (edgeAll_eq (by unfold e6; norm_num) (by unfold e12; norm_num) (quad_first p t) (quad_second p t) sp st hd i j
        (Finset.mem_range.mp hi) (Finset.mem_range.mp hj)).symm
  rw [parts_eq, e, zero_add] at h
  exact mulf_at hp.half (absf_at h)

end Cert.Lane

end
-- ==== Proof.Ref.HullAt.lean ====
module

public import proofs.«01_k».proof.Proof.Ref.Inter
public import proofs.«01_k».proof.Proof.Lane.HullAt
public import Idealize.ShloMosaic.Lib.ReduceAll

@[expose] public section

/-!
The reference's hull at one pair of boxes.
-/

noncomputable section

namespace Cert.RefM

open Cert.ReferenceIdeal Cert.ReferenceIdeal.Gen Idealize.ShloMosaic Cert.Geo Cert.Lane Classical

section reads
variable (n : Fin 131072) (i j k : Fin 8)

theorem fst8_at (x : Eight Ideal) : fst8 x (ix3 n i j) = x (ix2 n i) := by pointwise [fst8]
theorem snd8_at (x : Eight Ideal) : snd8 x (ix3 n i j) = x (ix2 n j) := by pointwise [snd8]
theorem ij8_at (x : FVec Ideal S131072x8x8 .f32) : ij8 x (ix4 n i j k) = x (ix3 n i j) := by pointwise [ij8]
theorem ik8_at (x : FVec Ideal S131072x8x8 .f32) : ik8 x (ix4 n i j k) = x (ix3 n i k) := by pointwise [ik8]

/-- A conjunction of marks over a set. -/
theorem fold_andi_iff {ι : Type} (s : Finset ι) (f : ι → BitVec 1) : s.fold IntOp.andi 1#1 f = 1#1 ↔ ∀ a ∈ s, f a = 1#1 := by
  induction s using Finset.induction_on with
  | empty => simp
  | insert a s ha ih =>
    rw [Finset.fold_insert ha, Finset.forall_mem_insert, ← ih]
    generalize f a = u; generalize s.fold IntOp.andi 1#1 f = v; revert u v; decide

theorem all_at (x : IVec S131072x8x8x8 1) : Host.reduce IntOp.andi x (constantI S_ 1 1#1) reducesTo_S131072x8x8x8_S131072x8x8_d3 h_S_
    (ix3 n i j) = 1#1 ↔ ∀ k : Fin 8, x (ix4 n i j k) = 1#1 := by
  rw [Host.reduce_eq_fold, Shape.ReducesTo.fold_fiber_r4_a3]
  refine (fold_andi_iff (Finset.univ : Finset (Fin 8)) _).trans ⟨fun h k => h k (Finset.mem_univ k), fun h k _ => h k⟩

theorem sum64_at (v : FVec Ideal S131072x8x8 .f32) :
    Host.reduceAdd v (constant S_ .f32 0x00000000#32) reducesTo_S131072x8x8_S131072_d1_2 h_S_ (ix1 n) =
      ∑ i : Fin 8, ∑ j : Fin 8, v (ix3 n i j) := by
  pointwise
end reads

section
variable {n : Fin 131072} {x y : Eight Ideal} {f g : ℕ → ℝ} (hx : ∀ k : Fin 8, x (ix2 n k) = ((f k : ℝ) : EReal))
  (hy : ∀ k : Fin 8, y (ix2 n k) = ((g k : ℝ) : EReal))
include hx

theorem dif_at (i j : Fin 8) : dif x (ix3 n i j) = ((f j - f i : ℝ) : EReal) :=
  subf_at ((snd8_at n i j x).trans (hx j)) ((fst8_at n i j x).trans (hx i))

include hy

theorem tri8_at (i j k : Fin 8) : tri8 x y (ix4 n i j k) = ((Geo.tri f g i j k : ℝ) : EReal) := by
  have e : (f j - f i) * (g k - g i) - (g j - g i) * (f k - f i) = Geo.tri f g i j k := by unfold Geo.tri; ring
  rw [← e]
  exact subf_at (mulf_at ((ij8_at n i j k _).trans (dif_at hx i j)) ((ik8_at n i j k _).trans (dif_at hy i k)))
    (mulf_at ((ij8_at n i j k _).trans (dif_at hy i j)) ((ik8_at n i j k _).trans (dif_at hx i k)))

theorem left8_at (i j : Fin 8) : left8 x y (ix3 n i j) = 1#1 ↔ ∀ k < 8, -e6 ≤ Geo.tri f g i j k := by
  unfold left8
  rw [all_at]
  have e : ∀ k : Fin 8, (broadcastInDim S131072x8x8x8 ![] bcast_S_S131072x8x8x8 (constant S_ .f32 0xB58637BD#32) :
      FVec Ideal S131072x8x8x8 .f32) (ix4 n i j k) = ((-e6 : ℝ) : EReal) := fun k => neg_e6_val
  exact ⟨fun h k hk => (oge_at (tri8_at hx hy i j ⟨k, hk⟩) (e ⟨k, hk⟩)).mp (h ⟨k, hk⟩),
    fun h k => (oge_at (tri8_at hx hy i j k) (e k)).mpr (h k k.isLt)⟩

theorem apart8_at (i j : Fin 8) : apart8 x y (ix3 n i j) = 1#1 ↔ e12 < dist2 f g i j := by
  have e : (broadcastInDim S131072x8x8 ![] bcast_S_S131072x8x8 (constant S_ .f32 0x2B8CBCCC#32) :
      FVec Ideal S131072x8x8 .f32) (ix3 n i j) = ((e12 : ℝ) : EReal) := e12_val
  exact ogt_at (addf_at (mulf_at (dif_at hx i j) (dif_at hx i j)) (mulf_at (dif_at hy i j) (dif_at hy i j))) e

theorem edge8_at (i j : Fin 8) : edge8 x y (ix3 n i j) = ((edgeAll e6 e12 f g i j : ℝ) : EReal) := by
  have e : (broadcastInDim S131072x8x8 ![] bcast_S_S131072x8x8 (id (constant S_ .f32 0x00000000#32)) :
      FVec Ideal S131072x8x8 .f32) (ix3 n i j) = ((0 : ℝ) : EReal) := zero_val
  refine (select_real (andi_at (left8_at hx hy i j) (apart8_at hx hy i j))
    (subf_at (mulf_at ((fst8_at n i j x).trans (hx i)) ((snd8_at n i j y).trans (hy j)))
      (mulf_at ((fst8_at n i j y).trans (hy i)) ((snd8_at n i j x).trans (hx j)))) e).trans (congrArg _ ?_)
  exact ite_of_iff Iff.rfl _ _

theorem hull8_at : hull8 x y (ix1 n) = ((1 / 2 * |hullTwice e6 e12 f g| : ℝ) : EReal) := by
  have hh : (num1 0x3F000000#32 : One Ideal) (ix1 n) = ((1 / 2 : ℝ) : EReal) := (num1_at n _).trans half_val
  have hs := sum64_at n (edge8 x y)
  rw [sum_coe (g := fun i => ∑ j ∈ Finset.range 8, edgeAll e6 e12 f g i j) fun i => sum_coe fun j => edge8_at hx hy i j] at hs
  exact mulf_at hh (hostAbsf_at hs)
end

/-- The hull's area at a pair of boxes. -/
theorem hull_at {b b' : Boxes Ideal} {n : Fin 131072} {p t : RBox} (hp : RowAt b n p) (ht : RowAt b' n t) :
    hull b b' (ix1 n) = ((1 / 2 * |hullTwice e6 e12 (px8 p t) (py8 p t)| : ℝ) : EReal) := by
  refine hull8_at (fun k => ?_) (fun k => ?_) <;> rw [both_at]
  · unfold px8
    split
    · rename_i h; exact hp.cx ⟨k, h⟩
    · exact ht.cx _
  · unfold py8
    split
    · rename_i h; exact hp.cy ⟨k, h⟩
    · exact ht.cy _

end Cert.RefM

end
-- ==== Proof.Pre.Rows.lean ====
module

public import proofs.«01_k».proof.Proof.Pre.Model
public import proofs.«01_k».proof.Proof.Ref.HullAt

@[expose] public section

/-!
What the precondition says of one pair of boxes.
-/

noncomputable section

namespace Cert.PreM

open Idealize.ShloMosaic Cert.RefM Cert.Geo Cert.Lane Cert.Pre_proper_boxes Cert.Pre_proper_boxes.Facts

/-- The real numbers a row holds. -/
def rowOf (b : Boxes Ideal) (n : Fin 131072) : RBox where
  x := EReal.toReal (b (ix2 n 0))
  y := EReal.toReal (b (ix2 n 1))
  w := EReal.toReal (b (ix2 n 2))
  l := EReal.toReal (b (ix2 n 3))
  im := EReal.toReal (b (ix2 n 4))
  re := EReal.toReal (b (ix2 n 5))

theorem finite_at (b : Boxes Ideal) (n : Fin 131072) (h : finite b (ix1 n) = 1#1) (k : Fin 6) :
    b (ix2 n k) = ((EReal.toReal (b (ix2 n k)) : ℝ) : EReal) := by
  unfold finite at h
  rw [Host.reduce_eq_fold, Shape.ReducesTo.fold_fiber_r2_a1] at h
  have hk := (fold_andi_iff (Finset.univ : Finset (Fin 6)) _).mp h k (Finset.mem_univ k)
  have hlt : max (b (ix2 n k) : EReal) (-(b (ix2 n k) : EReal)) < Ideal.ofBits .f32 0x7F800000#32 := (ofBool_iff _).mp hk
  rw [inf_val, max_lt_iff] at hlt
  refine (EReal.coe_toReal hlt.1.ne fun hb => ?_).symm
  have := hlt.2
  rw [hb] at this
  exact absurd this (by simp)

section
variable {b : Boxes Ideal} {n : Fin 131072}

/-- A proper row holds real numbers and has an extent. -/
theorem row_good (h : boxOk b (ix1 n) = 1#1) : RowAt b n (rowOf b n) ∧ Sized e6 e12 (rowOf b n) := by
  obtain ⟨h, hf⟩ := (andi_at Iff.rfl Iff.rfl).mp h
  have v := finite_at b n hf
  have hw : Boxes.w b (ix1 n) = ((rowOf b n).w : EReal) := (col_at n b 2 (by norm_num) _).trans (v 2)
  have hl : Boxes.l b (ix1 n) = ((rowOf b n).l : EReal) := (col_at n b 3 (by norm_num) _).trans (v 3)
  have hi : Boxes.im b (ix1 n) = ((rowOf b n).im : EReal) := (col_at n b 4 (by norm_num) _).trans (v 4)
  have hr : Boxes.re b (ix1 n) = ((rowOf b n).re : EReal) := (col_at n b 5 (by norm_num) _).trans (v 5)
  have d6 : (num1 0x358637BD#32 : One Ideal) (ix1 n) = ((e6 : ℝ) : EReal) := (num1_at n _).trans e6_val
  have d12 : (num1 0x2B8CBCCC#32 : One Ideal) (ix1 n) = ((e12 : ℝ) : EReal) := (num1_at n _).trans e12_val
  have d0 : (num1 0x00000000#32 : One Ideal) (ix1 n) = ((0 : ℝ) : EReal) := (num1_at n _).trans zero_val
  obtain ⟨⟨⟨g1, g2⟩, g3⟩, g4⟩ := (andi_at (andi_at (andi_at (ogt_at (mulf_at hw hl) d6) (ogt_at (mulf_at hw hw) d12)) (ogt_at (mulf_at hl hl) d12))
    (ogt_at (addf_at (mulf_at hi hi) (mulf_at hr hr)) d0)).mp h
  exact ⟨⟨v 0, v 1, v 2, v 3, v 4, v 5, g4⟩, ⟨g4, g1, g2, g3⟩⟩
end

theorem gap_at (n : Fin 131072) (i j : Fin 4) {x y : Four Ideal} {f g : ℝ} (hx : x (ix2 n i) = (f : EReal)) (hy : y (ix2 n j) = (g : EReal)) :
    gap x y (ix3 n i j) = ((f - g : ℝ) : EReal) := by
  refine subf_at (Eq.trans ?_ hx) (Eq.trans ?_ hy) <;> pointwise

/-- Corners of the two boxes are apart or the same. -/
theorem apart_at {p t : Boxes Ideal} {n : Fin 131072} {r s : RBox} (hp : RowAt p n r) (ht : RowAt t n s) (h : apart p t (ix1 n) = 1#1) :
    ∀ i < 4, ∀ j < 4, e12 < dist2 (px8 r s) (py8 r s) i (4 + j) ∨ dist2 (px8 r s) (py8 r s) i (4 + j) = 0 := by
  intro i hi j hj
  unfold apart at h
  rw [Host.reduce_eq_fold, Shape.ReducesTo.fold_fiber_r3_a12] at h
  have hk := (fold_andi_iff (Finset.univ : Finset (Fin 4 × Fin 4)) _).mp h (⟨i, hi⟩, ⟨j, hj⟩) (Finset.mem_univ _)
  have gx := gap_at n ⟨i, hi⟩ ⟨j, hj⟩ (hp.cx ⟨i, hi⟩) (ht.cx ⟨j, hj⟩)
  have gy := gap_at n ⟨i, hi⟩ ⟨j, hj⟩ (hp.cy ⟨i, hi⟩) (ht.cy ⟨j, hj⟩)
  have g : gap2 p t (ix3 n ⟨i, hi⟩ ⟨j, hj⟩) = _ := addf_at (mulf_at gx gx) (mulf_at gy gy)
  have e : (r.cx i - s.cx j) * (r.cx i - s.cx j) + (r.cy i - s.cy j) * (r.cy i - s.cy j) = dist2 (px8 r s) (py8 r s) i (4 + j) := by
    have n4 : ¬ 4 + j < 4 := by omega
    unfold dist2 px8 py8
    rw [if_pos hi, if_pos hi, if_neg n4, if_neg n4, Nat.add_sub_cancel_left]; ring
  rw [← e]
  exact (ori_at (ogt_at g (y := broadcastInDim S131072x4x4 ![] bcast_S_S131072x4x4 (constant S_ .f32 0x2B8CBCCC#32)) e12_val)
    (oeq_at g (y := broadcastInDim S131072x4x4 ![] bcast_S_S131072x4x4 (constant S_ .f32 0x00000000#32)) zero_val)).mp hk

/-- Everything the precondition says of a pair of boxes. -/
structure Pair (p t : Boxes Ideal) (n : Fin 131072) (r s : RBox) : Prop where
  p : RowAt p n r
  t : RowAt t n s
  ps : Sized e6 e12 r
  ts : Sized e6 e12 s
  apart : ∀ i < 4, ∀ j < 4, e12 < dist2 (px8 r s) (py8 r s) i (4 + j) ∨ dist2 (px8 r s) (py8 r s) i (4 + j) = 0

theorem pair_of {p t : Boxes Ideal} (h : fn (F := Ideal) p t = fun _ => 1#1) (n : Fin 131072) : Pair p t n (rowOf p n) (rowOf t n) := by
  have hn := congrFun h (ix1 n)
  rw [fn_eq] at hn
  obtain ⟨⟨hp, ht⟩, ha⟩ := (andi_at (andi_at Iff.rfl Iff.rfl) Iff.rfl).mp hn
  exact ⟨(row_good hp).1, (row_good ht).1, (row_good hp).2, (row_good ht).2, apart_at (row_good hp).1 (row_good ht).1 ha⟩

end Cert.PreM

end
-- ==== Proof.Lane.Read1.lean ====
module

public import proofs.«01_k».proof.Proof.Lane.States
public import Mathlib.Tactic.IntervalCases

@[expose] public section

/-!
Side 0: the printed body's values after it are the step's.
-/

set_option maxRecDepth 65536

noncomputable section

namespace Cert.Lane

open Idealize.ShloMosaic Idealize.ShloMosaic.Tactic Cert.KernelIdeal Cert.KernelIdeal.Hand Cert.KernelIdeal.Gen

variable {F : FTy → Type} [FloatOps F]
variable (c : Dev nD) (arg1 : Memref sig .tc .vmem S6x32x128 .f32) (harg1 : arg1.IsWhole) (arg2 : Memref sig .tc .vmem S6x32x128 .f32) (harg2 : arg2.IsWhole) (x0 x1 : Vec F S6x32x128 .f32)

/-- The slots' values, one by one. -/
theorem read1 : (∀ k < 5, (kst1 c arg1 harg1 arg2 harg2 x0 x1).px k = (clip0 (boxT c arg2 harg2 x1) (start (boxP c arg1 harg1 x0))).next.px k) ∧
    (∀ k < 5, (kst1 c arg1 harg1 arg2 harg2 x0 x1).py k = (clip0 (boxT c arg2 harg2 x1) (start (boxP c arg1 harg1 x0))).next.py k) ∧
    (∀ k < 5, (kst1 c arg1 harg1 arg2 harg2 x0 x1).mv k = (clip0 (boxT c arg2 harg2 x1) (start (boxP c arg1 harg1 x0))).next.mv k) := by
  refine ⟨fun k h => ?_, fun k h => ?_, fun k h => ?_⟩ <;> interval_cases k <;> sl_kernel_rfl

theorem read1_m : (kst1 c arg1 harg1 arg2 harg2 x0 x1).m = (clip0 (boxT c arg2 harg2 x1) (start (boxP c arg1 harg1 x0))).next.m := by sl_kernel_rfl
theorem read1_fr : (kst1 c arg1 harg1 arg2 harg2 x0 x1).fr = (clip0 (boxT c arg2 harg2 x1) (start (boxP c arg1 harg1 x0))).next.fr := by sl_kernel_rfl

/-- After the side the printed body holds the step's state. -/
theorem agree1 : Agree 5 (kst1 c arg1 harg1 arg2 harg2 x0 x1) (clip0 (boxT c arg2 harg2 x1) (start (boxP c arg1 harg1 x0))).next :=
  ⟨(read1 c arg1 harg1 arg2 harg2 x0 x1).1, (read1 c arg1 harg1 arg2 harg2 x0 x1).2.1, (read1 c arg1 harg1 arg2 harg2 x0 x1).2.2, read1_m c arg1 harg1 arg2 harg2 x0 x1, read1_fr c arg1 harg1 arg2 harg2 x0 x1⟩

end Cert.Lane

end
-- ==== Proof.Lane.Read2.lean ====
module

public import proofs.«01_k».proof.Proof.Lane.States
public import Mathlib.Tactic.IntervalCases

@[expose] public section

/-!
Side 1: the printed body's values after it are the step's.
-/

set_option maxRecDepth 65536

noncomputable section

namespace Cert.Lane

open Idealize.ShloMosaic Idealize.ShloMosaic.Tactic Cert.KernelIdeal Cert.KernelIdeal.Hand Cert.KernelIdeal.Gen

variable {F : FTy → Type} [FloatOps F]
variable (c : Dev nD) (arg1 : Memref sig .tc .vmem S6x32x128 .f32) (harg1 : arg1.IsWhole) (arg2 : Memref sig .tc .vmem S6x32x128 .f32) (harg2 : arg2.IsWhole) (x0 x1 : Vec F S6x32x128 .f32)

/-- The slots' values, one by one. -/
theorem read2 : (∀ k < 6, (kst2 c arg1 harg1 arg2 harg2 x0 x1).px k = (clip (boxT c arg2 harg2 x1) 1 (kst1 c arg1 harg1 arg2 harg2 x0 x1)).next.px k) ∧
    (∀ k < 6, (kst2 c arg1 harg1 arg2 harg2 x0 x1).py k = (clip (boxT c arg2 harg2 x1) 1 (kst1 c arg1 harg1 arg2 harg2 x0 x1)).next.py k) ∧
    (∀ k < 6, (kst2 c arg1 harg1 arg2 harg2 x0 x1).mv k = (clip (boxT c arg2 harg2 x1) 1 (kst1 c arg1 harg1 arg2 harg2 x0 x1)).next.mv k) := by
  refine ⟨fun k h => ?_, fun k h => ?_, fun k h => ?_⟩ <;> interval_cases k <;> sl_kernel_rfl

theorem read2_m : (kst2 c arg1 harg1 arg2 harg2 x0 x1).m = (clip (boxT c arg2 harg2 x1) 1 (kst1 c arg1 harg1 arg2 harg2 x0 x1)).next.m := by sl_kernel_rfl
theorem read2_fr : (kst2 c arg1 harg1 arg2 harg2 x0 x1).fr = (clip (boxT c arg2 harg2 x1) 1 (kst1 c arg1 harg1 arg2 harg2 x0 x1)).next.fr := by sl_kernel_rfl

/-- After the side the printed body holds the step's state. -/
theorem agree2 : Agree 6 (kst2 c arg1 harg1 arg2 harg2 x0 x1) (clip (boxT c arg2 harg2 x1) 1 (kst1 c arg1 harg1 arg2 harg2 x0 x1)).next :=
  ⟨(read2 c arg1 harg1 arg2 harg2 x0 x1).1, (read2 c arg1 harg1 arg2 harg2 x0 x1).2.1, (read2 c arg1 harg1 arg2 harg2 x0 x1).2.2, read2_m c arg1 harg1 arg2 harg2 x0 x1, read2_fr c arg1 harg1 arg2 harg2 x0 x1⟩

end Cert.Lane

end
-- ==== Proof.Lane.Read3.lean ====
module

public import proofs.«01_k».proof.Proof.Lane.States
public import Mathlib.Tactic.IntervalCases

@[expose] public section

/-!
Side 2: the printed body's values after it are the step's.
-/

set_option maxRecDepth 65536

noncomputable section

namespace Cert.Lane

open Idealize.ShloMosaic Idealize.ShloMosaic.Tactic Cert.KernelIdeal Cert.KernelIdeal.Hand Cert.KernelIdeal.Gen

variable {F : FTy → Type} [FloatOps F]
variable (c : Dev nD) (arg1 : Memref sig .tc .vmem S6x32x128 .f32) (harg1 : arg1.IsWhole) (arg2 : Memref sig .tc .vmem S6x32x128 .f32) (harg2 : arg2.IsWhole) (x0 x1 : Vec F S6x32x128 .f32)

/-- The slots' values, one by one. -/
theorem read3 : (∀ k < 7, (kst3 c arg1 harg1 arg2 harg2 x0 x1).px k = (clip (boxT c arg2 harg2 x1) 2 (kst2 c arg1 harg1 arg2 harg2 x0 x1)).next.px k) ∧
    (∀ k < 7, (kst3 c arg1 harg1 arg2 harg2 x0 x1).py k = (clip (boxT c arg2 harg2 x1) 2 (kst2 c arg1 harg1 arg2 harg2 x0 x1)).next.py k) ∧
    (∀ k < 7, (kst3 c arg1 harg1 arg2 harg2 x0 x1).mv k = (clip (boxT c arg2 harg2 x1) 2 (kst2 c arg1 harg1 arg2 harg2 x0 x1)).next.mv k) := by
  refine ⟨fun k h => ?_, fun k h => ?_, fun k h => ?_⟩ <;> interval_cases k <;> sl_kernel_rfl

theorem read3_m : (kst3 c arg1 harg1 arg2 harg2 x0 x1).m = (clip (boxT c arg2 harg2 x1) 2 (kst2 c arg1 harg1 arg2 harg2 x0 x1)).next.m := by sl_kernel_rfl
theorem read3_fr : (kst3 c arg1 harg1 arg2 harg2 x0 x1).fr = (clip (boxT c arg2 harg2 x1) 2 (kst2 c arg1 harg1 arg2 harg2 x0 x1)).next.fr := by sl_kernel_rfl

/-- After the side the printed body holds the step's state. -/
theorem agree3 : Agree 7 (kst3 c arg1 harg1 arg2 harg2 x0 x1) (clip (boxT c arg2 harg2 x1) 2 (kst2 c arg1 harg1 arg2 harg2 x0 x1)).next :=
  ⟨(read3 c arg1 harg1 arg2 harg2 x0 x1).1, (read3 c arg1 harg1 arg2 harg2 x0 x1).2.1, (read3 c arg1 harg1 arg2 harg2 x0 x1).2.2, read3_m c arg1 harg1 arg2 harg2 x0 x1, read3_fr c arg1 harg1 arg2 harg2 x0 x1⟩

end Cert.Lane

end
-- ==== Proof.Lane.Read4.lean ====
module

public import proofs.«01_k».proof.Proof.Lane.States

@[expose] public section

/-!
The last side: the intersection's area, the union's and the quotient.
-/

set_option maxRecDepth 65536

noncomputable section

namespace Cert.Lane

open Idealize.ShloMosaic Idealize.ShloMosaic.Tactic Cert.KernelIdeal Cert.KernelIdeal.Hand Cert.KernelIdeal.Gen

variable {F : FTy → Type} [FloatOps F]
variable (c : Dev nD) (arg1 : Memref sig .tc .vmem S6x32x128 .f32) (harg1 : arg1.IsWhole) (arg2 : Memref sig .tc .vmem S6x32x128 .f32) (harg2 : arg2.IsWhole) (x0 x1 : Vec F S6x32x128 .f32)

/-- The union from the intersection. -/
def unionOf (p t : Box F) (i : V F) : V F := subf (addf (mulf p.w p.l) (mulf t.w t.l)) i

/-- The named union and quotient are those of the last step's area. -/
theorem read_union : bodyRun.sl.r_350 c arg1 harg1 arg2 harg2 x0 x1 = unionOf (boxP c arg1 harg1 x0) (boxT c arg2 harg2 x1) (clip (boxT c arg2 harg2 x1) 3 (kst3 c arg1 harg1 arg2 harg2 x0 x1)).area := by sl_kernel_rfl

/-- The quotient from the intersection. -/
def iouOf (p t : Box F) (i : V F) : V F := divf i (addf (unionOf p t i) (lit 0x24E69595#32))

theorem read_iou : bodyRun.sl.r_351 c arg1 harg1 arg2 harg2 x0 x1 = iouOf (boxP c arg1 harg1 x0) (boxT c arg2 harg2 x1) (clip (boxT c arg2 harg2 x1) 3 (kst3 c arg1 harg1 arg2 harg2 x0 x1)).area := by sl_kernel_rfl

/-- The loss from the union, the quotient and the hull. -/
def giouOf (u i h : V F) : V F := subf on (subf i (divf (subf h u) (addf h (lit 0x24E69595#32))))

/-- The hull's area as the printed body ends it. -/
def hullEnd (v1773 v1794 v2798 v2812 v2815 : V F) : V F :=
  mulf (lit (halfBits 0)) (absf (addf v2798 (select (cmpf .oge (minimumf v2812 (addf v2815 v1773)) eps) v1794 zr)))

/-- The row sums of the losses, added to what the row held, are the new row. -/
theorem pay1_eq (a : BitVec 32) (u i v1773 v1794 v2798 v2812 v2815 : V F) (acc : Vec F S1x128 .f32) :
    k0_pay1 a u i v1773 v1794 v2798 v2812 v2815 acc =
      Scalar.select (Scalar.cmpi .eq a 0#32)
        (shapeCast S1x128 (multiReduction .add [0] S128 (giouOf u i (hullEnd v1773 v1794 v2798 v2812 v2815)) 0x00000000#32
          reduces_S32x128_S128 (.inl rfl) rfl) shapeCasts_S128_S1x128)
        (addf acc (shapeCast S1x128 (multiReduction .add [0] S128 (giouOf u i (hullEnd v1773 v1794 v2798 v2812 v2815)) 0x00000000#32
          reduces_S32x128_S128 (.inl rfl) rfl) shapeCasts_S128_S1x128)) := by sl_kernel_rfl
-- ==== Proof.Lane.Read5.lean ====
module

public import proofs.«01_k».proof.Proof.Lane.Read4

@[expose] public section

/-!
The hull: the sum over the pairs of corners.
-/

set_option maxRecDepth 65536

noncomputable section

namespace Cert.Lane

open Idealize.ShloMosaic Idealize.ShloMosaic.Tactic Cert.KernelIdeal Cert.KernelIdeal.Hand Cert.KernelIdeal.Gen

variable {F : FTy → Type} [FloatOps F]
variable (c : Dev nD) (arg1 : Memref sig .tc .vmem S6x32x128 .f32) (harg1 : arg1.IsWhole) (arg2 : Memref sig .tc .vmem S6x32x128 .f32) (harg2 : arg2.IsWhole) (x0 x1 : Vec F S6x32x128 .f32)

/-- The hull's area from the printed body's named values. -/
theorem read_hull : hullEnd (bodyRun.sl.r_372 c arg1 harg1 arg2 harg2 x0 x1) (bodyRun.sl.r_379 c arg2 harg2 x1) (bodyRun.sl.r_434 c arg1 harg1 arg2 harg2 x0 x1) (bodyRun.sl.r_435 c arg1 harg1 arg2 harg2 x0 x1) (bodyRun.sl.r_436 c arg1 harg1 arg2 harg2 x0 x1)
    = hull (boxP c arg1 harg1 x0) (boxT c arg2 harg2 x1) := by sl_kernel_rfl

end Cert.Lane

end
-- ==== Proof.Val.Rows.lean ====
module

public import proofs.«01_k».proof.Proof.Val.Blocks
public import proofs.«01_k».proof.Proof.Pre.Rows
public import proofs.«01_k».proof.Proof.Lane.Read1
public import proofs.«01_k».proof.Proof.Lane.Read2
public import proofs.«01_k».proof.Proof.Lane.Read3
public import proofs.«01_k».proof.Proof.Lane.Read5
public import proofs.«01_k».proof.Proof.Lane.HullAt

@[expose] public section

/-!
At a row and a lane of a grid point the body computes what the reference computes for that pair of boxes.
-/

set_option maxRecDepth 16384

noncomputable section

namespace Cert.Val

open Idealize.ShloMosaic Idealize.ShloMosaic.TcCoe Idealize.ShloMosaic.Tactic
open Cert.KernelIdeal Cert.KernelIdeal.Gen Cert.KernelIdeal.Hand Cert.Lane Cert.Geo Cert.PreM

/-- The quotient and the loss at an index, in the body's operations and in the reference's. -/
theorem quot_at (x y : V Ideal) (q : B.Idx) : divf x (addf y (lit 0x24E69595#32)) q = Ideal.div (x q) ((y q : EReal) + Ideal.ofBits .f32 0x24E69595#32) := rfl
theorem hostQuot_at (x y : RefM.One Ideal) (n : Fin 131072) :
    Host.divf x (addf y (RefM.num1 0x24E69595#32)) (ix1 n) = Ideal.div (x (ix1 n)) ((y (ix1 n) : EReal) + Ideal.ofBits .f32 0x24E69595#32) := rfl
theorem giouOf_at (u i h : V Ideal) (q : B.Idx) : giouOf u i h q
    = (Ideal.ofBits .f32 0x3F800000#32 : EReal) - ((i q : EReal) - Ideal.div ((h q : EReal) - u q) ((h q : EReal) + Ideal.ofBits .f32 0x24E69595#32)) := rfl
theorem hostGiou_at (u i h : RefM.One Ideal) (n : Fin 131072) :
    subf (RefM.num1 0x3F800000#32) (subf i (Host.divf (subf h u) (addf h (RefM.num1 0x24E69595#32)))) (ix1 n)
    = (Ideal.ofBits .f32 0x3F800000#32 : EReal) - ((i (ix1 n) : EReal) - Ideal.div ((h (ix1 n) : EReal) - u (ix1 n)) ((h (ix1 n) : EReal) + Ideal.ofBits .f32 0x24E69595#32)) := rfl

variable (m : (ℓ : Loc nD τ sig) → Buf (Elt Ideal) ℓ) (c : Dev nD)

/-- The two arrays of boxes. -/
def argA : RefM.Boxes Ideal := m ((c : Thread nD τ).loc main_arg0)
def argB : RefM.Boxes Ideal := m ((c : Thread nD τ).loc main_arg1)

variable (t : Fin cfg0.N) (a : Fin 32) (l : Fin 128)

/-- The pair at a point's row and lane. -/
def pairAt : Fin 131072 := pairOf (rowAt t a) l

/-- The two boxes of the body at a point. -/
def bp : Box Ideal := boxP c (st0 t) (hst0 t) (iblk m c 0 t)
def bt : Box Ideal := boxT c (st1 t) (hst1 t) (iblk m c 1 t)

/-- The plane of an entry. -/
theorem first_at (k : ℕ) (hk : k < 6) (hi) (hn : S1x32x128.ShapeCasts S32x128) :
    shapeCast S32x128 (View.readAt (Elt Ideal) (st0 t).view (Rect.unit (s := S6x32x128) ![k, 0, 0] S1x32x128.size hi).toLoadRect ((hst0 t).unread (iblk m c 0 t))) hn (ix2 a l)
      = argA m c (ix2 (pairAt t a l) ⟨k, hk⟩) := (plane_at (st0 t) (hst0 t) _ a l k hk hi hn).trans (blk_0 m c t ⟨k, hk⟩ a l)
theorem second_at (k : ℕ) (hk : k < 6) (hi) (hn : S1x32x128.ShapeCasts S32x128) :
    shapeCast S32x128 (View.readAt (Elt Ideal) (st1 t).view (Rect.unit (s := S6x32x128) ![k, 0, 0] S1x32x128.size hi).toLoadRect ((hst1 t).unread (iblk m c 1 t))) hn (ix2 a l)
      = argB m c (ix2 (pairAt t a l) ⟨k, hk⟩) := (plane_at (st1 t) (hst1 t) _ a l k hk hi hn).trans (blk_1 m c t ⟨k, hk⟩ a l)

variable {r s : RBox}

theorem bp_at (h : RefM.RowAt (argA m c) (pairAt t a l) r) : BoxAt (bp m c t) (ix2 a l) r where
  x := (first_at m c t a l 0 (by norm_num) _ _).trans h.x
  y := (first_at m c t a l 1 (by norm_num) _ _).trans h.y
  w := (first_at m c t a l 2 (by norm_num) _ _).trans h.w
  l := (first_at m c t a l 3 (by norm_num) _ _).trans h.l
  im := (first_at m c t a l 4 (by norm_num) _ _).trans h.im
  re := (first_at m c t a l 5 (by norm_num) _ _).trans h.re
  dir := h.dir
theorem bt_at (h : RefM.RowAt (argB m c) (pairAt t a l) r) : BoxAt (bt m c t) (ix2 a l) r where
  x := (second_at m c t a l 0 (by norm_num) _ _).trans h.x
  y := (second_at m c t a l 1 (by norm_num) _ _).trans h.y
  w := (second_at m c t a l 2 (by norm_num) _ _).trans h.w
  l := (second_at m c t a l 3 (by norm_num) _ _).trans h.l
  im := (second_at m c t a l 4 (by norm_num) _ _).trans h.im
  re := (second_at m c t a l 5 (by norm_num) _ _).trans h.re
  dir := h.dir

/-- The area of the intersection at a point. -/
def area : V Ideal := (clip (bt m c t) 3 (kst3 c (st0 t) (hst0 t) (st1 t) (hst1 t) (iblk m c 0 t) (iblk m c 1 t))).area
/-- The named values of the body at a point. -/
def uni : V Ideal := bodyRun.sl.r_350 c (st0 t) (hst0 t) (st1 t) (hst1 t) (iblk m c 0 t) (iblk m c 1 t)
def quo : V Ideal := bodyRun.sl.r_351 c (st0 t) (hst0 t) (st1 t) (hst1 t) (iblk m c 0 t) (iblk m c 1 t)
def hul : V Ideal := Lane.hull (bp m c t) (bt m c t)

section
variable (h : Pair (argA m c) (argB m c) (pairAt t a l) r s)
include h

theorem area_at : area m c t (ix2 a l) = RefM.inter (argA m c) (argB m c) (ix1 (pairAt t a l)) :=
  (Lane.inter_at (bp_at m c t a l h.p) (bt_at m c t a l h.t) (agree1 c _ _ _ _ _ _) rfl (agree2 c _ _ _ _ _ _) rfl (agree3 c _ _ _ _ _ _) rfl).trans
    (RefM.inter_at h.p h.t).symm

theorem hul_at : hul m c t (ix2 a l) = RefM.hull (argA m c) (argB m c) (ix1 (pairAt t a l)) :=
  (Lane.hull_at (bp_at m c t a l h.p) (bt_at m c t a l h.t) h.ps h.ts h.apart).trans (RefM.hull_at h.p h.t).symm

theorem uni_at : uni m c t (ix2 a l) = RefM.union (argA m c) (argB m c) (ix1 (pairAt t a l)) := by
  have e : uni m c t = unionOf (bp m c t) (bt m c t) (area m c t) := read_union c _ _ _ _ _ _
  have hp := bp_at m c t a l h.p
  have ht := bt_at m c t a l h.t
  have hI := area_at m c t a l h
  rw [e]
  show ((bp m c t).w (ix2 a l) * (bp m c t).l (ix2 a l) + (bt m c t).w (ix2 a l) * (bt m c t).l (ix2 a l) : EReal) - area m c t (ix2 a l)
    = (RefM.Boxes.w (argA m c) (ix1 (pairAt t a l)) * RefM.Boxes.l (argA m c) (ix1 (pairAt t a l))
      + RefM.Boxes.w (argB m c) (ix1 (pairAt t a l)) * RefM.Boxes.l (argB m c) (ix1 (pairAt t a l)) : EReal) - RefM.inter (argA m c) (argB m c) (ix1 (pairAt t a l))
  rw [hI, hp.w, hp.l, ht.w, ht.l, h.p.wv, h.p.lv, h.t.wv, h.t.lv]

theorem quo_at : quo m c t (ix2 a l) = RefM.iou (argA m c) (argB m c) (ix1 (pairAt t a l)) := by
  have e : quo m c t = iouOf (bp m c t) (bt m c t) (area m c t) := read_iou c _ _ _ _ _ _
  have u : uni m c t = unionOf (bp m c t) (bt m c t) (area m c t) := read_union c _ _ _ _ _ _
  rw [e]
  unfold iouOf RefM.iou
  rw [← u, quot_at, hostQuot_at, area_at m c t a l h, uni_at m c t a l h]

theorem loss_at : giouOf (uni m c t) (quo m c t) (hul m c t) (ix2 a l) = RefM.giou (argA m c) (argB m c) (ix1 (pairAt t a l)) := by
  unfold RefM.giou
  rw [giouOf_at, hostGiou_at, quo_at m c t a l h, hul_at m c t a l h, uni_at m c t a l h]
end

end Cert.Val

end
-- ==== Proof.Val.Quot.lean ====
module

public import proofs.«01_k».proof.Proof.Val.Rows
public import Idealize.ShloMosaic.Lib.VecWindow

@[expose] public section

/-!
The array of quotients after the launch, and the result reshaped from it.
-/

set_option maxRecDepth 16384

noncomputable section

namespace Cert.Val

open Idealize.ShloMosaic Idealize.ShloMosaic.TcCoe Idealize.ShloMosaic.Tactic
open Cert.KernelIdeal Cert.KernelIdeal.Gen Cert.KernelIdeal.Hand Cert.Lane Cert.Geo Cert.PreM

variable (m : (ℓ : Loc nD τ sig) → Buf (Elt Ideal) ℓ) (c : Dev nD)

/-- What the body leaves in the block of quotients. -/
theorem quot_eq (t : Fin cfg0.N) (xs : Vec Ideal S1x128 .f32) : quot m c t xs = quo m c t := by
  unfold quot runAt
  dsimp only [bodyRun]
  unfold bodyRun.sl.H2_1
  exact View.read_writes_full VO2 VO2.junk _ _ []

/-- The array of quotients: the reference's, row by row and lane by lane. -/
def quotients : S1024x128.Idx → EReal := fun i => RefM.iou (argA m c) (argB m c) (ix1 (pairOf (i 0) (i 1)))

theorem quotients_at (r : Fin 1024) (l : Fin 128) : quotients m c (ix2 r l) = RefM.iou (argA m c) (argB m c) (ix1 (pairOf r l)) := rfl

theorem index_2 : ∀ t : Fin cfg0.N, win0_2.index t = ![(grid0.coords t 0).val, 0] := (by decide +kernel : ∀ t : Fin grid0.N, _)

theorem final_2 (hpre : Cert.Pre_proper_boxes.fn (F := Ideal) (argA m c) (argB m c) = fun _ => 1#1) :
    (dats m 0 c).arrAt 2 cfg0.N = quotients m c := by
  refine (dats m 0 c).arrAt_eq_of_covers 2 _ (by decide +kernel) fun t hf y => ?_
  blk_simp
  rw [after_2, quot_eq]
  obtain ⟨a, l, rfl⟩ : ∃ a l, y = ix2 a l := ⟨y 0, y 1, by funext d; fin_cases d <;> rfl⟩
  have e : (win0_2.blk t).view.emb (ix2 a l) = ix2 (rowAt t a) l := by blk_ext [index_2, coord_val, rowAt]
  have h := quo_at m c t a l (pair_of hpre (pairAt t a l))
  rw [e, quotients_at, h]
  rfl

/-- Read in one row they are the reference's result. -/
theorem quotients_flat : (shapeCast S131072 (quotients m c) shapeCasts_S1024x128_S131072 : S131072.Idx → EReal) = RefM.iou (argA m c) (argB m c) := by
  funext i
  obtain ⟨n, rfl⟩ : ∃ n, i = ix1 n := ⟨i 0, by funext d; fin_cases d; rfl⟩
  pointwise
  unfold quotients
  refine congrArg _ (congrArg ix1 (Fin.ext ?_))
  exact Nat.div_add_mod' n.val 128

end Cert.Val

end
-- ==== Proof.Val.Loss.lean ====
module

public import proofs.«01_k».proof.Proof.Val.Rows
public import proofs.«01_k».proof.Proof.Lane.Read4
public import proofs.«01_k».proof.Proof.Lane.Read5
public import Idealize.ShloMosaic.Lib.VecWindow

@[expose] public section

/-!
The loss: each grid point adds its block's losses, lane by lane, to the scratch row; the last one stores the row's total.
-/

set_option maxRecDepth 16384

noncomputable section

namespace Cert.Val

open Idealize.ShloMosaic Idealize.ShloMosaic.TcCoe Idealize.ShloMosaic.Tactic
open Cert.KernelIdeal Cert.KernelIdeal.Gen Cert.KernelIdeal.Hand Cert.Lane Cert.Geo Cert.PreM

/-- The sum of a block down its rows. -/
def rowSum (g : V Ideal) : FVec Ideal S1x128 .f32 :=
  shapeCast S1x128 (multiReduction .add [0] S128 g 0x00000000#32 reduces_S32x128_S128 (.inl rfl) rfl) shapeCasts_S128_S1x128

theorem rowSum_at (g : V Ideal) (l : Fin 128) : rowSum g (ix2 0 l) = ∑ a : Fin 32, (g (ix2 a l) : EReal) := by
  unfold rowSum
  pointwise

/-- The row after a point numbered `a` from the row before it. -/
def rowNext (a : BitVec 32) (g : V Ideal) (xs : FVec Ideal S1x128 .f32) : FVec Ideal S1x128 .f32 :=
  Scalar.select (Scalar.cmpi .eq a 0#32) (rowSum g) (addf xs (rowSum g))

theorem rowNext_zero (n : ℕ) (h : n = 0) (g : V Ideal) (xs : FVec Ideal S1x128 .f32) : rowNext (BitVec.ofNat 32 n) g xs = rowSum g := by
  subst h; rfl
theorem rowNext_pos (n : ℕ) (h : n ≠ 0) (h' : n < 32) (g : V Ideal) (xs : FVec Ideal S1x128 .f32) (l : Fin 128) :
    rowNext (BitVec.ofNat 32 n) g xs (ix2 0 l) = (xs (ix2 0 l) : EReal) + rowSum g (ix2 0 l) := by
  unfold rowNext
  rw [show Scalar.cmpi .eq (BitVec.ofNat 32 n) 0#32 = 0#1 by interval_cases n <;> first | exact absurd rfl h | rfl]
  rfl

/-- The total over the lanes of a row. -/
theorem pay3_at (a : BitVec 32) (u i v1773 v1794 v2798 v2812 v2815 : V Ideal) (acc : Vec Ideal S1x128 .f32) :
    k0_pay3 a u i v1773 v1794 v2798 v2812 v2815 acc (ix2 0 0) = ∑ l : Fin 128, (k0_pay1 a u i v1773 v1794 v2798 v2812 v2815 acc (ix2 0 l) : EReal) := by
  unfold k0_pay3
  generalize k0_pay1 a u i v1773 v1794 v2798 v2812 v2815 acc = x
  pointwise
  exact Fin.sum_univ_one _

variable (m : (ℓ : Loc nD τ sig) → Buf (Elt Ideal) ℓ) (c : Dev nD)

/-- The losses of the pairs at a point. -/
def los (t : Fin cfg0.N) : V Ideal := giouOf (uni m c t) (quo m c t) (hul m c t)

/-- The printed row. -/
theorem pay1_at (t : Fin cfg0.N) (a : BitVec 32) (acc : Vec Ideal S1x128 .f32) :
    k0_pay1 a (uni m c t) (quo m c t) (bodyRun.sl.r_372 c (st0 t) (hst0 t) (st1 t) (hst1 t) (iblk m c 0 t) (iblk m c 1 t))
      (bodyRun.sl.r_379 c (st1 t) (hst1 t) (iblk m c 1 t))
      (bodyRun.sl.r_434 c (st0 t) (hst0 t) (st1 t) (hst1 t) (iblk m c 0 t) (iblk m c 1 t))
      (bodyRun.sl.r_435 c (st0 t) (hst0 t) (st1 t) (hst1 t) (iblk m c 0 t) (iblk m c 1 t))
      (bodyRun.sl.r_436 c (st0 t) (hst0 t) (st1 t) (hst1 t) (iblk m c 0 t) (iblk m c 1 t)) acc
      = rowNext a (los m c t) acc := by
  rw [pay1_eq, read_hull]
  rfl

/-- The scratch row read back. -/
theorem read_row (xs : Vec Ideal S1x128 .f32) (h : scM.IsWhole) :
    View.readAt (Elt Ideal) scM.view (Rect.unit ![0, 0] ![1, 128] inb_S1x128_S1x128_0_0).toLoadRect (h.unread xs) = xs := by
  refine (View.readAt_full (v := scM.view) _ _).trans ?_
  exact h.read_unread xs

/-- The new row. -/
theorem scr_eq (t : Fin cfg0.N) (xs : Vec Ideal S1x128 .f32) : scr m c t xs = rowNext (BitVec.ofNat 32 t.val) (los m c t) xs := by
  have e0 : (grid0.coords t 0).val = t.val := coord_val t
  unfold scr runAt
  dsimp only [bodyRun]
  unfold bodyRun.sl.HS0_1
  refine (View.read_writes_full VS VS.junk _ _ []).trans ?_
  rw [read_row, e0]
  unfold k0_pay2
  refine (congrArg (fun x => shapeCast S1x128 x _) (pay1_at m c t _ xs)).trans ?_
  exact shapeCast_self _ _

/-- The stored total. -/
theorem total_eq (t : Fin cfg0.N) (xs : Vec Ideal S1x128 .f32) :
    total m c t xs (ix2 0 0) = ∑ l : Fin 128, (rowNext (BitVec.ofNat 32 t.val) (los m c t) xs (ix2 0 l) : EReal) := by
  have e0 : (grid0.coords t 0).val = t.val := coord_val t
  unfold total runAt
  dsimp only [bodyRun]
  refine (congrFun (View.read_writes_full VO3 VO3.junk _ _ []) _).trans ?_
  rw [read_row, e0]
  refine (pay3_at _ _ _ _ _ _ _ _ _).trans ?_
  exact Finset.sum_congr rfl fun l _ => congrFun (pay1_at m c t _ xs) _

end Cert.Val

end
-- ==== Proof.Val.Total.lean ====
module

public import proofs.«01_k».proof.Proof.Val.Loss

@[expose] public section

/-!
The stored total is the sum of the losses of all pairs.
-/

set_option maxRecDepth 16384

noncomputable section

namespace Cert.Val

open Idealize.ShloMosaic Idealize.ShloMosaic.TcCoe Idealize.ShloMosaic.Tactic
open Cert.KernelIdeal Cert.KernelIdeal.Gen Cert.KernelIdeal.Hand Cert.Lane Cert.Geo Cert.PreM

/-- A sum over the pairs, by lanes, points and rows of a block. -/
theorem sum_pairs {M : Type} [AddCommMonoid M] (f : Fin 131072 → M) :
    ∑ l : Fin 128, ∑ t : Fin cfg0.N, ∑ a : Fin 32, f (pairOf (rowAt t a) l) = ∑ n : Fin 131072, f n := by
  have h1 : ∑ r : Fin 1024, ∑ l : Fin 128, f (pairOf r l) = ∑ n : Fin 131072, f n := by
    rw [← Fintype.sum_prod_type']
    exact Fintype.sum_equiv (finProdFinEquiv (m := 1024) (n := 128)) _ f fun x => congrArg f (Fin.ext (by
      show x.1.val * 128 + x.2.val = x.2.val + 128 * x.1.val
      omega))
  have h2 : ∀ l, ∑ t : Fin cfg0.N, ∑ a : Fin 32, f (pairOf (rowAt t a) l) = ∑ r : Fin 1024, f (pairOf r l) := by
    intro l
    have e : ∑ t : Fin 32, ∑ a : Fin 32, f (pairOf (⟨32 * t.val + a.val, by omega⟩ : Fin 1024) l) = ∑ r : Fin 1024, f (pairOf r l) := by
      rw [← Fintype.sum_prod_type' (f := fun (t a : Fin 32) => f (pairOf (⟨32 * t.val + a.val, by omega⟩ : Fin 1024) l))]
      exact Fintype.sum_equiv (finProdFinEquiv (m := 32) (n := 32)) _ (fun r => f (pairOf r l)) fun x =>
        congrArg (fun r => f (pairOf r l)) (Fin.ext (by
          show 32 * x.1.val + x.2.val = x.2.val + 32 * x.1.val
          omega))
    exact e
  rw [Finset.sum_congr rfl fun l _ => h2 l, Finset.sum_comm, h1]

variable (m : (ℓ : Loc nD τ sig) → Buf (Elt Ideal) ℓ) (c : Dev nD)

/-- The losses of a point's block along a lane. -/
def lane (l : Fin 128) (k : ℕ) : EReal := if h : k < cfg0.N then rowSum (los m c ⟨k, h⟩) (ix2 0 l) else 0

/-- The row after a point holds, lane by lane, the losses of the points up to it. -/
theorem row_at (l : Fin 128) (n : ℕ) (hn : n < cfg0.N) :
    rowNext (BitVec.ofNat 32 n) (los m c ⟨n, hn⟩) (scrBefore m c n (Nat.le_of_lt hn)) (ix2 0 l) = ∑ k ∈ Finset.range (n + 1), lane m c l k := by
  induction n with
  | zero =>
    rw [rowNext_zero 0 rfl, zero_add, Finset.sum_range_one]
    unfold lane
    rw [dif_pos hn]
  | succ n ih =>
    have h32 : cfg0.N = 32 := N_0
    rw [rowNext_pos (n + 1) (Nat.succ_ne_zero n) (by omega), Finset.sum_range_succ, ← ih (by omega)]
    refine congrArg₂ (fun x y : EReal => x + y) ?_ ?_
    · exact congrFun (scr_eq m c ⟨n, by omega⟩ (scrBefore m c n (by omega))) (ix2 0 l)
    · unfold lane
      rw [dif_pos hn]

/-- The last point. -/
def tEnd : Fin cfg0.N := ⟨31, by have : cfg0.N = 32 := N_0; omega⟩

theorem total_end : total m c tEnd (scrBefore m c tEnd.val (Nat.le_of_lt tEnd.isLt)) (ix2 0 0)
    = ∑ l : Fin 128, ∑ t : Fin cfg0.N, ∑ a : Fin 32, (los m c t (ix2 a l) : EReal) := by
  rw [total_eq]
  refine Finset.sum_congr rfl fun l _ => ?_
  rw [show rowNext (BitVec.ofNat 32 tEnd.val) (los m c tEnd) (scrBefore m c tEnd.val (Nat.le_of_lt tEnd.isLt)) (ix2 0 l) = _ from row_at m c l 31 tEnd.isLt]
  rw [show (31 + 1 : ℕ) = cfg0.N from N_0.symm, ← Fin.sum_univ_eq_sum_range]
  refine Finset.sum_congr rfl fun t _ => ?_
  unfold lane
  rw [dif_pos t.isLt, rowSum_at]

/-- The reference's loss is the sum over the pairs. -/
theorem loss_sum (p t : RefM.Boxes Ideal) (i : S1.Idx) : RefM.loss p t i = ∑ n : Fin 131072, (RefM.giou p t (ix1 n) : EReal) := by
  obtain ⟨n, rfl⟩ : ∃ n, i = ix1 n := ⟨i 0, by funext d; fin_cases d; rfl⟩
  unfold RefM.loss
  generalize RefM.giou p t = g
  pointwise

theorem total_loss (hpre : Cert.Pre_proper_boxes.fn (F := Ideal) (argA m c) (argB m c) = fun _ => 1#1) (i : S1.Idx) :
    total m c tEnd (scrBefore m c tEnd.val (Nat.le_of_lt tEnd.isLt)) (ix2 0 0) = RefM.loss (argA m c) (argB m c) i := by
  rw [total_end, loss_sum, ← sum_pairs]
  refine Finset.sum_congr rfl fun l _ => Finset.sum_congr rfl fun t _ => Finset.sum_congr rfl fun a _ => ?_
  exact loss_at m c t a l (pair_of hpre (pairAt t a l))

theorem one_index (j : S1x1.Idx) : j = ix2 0 0 := by
  funext d; fin_cases d <;> exact Subsingleton.elim (α := Fin 1) _ _

/-- The array of the total after the launch. -/
theorem final_3 (hpre : Cert.Pre_proper_boxes.fn (F := Ideal) (argA m c) (argB m c) = fun _ => 1#1) :
    (dats m 0 c).arrAt 3 cfg0.N = fun _ : S1x1.Idx => RefM.loss (argA m c) (argB m c) (ix1 0) := by
  refine (dats m 0 c).arrAt_eq_of_after_last 3 tEnd (by decide +kernel) _ fun j => ?_
  obtain rfl := one_index j
  rw [after_3]
  exact total_loss m c hpre (ix1 0)

end Cert.Val

end
-- ==== Proof.Val.Run.lean ====
module

public import proofs.«01_k».proof.Proof.Val.Quot
public import proofs.«01_k».proof.Proof.Val.Total

@[expose] public section

/-!
What the kernel's run leaves in its two results.
-/

set_option maxRecDepth 16384

noncomputable section

namespace Cert.Val

open Idealize.ShloMosaic Idealize.ShloMosaic.TcCoe Idealize.ShloMosaic.Tactic Idealize.SL.Sem
open Cert.KernelIdeal Cert.KernelIdeal.Gen Cert.KernelIdeal.Hand Cert.Lane Cert.Geo Cert.PreM

variable (m : (ℓ : Loc nD τ sig) → Buf (Elt Ideal) ℓ) (ρ : Dev nD → PrngReg)

/-- The host lines after the launch reshape the two arrays. -/
theorem after_5 (W : Valuation τ sig (Elt Ideal)) : StableHlo.after ([hostOps1] : List (List (HloOp τ sig (Elt Ideal)))).flatten W (Proc.devRef .tc main_v5)
    = (shapeCast S131072 (W (Proc.devRef .tc main_v4_0) : S1024x128.Idx → EReal) shapeCasts_S1024x128_S131072 : S131072.Idx → EReal) := by
  rfl
theorem after_6 (W : Valuation τ sig (Elt Ideal)) : StableHlo.after ([hostOps1] : List (List (HloOp τ sig (Elt Ideal)))).flatten W (Proc.devRef .tc main_v6)
    = (shapeCast S1 (W (Proc.devRef .tc main_v4_1) : S1x1.Idx → EReal) shapeCasts_S1x1_S1 : S1.Idx → EReal) := by
  rfl

theorem arr_injective : Function.Injective (Pipeline.arrRef spec0) := by decide

theorem tail_5 (c : Dev nD) (hpre : Cert.Pre_proper_boxes.fn (F := Ideal) (argA m c) (argB m c) = fun _ => 1#1) :
    Pipeline.afterTail₀ cfgs (dats m) 0 (V0 m) [hostOps1] c main_v5 = RefM.iou (argA m c) (argB m c) := by
  unfold Pipeline.afterTail₀
  refine (after_5 _).trans ?_
  have h := (Pipeline.withArrays_arr (cfgs 0).spec arr_injective c (V0 m c) (fun w => (dats m 0 c).arrAt w (cfgs 0).N) 2).trans (final_2 m c hpre)
  exact (congrArg (fun x : S1024x128.Idx → EReal => shapeCast S131072 x shapeCasts_S1024x128_S131072) h).trans (quotients_flat m c)

theorem tail_6 (c : Dev nD) (hpre : Cert.Pre_proper_boxes.fn (F := Ideal) (argA m c) (argB m c) = fun _ => 1#1) :
    Pipeline.afterTail₀ cfgs (dats m) 0 (V0 m) [hostOps1] c main_v6 = RefM.loss (argA m c) (argB m c) := by
  unfold Pipeline.afterTail₀
  refine (after_6 _).trans ?_
  have h := (Pipeline.withArrays_arr (cfgs 0).spec arr_injective c (V0 m c) (fun w => (dats m 0 c).arrAt w (cfgs 0).N) 3).trans (final_3 m c hpre)
  refine (congrArg (fun x : S1x1.Idx → EReal => shapeCast S1 x shapeCasts_S1x1_S1) h).trans ?_
  funext i
  obtain rfl : i = ix1 0 := by funext d; fin_cases d; exact Subsingleton.elim (α := Fin 1) _ _
  rfl

/-- Every execution of the kernel ends with the reference's results. -/
theorem run (hpre : ∀ c, Cert.Pre_proper_boxes.fn (F := Ideal) (argA m c) (argB m c) = fun _ => 1#1) :
    θ_run (defs (F := Ideal)) (onTc (τ := τ) (main (F := Ideal))) ⟨m, fun _ => 0, ρ⟩ (fun r => ∀ c : Dev nD,
      r.2.mem ((c.tc : Thread nD τ).loc main_v5) = RefM.iou (argA m c) (argB m c)
      ∧ r.2.mem ((c.tc : Thread nD τ).loc main_v6) = RefM.loss (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v5 (Pipeline.mem_restRefs_of main_v5 (by decide) (by decide))).trans (tail_5 m c (hpre c)),
      ((h.1 c).2 main_v6 (Pipeline.mem_restRefs_of main_v6 (by decide) (by decide))).trans (tail_6 m c (hpre c)), h.2 c⟩)
    (θ_run_and (run_main m ρ) (unchanged m ρ))

end Cert.Val

end
-- ==== Proof.lean ====
module

public import proofs.«01_k».proof.Defs
public import proofs.«01_k».proof.Proof.K.Frame
public import proofs.«01_k».proof.Proof.KI.Frame
public import proofs.«01_k».proof.Proof.Ref.Frame
public import proofs.«01_k».proof.Proof.Ref.Run
public import proofs.«01_k».proof.Proof.Val.Run

@[expose] public section

noncomputable section

namespace Cert.Proof

open Idealize.ShloMosaic Idealize.SL.Sem

/-- The kernel and the reference end with the same results. -/
theorem equal : Cert.algebraic_KernelIdeal_ReferenceIdeal_pre_proper_boxes (hKernelIdeal := Cert.KernelIdeal.Gen.facts)
    (hReferenceIdeal := Cert.ReferenceIdeal.Gen.facts) (hPre_proper_boxes := Cert.PreM.facts) :=
  fun m g m' g' hpre hargs => ⟨fun c => Cert.RefM.iou (Cert.Val.argA m c) (Cert.Val.argB m c),
    fun c => Cert.RefM.loss (Cert.Val.argA m c) (Cert.Val.argB m c), Cert.Val.run m g hpre,
    Cert.RefM.run m' g' (Cert.Val.argA m) (Cert.Val.argB m) (fun c => (hargs c).1) (fun c => (hargs c).2)⟩

/-- Everything claimed. -/
theorem claim : Cert.Claim := ⟨Cert.Kernel.Gen.facts, Cert.KernelIdeal.Gen.facts, Cert.ReferenceIdeal.Gen.facts, Cert.PreM.facts,
  fun m ρ _ => Cert.Kernel.Hand.frame m ρ, fun m ρ _ => Cert.KernelIdeal.Hand.frame m ρ,
  fun m ρ _ => Cert.KernelIdeal.Hand.frame m ρ,
  fun m ρ _ => Cert.ReferenceIdeal.Hand.frame m ρ, fun m ρ _ => Cert.ReferenceIdeal.Hand.frame m ρ, trivial, equal⟩

end Cert.Proof

end
